-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Kernel.lean ====
abbrev S16384x1024 : Shape := ⟨2, ![16384, 1024]⟩
abbrev S1x1024 : Shape := ⟨2, ![1, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x1024, .bf16⟩
  | .hbm, ⟨3, _⟩ => ⟨S4x1024x1024, .bf16⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x1024 : Shape := ⟨2, ![16384, 1024]⟩
abbrev S1x1024 : Shape := ⟨2, ![1, 1024]⟩
abbrev S4x1024x1024 : Shape := ⟨3, ![4, 1024, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x4096x4 : Shape := ⟨3, ![4, 4096, 4]⟩
abbrev S4x4096x4x1 : Shape := ⟨4, ![4, 4096, 4, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x1024, .bf16⟩
  | .hbm, ⟨3, _⟩ => ⟨S4x1024x1024, .bf16⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1024x1024, .f32⟩
  | .hbm, ⟨22, _⟩ => ⟨S4x4096x1024, .f32⟩
  | .hbm, ⟨23, _⟩ => ⟨S4x4096x4x256, .f32⟩
  | .hbm, ⟨24, _⟩ => ⟨S_, .f32⟩
  | .hbm, ⟨25, _⟩ => ⟨S4x4096x4, .f32⟩
  | .hbm, ⟨26, _⟩ => ⟨S_, .f32⟩
  | .hbm, ⟨27, _⟩ => ⟨S4x4096x4, .f32⟩
  | .hbm, ⟨28, _⟩ => ⟨S4x4096x4, .f32⟩
  | .hbm, ⟨29, _⟩ => ⟨S4x4096x4x1, .f32⟩
  | .hbm, ⟨30, _⟩ => ⟨S4x4096x4x256, .f32⟩
  | .hbm, ⟨31, _⟩ => ⟨S4x4096x4x256, .f32⟩
  | .hbm, ⟨32, _⟩ => ⟨S4x4096x4x256, .f32⟩
  | .hbm, ⟨33, _⟩ => ⟨S_, .f32⟩
  | .hbm, ⟨34, _⟩ => ⟨S4x4096x4, .f32⟩
  | .hbm, ⟨35, _⟩ => ⟨S4x4096x4x1, .f32⟩
  | .hbm, ⟨36, _⟩ => ⟨S4x4096x4x256, .f32⟩
  | .hbm, ⟨37, _⟩ => ⟨S4x4096x4x256, .f32⟩
  | .hbm, ⟨38, _⟩ => ⟨S4x4096x1024, .f32⟩
  | .hbm, ⟨39, _⟩ => ⟨S4x1024x1024, .f32⟩
  | .hbm, ⟨40, _⟩ => ⟨S4x4096x1024, .f32⟩
  | .hbm, ⟨41, _⟩ => ⟨S4x4096x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel2.lean ====
abbrev S1024x1024 : Shape := ⟨2, ![1024, 1024]⟩
abbrev S1x1024 : Shape := ⟨2, ![1, 1024]⟩
abbrev S1024x2048 : Shape := ⟨2, ![1024, 2048]⟩
abbrev S4x1024x1024 : Shape := ⟨3, ![4, 1024, 1024]⟩
abbrev S1024x256 : Shape := ⟨2, ![1024, 256]⟩
abbrev S256x1024 : Shape := ⟨2, ![256, 1024]⟩
abbrev S4x1024x256 : Shape := ⟨3, ![4, 1024, 256]⟩
abbrev S4x256x1024 : Shape := ⟨3, ![4, 256, 1024]⟩
abbrev S1024 : Shape := ⟨1, ![1024]⟩
abbrev S1024x1 : Shape := ⟨2, ![1024, 1]⟩
abbrev S1x1024x256 : Shape := ⟨3, ![1, 1024, 256]⟩
abbrev S1x256x1024 : Shape := ⟨3, ![1, 256, 1024]⟩

abbrev nBuf : Space → Nat
  | .hbm => 7
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x2048, .f32⟩
  | .hbm, ⟨3, _⟩ => ⟨S1024x1024, .f32⟩
  | .hbm, ⟨4, _⟩ => ⟨S1024x1024, .f32⟩
  | .hbm, ⟨5, _⟩ => ⟨S4x1024x1024, .bf16⟩
  | .hbm, ⟨6, _⟩ => ⟨S4x1024x1024, .bf16⟩
  | .local _ .vmem, ⟨0, _⟩ => ⟨S1024x1024, .f32⟩
  | .local _ .vmem, ⟨1, _⟩ => ⟨S1x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x1024, .f32⟩
  | .local _ .vmem, ⟨9, _⟩ => ⟨S256x1024, .f32⟩
  | .local _ .vmem, ⟨10, _⟩ => ⟨S4x1024x256, .bf16⟩
  | .local _ .vmem, ⟨11, _⟩ => ⟨S4x1024x256, .bf16⟩
  | .local _ .vmem, ⟨12, _⟩ => ⟨S4x256x1024, .bf16⟩
  | .local _ .vmem, ⟨13, _⟩ => ⟨S4x256x1024, .bf16⟩
  | .local _ .vmem, ⟨14, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S4x256x4x256 : Shape := ⟨4, ![4, 256, 4, 256]⟩
abbrev S1024x4x256 : Shape := ⟨3, ![1024, 4, 256]⟩
abbrev S4x256x1024 : Shape := ⟨3, ![4, 256, 1024]⟩
abbrev S4x4x256x1024 : Shape := ⟨4, ![4, 4, 256, 1024]⟩
abbrev S4x1024x4x256 : Shape := ⟨4, ![4, 1024, 4, 256]⟩
abbrev S4x1024x1024 : Shape := ⟨3, ![4, 1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x2048, .f32⟩
  | .hbm, ⟨21, _⟩ => ⟨S1024x1024, .f32⟩
  | .hbm, ⟨22, _⟩ => ⟨S1024x1024, .f32⟩
  | .hbm, ⟨23, _⟩ => ⟨S4x256x4x256, .f32⟩
  | .hbm, ⟨24, _⟩ => ⟨S4x256x4x256, .f32⟩
  | .hbm, ⟨25, _⟩ => ⟨S1024x4x256, .f32⟩
  | .hbm, ⟨26, _⟩ => ⟨S4x256x1024, .f32⟩
  | .hbm, ⟨27, _⟩ => ⟨S4x4x256x1024, .f32⟩
  | .hbm, ⟨28, _⟩ => ⟨S4x1024x4x256, .f32⟩
  | .hbm, ⟨29, _⟩ => ⟨S_, .f32⟩
  | .hbm, ⟨30, _⟩ => ⟨S4x1024x4x256, .f32⟩
  | .hbm, ⟨31, _⟩ => ⟨S4x1024x4x256, .f32⟩
  | .hbm, ⟨32, _⟩ => ⟨S4x1024x4x256, .f32⟩
  | .hbm, ⟨33, _⟩ => ⟨S4x4x256x1024, .f32⟩
  | .hbm, ⟨34, _⟩ => ⟨S4x1024x1024, .f32⟩
  | .hbm, ⟨35, _⟩ => ⟨S4x1024x1024, .bf16⟩
  | .hbm, ⟨36, _⟩ => ⟨S4x1024x1024, .f32⟩
  | .hbm, ⟨37, _⟩ => ⟨S4x1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S22x1024x256 : Shape := ⟨3, ![22, 1024, 256]⟩
abbrev S4x2816x256 : Shape := ⟨3, ![4, 2816, 256]⟩
abbrev S512x2816 : Shape := ⟨2, ![512, 2816]⟩
abbrev S2x512x1024 : Shape := ⟨3, ![2, 512, 1024]⟩
abbrev S2x512x256 : Shape := ⟨3, ![2, 512, 256]⟩
abbrev S26 : Shape := ⟨1, ![26]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x2816x256 : Shape := ⟨3, ![1, 2816, 256]⟩
abbrev S2816x256 : Shape := ⟨2, ![2816, 256]⟩
abbrev S512 : Shape := ⟨1, ![512]⟩
abbrev S512x1 : Shape := ⟨2, ![512, 1]⟩
abbrev S512x256 : Shape := ⟨2, ![512, 256]⟩
abbrev S1x512x1024 : Shape := ⟨3, ![1, 512, 1024]⟩
abbrev S1x512x256 : Shape := ⟨3, ![1, 512, 256]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S22x1024x256, .f32⟩
  | .local _ .vmem, ⟨9, _⟩ => ⟨S4x2816x256, .f32⟩
  | .local _ .vmem, ⟨10, _⟩ => ⟨S512x2816, .bf16⟩
  | .local _ .vmem, ⟨11, _⟩ => ⟨S2x512x1024, .bf16⟩
  | .local _ .vmem, ⟨12, _⟩ => ⟨S2x512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_10 : BitVec 32 := 0#32
  let v21 : BitVec 1 := Scalar.cmpi .eq arg0 c0_i32_10
  let v22 : BitVec 32 := Scalar.extui v21
  let c0_i32_11 : BitVec 32 := 0#32
  let v23 : BitVec 1 := Scalar.cmpi .ne v22 c0_i32_11
  v23

def k0_off1 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v507 : Index := Scalar.indexCast v20
  let c0_399 : Index := 0#32
  let c0_400 : Index := 0#32
  ![v507.toNat, 0, 0]
def k0_off2 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v523 : Index := Scalar.indexCast v20
  let c0_409 : Index := 0#32
  let c0_410 : Index := 0#32
  ![v523.toNat, 0, 0]
def k0_cond2 (i : grid0.Coords) : BitVec 1 :=
  let arg0 : BitVec 32 := BitVec.ofNat 32 (i 0).val
  let c0_i32_10 : BitVec 32 := 0#32
  let v21 : BitVec 1 := Scalar.cmpi .eq arg0 c0_i32_10
  let v_true : BitVec 1 := 1#1
  let v24 : BitVec 1 := Scalar.xori v21 v_true
  let v25 : BitVec 32 := Scalar.extui v24
  let c0_i32_12 : BitVec 32 := 0#32
  let v26 : BitVec 1 := Scalar.cmpi .ne v25 c0_i32_12
  v26

def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : Index := Scalar.indexCast v9
  let c0 : Index := 0#32
  let c0_13 : Index := 0#32
  ![v27.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c0_14 : Index := 0#32
  let c0_15 : Index := 0#32
  ![v30.toNat, 0, 0]
def k0_off5 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v226 : Index := Scalar.indexCast v20
  let c0_121 : Index := 0#32
  let c0_122 : Index := 0#32
  ![v226.toNat, 0, 0]
def k0_off6 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v242 : Index := Scalar.indexCast v20
  let c0_130 : Index := 0#32
  let c0_131 : Index := 0#32
  ![v242.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S22x1024x256 : Shape := ⟨3, ![22, 1024, 256]⟩
abbrev S4x2816x256 : Shape := ⟨3, ![4, 2816, 256]⟩
abbrev S512x2816 : Shape := ⟨2, ![512, 2816]⟩
abbrev S2x512x1024 : Shape := ⟨3, ![2, 512, 1024]⟩
abbrev S2x512x256 : Shape := ⟨3, ![2, 512, 256]⟩
abbrev S26 : Shape := ⟨1, ![26]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x2816x256 : Shape := ⟨3, ![1, 2816, 256]⟩
abbrev S2816x256 : Shape := ⟨2, ![2816, 256]⟩
abbrev S512 : Shape := ⟨1, ![512]⟩
abbrev S512x1 : Shape := ⟨2, ![512, 1]⟩
abbrev S512x256 : Shape := ⟨2, ![512, 256]⟩
abbrev S1x512x1024 : Shape := ⟨3, ![1, 512, 1024]⟩
abbrev S1x512x256 : Shape := ⟨3, ![1, 512, 256]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S22x1024x256, .f32⟩
  | .local _ .vmem, ⟨9, _⟩ => ⟨S4x2816x256, .f32⟩
  | .local _ .vmem, ⟨10, _⟩ => ⟨S512x2816, .bf16⟩
  | .local _ .vmem, ⟨11, _⟩ => ⟨S2x512x1024, .bf16⟩
  | .local _ .vmem, ⟨12, _⟩ => ⟨S2x512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_10 : BitVec 32 := 0#32
  let v21 : BitVec 1 := Scalar.cmpi .eq arg0 c0_i32_10
  let v22 : BitVec 32 := Scalar.extui v21
  let c0_i32_11 : BitVec 32 := 0#32
  let v23 : BitVec 1 := Scalar.cmpi .ne v22 c0_i32_11
  v23

def k0_off1 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v507 : Index := Scalar.indexCast v20
  let c0_399 : Index := 0#32
  let c0_400 : Index := 0#32
  ![v507.toNat, 0, 0]
def k0_off2 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v523 : Index := Scalar.indexCast v20
  let c0_409 : Index := 0#32
  let c0_410 : Index := 0#32
  ![v523.toNat, 0, 0]
def k0_cond2 (i : grid0.Coords) : BitVec 1 :=
  let arg0 : BitVec 32 := BitVec.ofNat 32 (i 0).val
  let c0_i32_10 : BitVec 32 := 0#32
  let v21 : BitVec 1 := Scalar.cmpi .eq arg0 c0_i32_10
  let v_true : BitVec 1 := 1#1
  let v24 : BitVec 1 := Scalar.xori v21 v_true
  let v25 : BitVec 32 := Scalar.extui v24
  let c0_i32_12 : BitVec 32 := 0#32
  let v26 : BitVec 1 := Scalar.cmpi .ne v25 c0_i32_12
  v26

def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : Index := Scalar.indexCast v9
  let c0 : Index := 0#32
  let c0_13 : Index := 0#32
  ![v27.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c0_14 : Index := 0#32
  let c0_15 : Index := 0#32
  ![v30.toNat, 0, 0]
def k0_off5 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v226 : Index := Scalar.indexCast v20
  let c0_121 : Index := 0#32
  let c0_122 : Index := 0#32
  ![v226.toNat, 0, 0]
def k0_off6 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v242 : Index := Scalar.indexCast v20
  let c0_130 : Index := 0#32
  let c0_131 : Index := 0#32
  ![v242.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x4096 : Shape := ⟨2, ![4, 4096]⟩
abbrev S32x16 : Shape := ⟨2, ![32, 16]⟩
abbrev S1x1024 : Shape := ⟨2, ![1, 1024]⟩
abbrev S1x1024x6656 : Shape := ⟨3, ![1, 1024, 6656]⟩
abbrev S1x16 : Shape := ⟨2, ![1, 16]⟩
abbrev S1x3x1024 : Shape := ⟨3, ![1, 3, 1024]⟩
abbrev S1x1024x1024 : Shape := ⟨3, ![1, 1024, 1024]⟩
abbrev S16384x1024 : Shape := ⟨2, ![16384, 1024]⟩
abbrev S32x4x128 : Shape := ⟨3, ![32, 4, 128]⟩
abbrev S4x32x128 : Shape := ⟨3, ![4, 32, 128]⟩
abbrev S_ : Shape := ⟨0, ![]⟩
abbrev S4x1x128 : Shape := ⟨3, ![4, 1, 128]⟩
abbrev S4x31x128 : Shape := ⟨3, ![4, 31, 128]⟩
abbrev S4x32x256 : Shape := ⟨3, ![4, 32, 256]⟩
abbrev S32x4x256 : Shape := ⟨3, ![32, 4, 256]⟩
abbrev S16x32 : Shape := ⟨2, ![16, 32]⟩
abbrev S16 : Shape := ⟨1, ![16]⟩
abbrev S1024 : Shape := ⟨1, ![1024]⟩
abbrev S1024x6656 : Shape := ⟨2, ![1024, 6656]⟩
abbrev S3x1024 : Shape := ⟨2, ![3, 1024]⟩
abbrev S1024x1024 : Shape := ⟨2, ![1024, 1024]⟩
abbrev S512x1024 : Shape := ⟨2, ![512, 1024]⟩
abbrev S1x4x128 : Shape := ⟨3, ![1, 4, 128]⟩
abbrev S1x4x256 : Shape := ⟨3, ![1, 4, 256]⟩
abbrev S4x640x128 : Shape := ⟨3, ![4, 640, 128]⟩
abbrev S4x5x128x128 : Shape := ⟨4, ![4, 5, 128, 128]⟩
abbrev S520x1024 : Shape := ⟨2, ![520, 1024]⟩
abbrev S5x256x128 : Shape := ⟨3, ![5, 256, 128]⟩
abbrev S4x256x128 : Shape := ⟨3, ![4, 256, 128]⟩
abbrev S5x16x256x128 : Shape := ⟨4, ![5, 16, 256, 128]⟩
abbrev S16x128 : Shape := ⟨2, ![16, 128]⟩
abbrev S4x128x128 : Shape := ⟨3, ![4, 128, 128]⟩
abbrev S4x1x128x128 : Shape := ⟨4, ![4, 1, 128, 128]⟩
abbrev S8x1024 : Shape := ⟨2, ![8, 1024]⟩
abbrev S16x1 : Shape := ⟨2, ![16, 1]⟩
abbrev S1x1x128 : Shape := ⟨3, ![1, 1, 128]⟩
abbrev S1x128 : Shape := ⟨2, ![1, 128]⟩
abbrev S128x128 : Shape := ⟨2, ![128, 128]⟩
abbrev S256x128 : Shape := ⟨2, ![256, 128]⟩
abbrev S1x256x128 : Shape := ⟨3, ![1, 256, 128]⟩
abbrev S256x128x1 : Shape := ⟨3, ![256, 128, 1]⟩
abbrev S1x1x256x128 : Shape := ⟨4, ![1, 1, 256, 128]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S128x512 : Shape := ⟨2, ![128, 512]⟩
abbrev S64x512 : Shape := ⟨2, ![64, 512]⟩
abbrev S1x512x128 : Shape := ⟨3, ![1, 512, 128]⟩
abbrev S1x1x128x128 : Shape := ⟨4, ![1, 1, 128, 128]⟩
abbrev S256x256 : Shape := ⟨2, ![256, 256]⟩
abbrev S1x256 : Shape := ⟨2, ![1, 256]⟩
abbrev S128 : Shape := ⟨1, ![128]⟩
abbrev S128x256 : Shape := ⟨2, ![128, 256]⟩
abbrev S64x256 : Shape := ⟨2, ![64, 256]⟩

abbrev nBuf : Space → Nat
  | .hbm => 25
  | .vmem => 28
  | .smem => 1
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S32x16, .f32⟩
  | .hbm, ⟨3, _⟩ => ⟨S1x1024, .f32⟩
  | .hbm, ⟨4, _⟩ => ⟨S1x1024x6656, .f32⟩
  | .hbm, ⟨5, _⟩ => ⟨S1x16, .f32⟩
  | .hbm, ⟨6, _⟩ => ⟨S1x3x1024, .f32⟩
  | .hbm, ⟨7, _⟩ => ⟨S1x1024x1024, .f32⟩
  | .hbm, ⟨8, _⟩ => ⟨S16384x1024, .f32⟩
  | .hbm, ⟨9, _⟩ => ⟨S32x4x128, .i32⟩
  | .hbm, ⟨10, _⟩ => ⟨S4x32x128, .i32⟩
  | .hbm, ⟨11, _⟩ => ⟨S_, .i32⟩
  | .hbm, ⟨12, _⟩ => ⟨S4x1x128, .i32⟩
  | .hbm, ⟨13, _⟩ => ⟨S4x31x128, .i32⟩
  | .hbm, ⟨14, _⟩ => ⟨S4x32x128, .i32⟩
  | .hbm, ⟨15, _⟩ => ⟨S4x32x256, .i32⟩
  | .hbm, ⟨16, _⟩ => ⟨S32x4x256, .i32⟩
  | .hbm, ⟨17, _⟩ => ⟨S16x32, .f32⟩
  | .hbm, ⟨18, _⟩ => ⟨S16, .f32⟩
  | .hbm, ⟨19, _⟩ => ⟨S1024, .f32⟩
  | .hbm, ⟨20, _⟩ => ⟨S1x1024, .f32⟩
  | .hbm, ⟨21, _⟩ => ⟨S1024x6656, .f32⟩
  | .hbm, ⟨22, _⟩ => ⟨S3x1024, .f32⟩
  | .hbm, ⟨23, _⟩ => ⟨S1024x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x4x128, .i32⟩
  | .local _ .vmem, ⟨3, _⟩ => ⟨S1x4x128, .i32⟩
  | .local _ .vmem, ⟨4, _⟩ => ⟨S1x4x256, .i32⟩
  | .local _ .vmem, ⟨5, _⟩ => ⟨S1x4x256, .i32⟩
  | .local _ .vmem, ⟨6, _⟩ => ⟨S1x4x128, .i32⟩
  | .local _ .vmem, ⟨7, _⟩ => ⟨S1x4x128, .i32⟩
  | .local _ .vmem, ⟨8, _⟩ => ⟨S1x4x256, .i32⟩
  | .local _ .vmem, ⟨9, _⟩ => ⟨S1x4x256, .i32⟩
  | .local _ .vmem, ⟨10, _⟩ => ⟨S16x32, .f32⟩
  | .local _ .vmem, ⟨11, _⟩ => ⟨S1x1024, .f32⟩
  | .local _ .vmem, ⟨12, _⟩ => ⟨S1024x6656, .f32⟩
  | .local _ .vmem, ⟨13, _⟩ => ⟨S3x1024, .f32⟩
  | .local _ .vmem, ⟨14, _⟩ => ⟨S1024x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S4x640x128, .bf16⟩
  | .local _ .vmem, ⟨19, _⟩ => ⟨S4x640x128, .bf16⟩
  | .local _ .vmem, ⟨20, _⟩ => ⟨S4x5x128x128, .bf16⟩
  | .local _ .vmem, ⟨21, _⟩ => ⟨S4x5x128x128, .bf16⟩
  | .local _ .vmem, ⟨22, _⟩ => ⟨S520x1024, .f32⟩
  | .local _ .vmem, ⟨23, _⟩ => ⟨S512x1024, .bf16⟩
  | .local _ .vmem, ⟨24, _⟩ => ⟨S5x256x128, .i32⟩
  | .local _ .vmem, ⟨25, _⟩ => ⟨S4x256x128, .i32⟩
  | .local _ .vmem, ⟨26, _⟩ => ⟨S5x16x256x128, .f32⟩
  | .local _ .vmem, ⟨27, _⟩ => ⟨S16x128, .f32⟩
  | .local _ .smem, ⟨0, _⟩ => ⟨S16, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c0_i32_17 : BitVec 32 := 0#32
  let v30 : BitVec 1 := Scalar.cmpi .eq arg0 c0_i32_17
  let v31 : BitVec 32 := Scalar.extui v30
  let c0_i32_18 : BitVec 32 := 0#32
  let v32 : BitVec 1 := Scalar.cmpi .ne v31 c0_i32_18
  v32

def k0_off1 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2834 : Index := Scalar.indexCast v28
  let c0_1435 : Index := 0#32
  let c0_1436 : Index := 0#32
  ![v2834.toNat, 0, 0]
def k0_off2 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2855 : Index := Scalar.indexCast v28
  let c0_1444 : Index := 0#32
  let c0_1445 : Index := 0#32
  let c0_1446 : Index := 0#32
  ![v2855.toNat, 0, 0, 0]
def k0_off3 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2872 : Index := Scalar.indexCast v28
  let c1_1452 : Index := 1#32
  let c0_1453 : Index := 0#32
  let c0_1454 : Index := 0#32
  ![v2872.toNat, 1, 0, 0]
def k0_off4 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2889 : Index := Scalar.indexCast v28
  let c2_1460 : Index := 2#32
  let c0_1461 : Index := 0#32
  let c0_1462 : Index := 0#32
  ![v2889.toNat, 2, 0, 0]
def k0_off5 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2906 : Index := Scalar.indexCast v28
  let c3_1468 : Index := 3#32
  let c0_1469 : Index := 0#32
  let c0_1470 : Index := 0#32
  ![v2906.toNat, 3, 0, 0]
def k0_off6 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2923 : Index := Scalar.indexCast v28
  let c4_1476 : Index := 4#32
  let c0_1477 : Index := 0#32
  let c0_1478 : Index := 0#32
  ![v2923.toNat, 4, 0, 0]
def k0_off7 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2940 : Index := Scalar.indexCast v28
  let c5_1484 : Index := 5#32
  let c0_1485 : Index := 0#32
  let c0_1486 : Index := 0#32
  ![v2940.toNat, 5, 0, 0]
def k0_off8 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2957 : Index := Scalar.indexCast v28
  let c6_1492 : Index := 6#32
  let c0_1493 : Index := 0#32
  let c0_1494 : Index := 0#32
  ![v2957.toNat, 6, 0, 0]
def k0_off9 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2974 : Index := Scalar.indexCast v28
  let c7_1500 : Index := 7#32
  let c0_1501 : Index := 0#32
  let c0_1502 : Index := 0#32
  ![v2974.toNat, 7, 0, 0]
def k0_off10 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2991 : Index := Scalar.indexCast v28
  let c8_1508 : Index := 8#32
  let c0_1509 : Index := 0#32
  let c0_1510 : Index := 0#32
  ![v2991.toNat, 8, 0, 0]
def k0_off11 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v3008 : Index := Scalar.indexCast v28
  let c9_1516 : Index := 9#32
  let c0_1517 : Index := 0#32
  let c0_1518 : Index := 0#32
  ![v3008.toNat, 9, 0, 0]
def k0_off12 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v3025 : Index := Scalar.indexCast v28
  let c10_1524 : Index := 10#32
  let c0_1525 : Index := 0#32
  let c0_1526 : Index := 0#32
  ![v3025.toNat, 10, 0, 0]
def k0_off13 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v3042 : Index := Scalar.indexCast v28
  let c11_1532 : Index := 11#32
  let c0_1533 : Index := 0#32
  let c0_1534 : Index := 0#32
  ![v3042.toNat, 11, 0, 0]
def k0_off14 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v3059 : Index := Scalar.indexCast v28
  let c12_1540 : Index := 12#32
  let c0_1541 : Index := 0#32
  let c0_1542 : Index := 0#32
  ![v3059.toNat, 12, 0, 0]
def k0_off15 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v3076 : Index := Scalar.indexCast v28
  let c13_1548 : Index := 13#32
  let c0_1549 : Index := 0#32
  let c0_1550 : Index := 0#32
  ![v3076.toNat, 13, 0, 0]
def k0_off16 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v3093 : Index := Scalar.indexCast v28
  let c14_1556 : Index := 14#32
  let c0_1557 : Index := 0#32
  let c0_1558 : Index := 0#32
  ![v3093.toNat, 14, 0, 0]
def k0_off17 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v3110 : Index := Scalar.indexCast v28
  let c15_1564 : Index := 15#32
  let c0_1565 : Index := 0#32
  let c0_1566 : Index := 0#32
  ![v3110.toNat, 15, 0, 0]
def k0_off18 (i : grid0.Coords) : Fin 3 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v58 : Index := Scalar.indexCast v29
  let c0_30 : Index := 0#32
  let c0_31 : Index := 0#32
  ![v58.toNat, 0, 0]
def k0_off19 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v451 : Index := Scalar.indexCast v28
  let c0_297 : Index := 0#32
  let c0_298 : Index := 0#32
  let c0_299 : Index := 0#32
  ![v451.toNat, 0, 0, 0]
def k0_off20 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v473 : Index := Scalar.indexCast v28
  let c2_304 : Index := 2#32
  let c0_305 : Index := 0#32
  let c0_306 : Index := 0#32
  ![v473.toNat, 2, 0, 0]
def k0_off21 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v495 : Index := Scalar.indexCast v28
  let c1_311 : Index := 1#32
  let c0_312 : Index := 0#32
  let c0_313 : Index := 0#32
  ![v495.toNat, 1, 0, 0]
def k0_off22 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v517 : Index := Scalar.indexCast v28
  let c3_318 : Index := 3#32
  let c0_319 : Index := 0#32
  let c0_320 : Index := 0#32
  ![v517.toNat, 3, 0, 0]
def k0_off23 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v986 : Index := Scalar.indexCast v28
  let c4_563 : Index := 4#32
  let c0_564 : Index := 0#32
  let c0_565 : Index := 0#32
  ![v986.toNat, 4, 0, 0]
def k0_off24 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v1008 : Index := Scalar.indexCast v28
  let c6_570 : Index := 6#32
  let c0_571 : Index := 0#32
  let c0_572 : Index := 0#32
  ![v1008.toNat, 6, 0, 0]
def k0_off25 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v1030 : Index := Scalar.indexCast v28
  let c5 : Index := 5#32
  let c0_577 : Index := 0#32
  let c0_578 : Index := 0#32
  ![v1030.toNat, 5, 0, 0]
def k0_off26 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v1052 : Index := Scalar.indexCast v28
  let c7_583 : Index := 7#32
  let c0_584 : Index := 0#32
  let c0_585 : Index := 0#32
  ![v1052.toNat, 7, 0, 0]
def k0_off27 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v1521 : Index := Scalar.indexCast v28
  let c8_828 : Index := 8#32
  let c0_829 : Index := 0#32
  let c0_830 : Index := 0#32
  ![v1521.toNat, 8, 0, 0]
def k0_off28 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v1543 : Index := Scalar.indexCast v28
  let c10 : Index := 10#32
  let c0_835 : Index := 0#32
  let c0_836 : Index := 0#32
  ![v1543.toNat, 10, 0, 0]
def k0_off29 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v1565 : Index := Scalar.indexCast v28
  let c9 : Index := 9#32
  let c0_841 : Index := 0#32
  let c0_842 : Index := 0#32
  ![v1565.toNat, 9, 0, 0]
def k0_off30 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v1587 : Index := Scalar.indexCast v28
  let c11 : Index := 11#32
  let c0_847 : Index := 0#32
  let c0_848 : Index := 0#32
  ![v1587.toNat, 11, 0, 0]
def k0_off31 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2056 : Index := Scalar.indexCast v28
  let c12 : Index := 12#32
  let c0_1091 : Index := 0#32
  let c0_1092 : Index := 0#32
  ![v2056.toNat, 12, 0, 0]
def k0_off32 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2078 : Index := Scalar.indexCast v28
  let c14 : Index := 14#32
  let c0_1097 : Index := 0#32
  let c0_1098 : Index := 0#32
  ![v2078.toNat, 14, 0, 0]
def k0_off33 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2100 : Index := Scalar.indexCast v28
  let c13 : Index := 13#32
  let c0_1103 : Index := 0#32
  let c0_1104 : Index := 0#32
  ![v2100.toNat, 13, 0, 0]
def k0_off34 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c4_i32 : BitVec 32 := 4#32
  let c0_i32_14 : BitVec 32 := 0#32
  let v28 : BitVec 32 := Scalar.select v10 c4_i32 c0_i32_14
  let v2122 : Index := Scalar.indexCast v28
  let c15 : Index := 15#32
  let c0_1109 : Index := 0#32
  let c0_1110 : Index := 0#32
  ![v2122.toNat, 15, 0, 0]
def k0_off35 (i : grid0.Coords) : Fin 3 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2567 : Index := Scalar.indexCast v29
  let c0_1335 : Index := 0#32
  let c0_1336 : Index := 0#32
  ![v2567.toNat, 0, 0]
def k0_off36 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2588 : Index := Scalar.indexCast v29
  let c0_1344 : Index := 0#32
  let c0_1345 : Index := 0#32
  let c0_1346 : Index := 0#32
  ![v2588.toNat, 0, 0, 0]
def k0_off37 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2605 : Index := Scalar.indexCast v29
  let c1_1352 : Index := 1#32
  let c0_1353 : Index := 0#32
  let c0_1354 : Index := 0#32
  ![v2605.toNat, 1, 0, 0]
def k0_off38 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2622 : Index := Scalar.indexCast v29
  let c2_1360 : Index := 2#32
  let c0_1361 : Index := 0#32
  let c0_1362 : Index := 0#32
  ![v2622.toNat, 2, 0, 0]
def k0_off39 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2639 : Index := Scalar.indexCast v29
  let c3_1368 : Index := 3#32
  let c0_1369 : Index := 0#32
  let c0_1370 : Index := 0#32
  ![v2639.toNat, 3, 0, 0]
def k0_off40 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2656 : Index := Scalar.indexCast v29
  let c4_1376 : Index := 4#32
  let c0_1377 : Index := 0#32
  let c0_1378 : Index := 0#32
  ![v2656.toNat, 4, 0, 0]
def k0_off41 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2673 : Index := Scalar.indexCast v29
  let c5_1384 : Index := 5#32
  let c0_1385 : Index := 0#32
  let c0_1386 : Index := 0#32
  ![v2673.toNat, 5, 0, 0]
def k0_off42 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2690 : Index := Scalar.indexCast v29
  let c6_1392 : Index := 6#32
  let c0_1393 : Index := 0#32
  let c0_1394 : Index := 0#32
  ![v2690.toNat, 6, 0, 0]
def k0_off43 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2707 : Index := Scalar.indexCast v29
  let c7_1400 : Index := 7#32
  let c0_1401 : Index := 0#32
  let c0_1402 : Index := 0#32
  ![v2707.toNat, 7, 0, 0]
def k0_off44 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2724 : Index := Scalar.indexCast v29
  let c8_1408 : Index := 8#32
  let c0_1409 : Index := 0#32
  let c0_1410 : Index := 0#32
  ![v2724.toNat, 8, 0, 0]
def k0_off45 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2741 : Index := Scalar.indexCast v29
  let c9_1416 : Index := 9#32
  let c0_1417 : Index := 0#32
  let c0_1418 : Index := 0#32
  ![v2741.toNat, 9, 0, 0]
def k0_off46 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2758 : Index := Scalar.indexCast v29
  let c10_1424 : Index := 10#32
  let c0_1425 : Index := 0#32
  let c0_1426 : Index := 0#32
  ![v2758.toNat, 10, 0, 0]
def k0_off47 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2775 : Index := Scalar.indexCast v29
  let c11_1432 : Index := 11#32
  let c0_1433 : Index := 0#32
  let c0_1434 : Index := 0#32
  ![v2775.toNat, 11, 0, 0]
def k0_off48 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2792 : Index := Scalar.indexCast v29
  let c12_1440 : Index := 12#32
  let c0_1441 : Index := 0#32
  let c0_1442 : Index := 0#32
  ![v2792.toNat, 12, 0, 0]
def k0_off49 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2809 : Index := Scalar.indexCast v29
  let c13_1448 : Index := 13#32
  let c0_1449 : Index := 0#32
  let c0_1450 : Index := 0#32
  ![v2809.toNat, 13, 0, 0]
def k0_off50 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2826 : Index := Scalar.indexCast v29
  let c14_1456 : Index := 14#32
  let c0_1457 : Index := 0#32
  let c0_1458 : Index := 0#32
  ![v2826.toNat, 14, 0, 0]
def k0_off51 (i : grid0.Coords) : Fin 4 → Nat :=
  let arg0 : BitVec 32 := BitVec.ofNat 32 (i 0).val
  let c1_i32_4 : BitVec 32 := 1#32
  let v11 : BitVec 32 := Scalar.addi arg0 c1_i32_4
  let c8_i32_5 : BitVec 32 := 8#32
  let c0_i32_6 : BitVec 32 := 0#32
  let v12 : BitVec 1 := Scalar.cmpi .eq c8_i32_5 c0_i32_6
  let c1_i32_7 : BitVec 32 := 1#32
  let v13 : BitVec 32 := Scalar.select v12 c1_i32_7 c8_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c0_i32_11 : BitVec 32 := 0#32
  let v22 : BitVec 1 := Scalar.cmpi .eq v21 c0_i32_11
  let c4_i32_15 : BitVec 32 := 4#32
  let c0_i32_16 : BitVec 32 := 0#32
  let v29 : BitVec 32 := Scalar.select v22 c4_i32_15 c0_i32_16
  let v2843 : Index := Scalar.indexCast v29
  let c15_1464 : Index := 15#32
  let c0_1465 : Index := 0#32
  let c0_1466 : Index := 0#32
  ![v2843.toNat, 15, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x6656 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Proof.Rows.lean ====
/- One row of the layer over the extended reals: root-mean-square normalisation, a product with a matrix,
   and sums over an axis cut into equal parts. Every kernel and every reference is read to these. -/
module

public import Idealize.ShloMosaic.Lib.Pointwise
public import Idealize.ShloMosaic.Lib.ValueIdx

@[expose] public section

noncomputable section

namespace Cert.Rows

open Idealize.ShloMosaic

/-- The row length 1024 and the stabiliser, as the programs' literals are read. -/
abbrev width : EReal := Ideal.ofBits .f32 0x44800000#32
abbrev eps : EReal := Ideal.ofBits .f32 0x358637BD#32

/-- A row divided by its root mean square and scaled by the gain. -/
def rms (x g : Fin 1024 → EReal) (d : Fin 1024) : EReal :=
  x d * Ideal.rsqrt (Ideal.div (∑ k, x k * x k) width + eps) * g d

/-- A row times a matrix. -/
def rowMul {K N : ℕ} (x : Fin K → EReal) (w : Fin K → Fin N → EReal) (n : Fin N) : EReal :=
  ∑ k, x k * w k n

/-- A sum over `P * Q` positions, part by part. -/
theorem sum_parts {P Q N : ℕ} (hN : P * Q = N) (f : Fin N → EReal) :
    ∑ n, f n = ∑ p : Fin P, ∑ q : Fin Q,
      f ⟨Q * p + q, by subst hN; calc Q * (p : ℕ) + q < Q * p + Q := by omega
                            _ = Q * (p + 1) := by ring
                            _ ≤ Q * P := Nat.mul_le_mul_left _ p.2
                            _ = P * Q := Nat.mul_comm ..⟩ := by
  subst hN
  rw [← Fintype.sum_prod_type' (f := fun (p : Fin P) (q : Fin Q) => f ⟨Q * p + q, _⟩)]
  refine (Fintype.sum_equiv finProdFinEquiv _ _ fun x => ?_).symm
  congr 1
  ext
  simp [finProdFinEquiv]
  ring

end Cert.Rows

end
-- ==== Proof.Xattn.lean ====
/- The cross-attention call, read element by element over the extended reals: its logits, the softmax of each of the four
   heads' 256 memories, and the weighted sum over the absorbed values; then the reference's stages, read to the same. -/
module

public import proofs.«01_k».proof.Proof.Gen.KernelIdeal.Value
public import proofs.«01_k».proof.Proof.Gen.ReferenceIdeal.Read
public import proofs.«01_k».proof.Proof.Rows

@[expose] public section
set_option maxRecDepth 16384
noncomputable section
namespace Cert.Xattn
open Idealize.ShloMosaic Cert.Rows

section
open Cert.KernelIdeal Cert.KernelIdeal.Gen
/-- A row's attention logits against the absorbed keys. -/
def logits (x g : Fin 1024 → EReal) (qk : Fin 1024 → Fin 1024 → EReal) : Fin 1024 → EReal := rowMul (rms x g) qk

/-- The logits of one head: 256 neighbours of the row. -/
def seg (l : Fin 1024 → EReal) (h : Fin 4) (n : Fin 256) : EReal := l ⟨256 * h + n, by omega⟩

/-- The largest logit, as both programs fold it. -/
def top (l : Fin 256 → EReal) : EReal := Finset.fold max (Ideal.ofBits .f32 0xFF800000#32) l Finset.univ
/-- The softmax of one head, its exponent taken after subtracting the largest logit. -/
def soft (l : Fin 256 → EReal) (n : Fin 256) : EReal :=
  Ideal.div (Ideal.exp (l n - top l)) (∑ k, Ideal.exp (l k - top l))
/-- One element of the result: the residual and the weighted values of the four heads. -/
def out (l x : Fin 1024 → EReal) (vo : Fin 1024 → Fin 1024 → EReal) (c : Fin 1024) : EReal :=
  x c + ∑ h : Fin 4, ∑ n : Fin 256, soft (seg l h) n * vo ⟨256 * h + n, by omega⟩ c

/-- The kernel's first product is the logits of its rows. -/
theorem logits_apply (x : Vec Ideal S256x1024 .f32) (g : Vec Ideal S1x1024 .f32) (qk : Vec Ideal S1x1024x1024 .bf16) (a : Fin 256) (n : Fin 1024) :
   k0_pay2 x g qk (ix2 a n) = logits (fun d => x (ix2 a d)) (fun d => g (ix2 0 d)) (fun d n => qk (ix3 0 d n)) n := by
  pointwise [k0_pay2]
  rfl

/-- The kernel's four softmaxes, laid side by side, are each head's softmax. -/
theorem probs_apply (l : FVec Ideal S256x1024 .f32) (a : Fin 256) (h : Fin 4) (n : Fin 256) :
    k0_pay4 l (ix2 a ⟨256 * h + n, by omega⟩) = soft (seg (fun n => l (ix2 a n)) h) n := by
  obtain ⟨h, hh⟩ := h
  interval_cases h
  all_goals
    pointwise [k0_pay4]
    unfold soft seg top
  · simp
  · simp
  · rw [dif_neg (by omega), dif_neg (by omega), dif_pos (by omega)]
    simp [show 512 + (512 + (n : ℕ) - 256 - 256) = 512 + n by omega]
  · rw [dif_neg (by omega), dif_neg (by omega), dif_neg (by omega)]
    simp [show 768 + (768 + (n : ℕ) - 256 - 256 - 256) = 768 + n by omega]

/-- What the kernel stores for a strip of 256 rows. -/
theorem cell_apply (x : Vec Ideal S256x1024 .f32) (l : FVec Ideal S256x1024 .f32) (vo : Vec Ideal S1x1024x1024 .bf16) (a : Fin 256) (c : Fin 1024) :
   k0_pay6 x (k0_pay4 l) (k0_pay5 vo) (ix2 a c) = out (fun n => l (ix2 a n)) (fun d => x (ix2 a d)) (fun n d => vo (ix3 0 n d)) c := by
  pointwise [k0_pay6, k0_pay5]
  rw [sum_parts (P := 4) (Q := 256) rfl]
  simp only [probs_apply]
  rfl
end
section
open Cert.ReferenceIdeal Cert.ReferenceIdeal.Gen  Cert.ReferenceIdeal.Read
variable (x0 : (⟨S16384x1024, .f32⟩ : BufTy).Contents (Elt Ideal)) (x1 : (⟨S1x1024, .f32⟩ : BufTy).Contents (Elt Ideal)) (x2 x3 : (⟨S4x1024x1024, .bf16⟩ : BufTy).Contents (Elt Ideal))

/-- The reference's logits. -/
theorem ref_logits (b : Fin 4) (s : Fin 4096) (n : Fin 1024) :
    val_main_v15 (F := Ideal) x0 x1 x2 (ix3 b s n) = logits (fun d => x0 (ix2 ⟨b * 4096 + s, by omega⟩ d)) (fun d => x1 (ix2 0 d)) (fun d n => x2 (ix3 b d n)) n := by
  pointwise [val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

/-- The reference splits the last axis into heads: position `256 h + n` is memory `n` of head `h`. -/
theorem ref_head (b : Fin 4) (s : Fin 4096) (h : Fin 4) (n : Fin 256) :
    val_main_v16 (F := Ideal) x0 x1 x2 (ix4 b s h n) = seg (fun n => val_main_v15 (F := Ideal) x0 x1 x2 (ix3 b s n)) h n := by
  unfold val_main_v16 seg
  generalize val_main_v15 (F := Ideal) x0 x1 x2 = y
  pointwise
  simp only [Nat.mul_comm]

/-- The reference's largest logit: its clamp from below by the same start value changes nothing. -/
theorem ref_top (b : Fin 4) (s : Fin 4096) (h : Fin 4) :
    val_main_v19 (F := Ideal) x0 x1 x2 (ix3 b s h) = top (seg (fun n => val_main_v15 (F := Ideal) x0 x1 x2 (ix3 b s n)) h) := by
  have h17 : val_main_v17 (F := Ideal) x0 x1 x2 (ix3 b s h) = top (seg (fun n => val_main_v15 (F := Ideal) x0 x1 x2 (ix3 b s n)) h) := by
    have hs : seg (fun n => val_main_v15 (F := Ideal) x0 x1 x2 (ix3 b s n)) h = fun n => val_main_v16 (F := Ideal) x0 x1 x2 (ix4 b s h n) :=
      funext fun n => (ref_head x0 x1 x2 b s h n).symm
    rw [hs]
    unfold val_main_v17 top
    generalize val_main_v16 (F := Ideal) x0 x1 x2 = y
    pointwise [val_main_cst_2]
  rw [val_main_v19_apply, h17, val_main_v18_apply, val_main_cst_3_apply]
  exact max_eq_right ((Finset.le_fold_max _).2 (Or.inl le_rfl))

/-- The reference's exponentials. -/
theorem ref_exp (b : Fin 4) (s : Fin 4096) (h : Fin 4) (n : Fin 256) :
    val_main_v23 (F := Ideal) x0 x1 x2 (ix4 b s h n)
      = Ideal.exp (seg (fun n => val_main_v15 (F := Ideal) x0 x1 x2 (ix3 b s n)) h n
          - top (seg (fun n => val_main_v15 (F := Ideal) x0 x1 x2 (ix3 b s n)) h)) := by
  rw [← ref_head, ← ref_top]
  unfold val_main_v23 val_main_v22 val_main_v21 val_main_v20
  generalize val_main_v16 (F := Ideal) x0 x1 x2 = y
  generalize val_main_v19 (F := Ideal) x0 x1 x2 = z
  pointwise

/-- The reference's softmax. -/
theorem ref_soft (b : Fin 4) (s : Fin 4096) (h : Fin 4) (n : Fin 256) :
    val_main_v27 (F := Ideal) x0 x1 x2 (ix4 b s h n) = soft (seg (fun n => val_main_v15 (F := Ideal) x0 x1 x2 (ix3 b s n)) h) n := by
  unfold soft
  simp only [← ref_exp]
  unfold val_main_v27 val_main_v26 val_main_v25 val_main_v24
  generalize val_main_v23 (F := Ideal) x0 x1 x2 = y
  pointwise [val_main_cst_4]

/-- The weights laid out as one axis again. -/
theorem ref_weights (b : Fin 4) (s : Fin 4096) (h : Fin 4) (n : Fin 256) :
    val_main_v28 (F := Ideal) x0 x1 x2 (ix3 b s ⟨256 * h + n, by omega⟩) = val_main_v27 (F := Ideal) x0 x1 x2 (ix4 b s h n) := by
  rw [val_main_v28_apply]
  congr 1
  funext k
  fin_cases k <;> ext <;> simp [idx_main_v28] <;> omega

/-- The reference's result, before its last reshape. -/
theorem ref_sum (b : Fin 4) (s : Fin 4096) (c : Fin 1024) :
    val_main_v31 (F := Ideal) x0 x1 x2 x3 (ix3 b s c)
      = out (logits (fun d => x0 (ix2 ⟨b * 4096 + s, by omega⟩ d)) (fun d => x1 (ix2 0 d)) (fun d n => x2 (ix3 b d n)))
        (fun d => x0 (ix2 ⟨b * 4096 + s, by omega⟩ d)) (fun n d => x3 (ix3 b n d)) c := by
  pointwise [val_main_v31, val_main_v30, val_main_v29, val_main_v0]
  rw [sum_parts (P := 4) (Q := 256) rfl]
  simp only [ref_weights, ref_soft, ref_logits]
  rfl
end
end Cert.Xattn
end
-- ==== Proof.XattnValue.lean ====
/- The cross-attention call as a whole: each grid point writes its tile of 1024 rows, the tiles cover the result, and the
   array they leave is the reference's. -/
module

public import proofs.«01_k».proof.Proof.Xattn
public import proofs.«01_k».proof.Proof.Gen.ReferenceIdeal.Run
public import proofs.«01_k».proof.Defs

@[expose] public section
set_option maxRecDepth 16384
noncomputable section
namespace Cert.Xattn
open Idealize.ShloMosaic Idealize.ShloMosaic.TcCoe Idealize.SL.Sem Cert.Rows
open Cert.KernelIdeal Cert.KernelIdeal.Gen

/-- One row of the result from the whole arrays. -/
def result (x : Vec Ideal S16384x1024 .f32) (g : Vec Ideal S1x1024 .f32) (qk vo : Vec Ideal S4x1024x1024 .bf16) (r : Fin 16384) (c : Fin 1024) : EReal :=
  out (logits (fun d => x (ix2 r d)) (fun d => g (ix2 0 d)) (fun d n => qk (ix3 ⟨r / 4096, by omega⟩ d n)))
    (fun d => x (ix2 r d)) (fun n d => vo (ix3 ⟨r / 4096, by omega⟩ n d)) c

/-- The tile one grid point writes, from its blocks. -/
def tile (x : Vec Ideal S1024x1024 .f32) (g : Vec Ideal S1x1024 .f32) (qk vo : Vec Ideal S1x1024x1024 .bf16) : Vec Ideal S1024x1024 .f32 := fun y =>
  out (logits (fun d => x (ix2 (y 0) d)) (fun d => g (ix2 0 d)) (fun d n => qk (ix3 0 d n)))
    (fun d => x (ix2 (y 0) d)) (fun n d => vo (ix3 0 n d)) (y 1)

/-- A strip of 256 rows, whichever of the four it is, is the tile's function there. -/
theorem strip (x : Vec Ideal S1024x1024 .f32) (g : Vec Ideal S1x1024 .f32) (qk vo : Vec Ideal S1x1024x1024 .bf16)
    (off : ℕ) (inb : ∀ a, (![off, 0] : Fin 2 → ℕ) a + S256x1024.size a ≤ S1024x1024.size a) (z : S256x1024.Idx) :
    k0_pay6 (View.ld x (Rect.unit (s := S1024x1024) ![off, 0] S256x1024.size inb))
      (k0_pay4 (k0_pay2 (View.ld x (Rect.unit (s := S1024x1024) ![off, 0] S256x1024.size inb)) (View.ld g r0_1) (View.ld qk r0_2)))
      (k0_pay5 (View.ld vo r0_2)) z
    = tile x g qk vo ((Rect.unit (s := S1024x1024) ![off, 0] S256x1024.size inb).emb z) := by
  obtain ⟨a, d, rfl⟩ : ∃ (a : Fin 256) (d : Fin 1024), z = ix2 a d := ⟨z 0, z 1, by funext k; fin_cases k <;> rfl⟩
  rw [cell_apply]
  simp only [logits_apply]
  have hg : View.ld g r0_1 = g := View.ld_unit_zero (S := S1x1024) (funext fun k => by fin_cases k <;> rfl) _ g
  have hq : View.ld qk r0_2 = qk := View.ld_unit_zero (S := S1x1024x1024) (funext fun k => by fin_cases k <;> rfl) _ qk
  have hv : View.ld vo r0_2 = vo := View.ld_unit_zero (S := S1x1024x1024) (funext fun k => by fin_cases k <;> rfl) _ vo
  have hx (n : Fin 1024) : View.ld x (Rect.unit (s := S1024x1024) ![off, 0] S256x1024.size inb) (ix2 a n)
      = x (ix2 ((Rect.unit (s := S1024x1024) ![off, 0] S256x1024.size inb).emb (ix2 a d) 0) n) := by
    refine congrArg x ?_
    funext k
    fin_cases k
    · rfl
    · ext
      show 0 + 1 * n.val = n
      omega
  have hd : d = (Rect.unit (s := S1024x1024) ![off, 0] S256x1024.size inb).emb (ix2 a d) 1 := by
    ext
    show d.val = 0 + 1 * d.val
    omega
  unfold tile
  rw [hg, hq, hv, ← hd]
  simp only [hx]

/-- The four strips together are the tile. -/
theorem out_tile (x : Vec Ideal S1024x1024 .f32) (g : Vec Ideal S1x1024 .f32) (qk vo : Vec Ideal S1x1024x1024 .bf16) :
    out0_4 x g qk vo = tile x g qk vo := by
  funext y
  refine View.canon_apply_of_pieces (tile x g qk vo) _ ?_ y (cover0_4 _ _ _ _ y)
  intro p hp
  simp only [List.mem_cons, List.not_mem_nil, or_false] at hp
  rcases hp with rfl | rfl | rfl | rfl
  · exact strip x g qk vo 768 _
  · exact strip x g qk vo 512 _
  · exact strip x g qk vo 256 _
  · exact strip x g qk vo 0 _

/-- Which block each window is at, at every grid point. -/
theorem point0 : ∀ t : Fin grid0.N, win0_0.index t 0 = t.val ∧ win0_0.index t 1 = 0 := by decide +kernel
theorem point1 : ∀ t : Fin grid0.N, win0_1.index t 0 = 0 ∧ win0_1.index t 1 = 0 := by decide +kernel
theorem point2 : ∀ t : Fin grid0.N, win0_2.index t 0 = t.val / 4 ∧ win0_2.index t 1 = 0 ∧ win0_2.index t 2 = 0 := by decide +kernel
theorem point3 : ∀ t : Fin grid0.N, win0_3.index t 0 = t.val / 4 ∧ win0_3.index t 1 = 0 ∧ win0_3.index t 2 = 0 := by decide +kernel
theorem point4 : ∀ t : Fin grid0.N, win0_4.index t 0 = t.val ∧ win0_4.index t 1 = 0 := by decide +kernel

variable (m : (ℓ : Loc nD τ sig) → Buf (Elt Ideal) ℓ)

/-- The row tile, read off the argument. -/
theorem block0 (c : Dev nD) (t : Fin cfg0.N) (a d : Fin 1024) :
    iblk m c 0 t (ix2 a d) = m ((c : Thread nD τ).loc main_arg0) (ix2 (⟨1024 * t.val + a, by have := t.isLt; have : cfg0.N = 16 := N_0; omega⟩ : Fin 16384) d) := by
  refine (congrFun (V_main_arg0 m c) _).trans ?_
  congr 1
  funext k
  have h := point0 t
  fin_cases k
  · ext
    show win0_0.index t 0 * 1024 + 1 * a.val = 1024 * t.val + a
    rw [h.1]; ring
  · ext
    show win0_0.index t 1 * 1024 + 1 * d.val = d
    rw [h.2]; ring

/-- The batch's absorbed keys and values, read off the arguments. -/
theorem block2 (c : Dev nD) (t : Fin cfg0.N) (a d : Fin 1024) :
    iblk m c 2 t (ix3 0 a d) = m ((c : Thread nD τ).loc main_arg2) (ix3 (⟨t.val / 4, by have := t.isLt; have : cfg0.N = 16 := N_0; omega⟩ : Fin 4) a d) := by
  refine (congrFun (V_main_arg2 m c) _).trans ?_
  congr 1
  funext k
  have h := point2 t
  fin_cases k
  · ext
    show win0_2.index t 0 * 1 + 1 * 0 = t.val / 4
    rw [h.1]; ring
  · ext
    show win0_2.index t 1 * 1024 + 1 * a.val = a
    rw [h.2.1]; ring
  · ext
    show win0_2.index t 2 * 1024 + 1 * d.val = d
    rw [h.2.2]; ring

theorem block3 (c : Dev nD) (t : Fin cfg0.N) (a d : Fin 1024) :
    iblk m c 3 t (ix3 0 a d) = m ((c : Thread nD τ).loc main_arg3) (ix3 (⟨t.val / 4, by have := t.isLt; have : cfg0.N = 16 := N_0; omega⟩ : Fin 4) a d) := by
  refine (congrFun (V_main_arg3 m c) _).trans ?_
  congr 1
  funext k
  have h := point3 t
  fin_cases k
  · ext
    show win0_3.index t 0 * 1 + 1 * 0 = t.val / 4
    rw [h.1]; ring
  · ext
    show win0_3.index t 1 * 1024 + 1 * a.val = a
    rw [h.2.1]; ring
  · ext
    show win0_3.index t 2 * 1024 + 1 * d.val = d
    rw [h.2.2]; ring

/-- The gain, read off the argument. -/
theorem block1 (c : Dev nD) (t : Fin cfg0.N) (d : Fin 1024) :
    iblk m c 1 t (ix2 0 d) = m ((c : Thread nD τ).loc main_arg1) (ix2 0 d) := by
  refine (congrFun (V_main_arg1 m c) _).trans ?_
  congr 1
  funext k
  have h := point1 t
  fin_cases k
  · ext
    show win0_1.index t 0 * 1 + 1 * 0 = 0
    rw [h.1]
  · ext
    show win0_1.index t 1 * 1024 + 1 * d.val = d
    rw [h.2]; ring

/-- The whole result array. -/
def whole (c : Dev nD) : Buf (Elt Ideal) ((c : Thread nD τ).loc main_v0) := fun i =>
  result (m ((c : Thread nD τ).loc main_arg0)) (m ((c : Thread nD τ).loc main_arg1)) (m ((c : Thread nD τ).loc main_arg2))
    (m ((c : Thread nD τ).loc main_arg3)) (i 0) (i 1)

/-- What a grid point writes back is its block of the whole result. -/
theorem flushed (c : Dev nD) (t : Fin cfg0.N) :
    (dats m 0 c).flushed 4 t = ((cfg0.win 4).blk t).view.read (Elt Ideal) (whole m c) := by
  rw [Cert.KernelIdeal.Value.flushed4, out_tile]
  have hN : cfg0.N = 16 := N_0
  have ht := t.isLt
  funext y
  obtain ⟨a, d, rfl⟩ : ∃ (a : Fin 1024) (d : Fin 1024), y = ix2 a d := ⟨y 0, y 1, by funext k; fin_cases k <;> rfl⟩
  have h0 : ((cfg0.win 4).blk t).view.emb (ix2 a d) 0 = (⟨1024 * t.val + a, by omega⟩ : Fin 16384) := by
    ext
    show win0_4.index t 0 * 1024 + 1 * a.val = 1024 * t.val + a
    rw [(point4 t).1]; ring
  have h1 : ((cfg0.win 4).blk t).view.emb (ix2 a d) 1 = d := by
    ext
    show win0_4.index t 1 * 1024 + 1 * d.val = d
    rw [(point4 t).2]; ring
  show tile (iblk m c 0 t) (iblk m c 1 t) (iblk m c 2 t) (iblk m c 3 t) (ix2 a d)
    = whole m c (((cfg0.win 4).blk t).view.emb (ix2 a d))
  unfold whole
  rw [h0, h1]
  have hb : (1024 * t.val + a.val) / 4096 = t.val / 4 := by omega
  have e0 : (fun k : Fin 1024 => iblk m c 0 t (ix2 a k)) = fun k => m ((c : Thread nD τ).loc main_arg0) (ix2 (⟨1024 * t.val + a, by omega⟩ : Fin 16384) k) :=
    funext fun k => block0 m c t a k
  have e1 : (fun k : Fin 1024 => iblk m c 1 t (ix2 0 k)) = fun k => m ((c : Thread nD τ).loc main_arg1) (ix2 0 k) :=
    funext fun k => block1 m c t k
  have e2 : (fun k n : Fin 1024 => iblk m c 2 t (ix3 0 k n)) = fun k n => m ((c : Thread nD τ).loc main_arg2) (ix3 (⟨t.val / 4, by omega⟩ : Fin 4) k n) :=
    funext fun k => funext fun n => block2 m c t k n
  have e3 : (fun k n : Fin 1024 => iblk m c 3 t (ix3 0 k n)) = fun k n => m ((c : Thread nD τ).loc main_arg3) (ix3 (⟨t.val / 4, by omega⟩ : Fin 4) k n) :=
    funext fun k => funext fun n => block3 m c t k n
  unfold result
  simp only [hb]
  show out (logits (fun k : Fin 1024 => iblk m c 0 t (ix2 a k)) (fun k : Fin 1024 => iblk m c 1 t (ix2 0 k)) (fun k n : Fin 1024 => iblk m c 2 t (ix3 0 k n)))
    (fun k : Fin 1024 => iblk m c 0 t (ix2 a k)) (fun k n : Fin 1024 => iblk m c 3 t (ix3 0 k n)) d = _
  rw [e0, e1, e2, e3]

/-- So the result array ends at the whole result. -/
theorem final (c : Dev nD) : (dats m 0 c).arrAt 4 cfg0.N = whole m c :=
  (dats m 0 c).arrAt_eq_of_cover 4 (whole m c) (fun t _ => flushed m c t) fun i => by
    have hN : cfg0.N = 16 := N_0
    have h0 : (i 0 : ℕ) < 16384 := (i 0).isLt
    have h1 : (i 1 : ℕ) < 1024 := (i 1).isLt
    let t : Fin cfg0.N := ⟨(i 0).val / 1024, by omega⟩
    refine ⟨t, (by decide +kernel : ∀ t : Fin grid0.N, win0_4.flush t = true) _, ?_⟩
    show i ∈ ((View.whole main_v0).slice (win0_4.rect t)).set
    rw [View.set_slice_whole, Rect.mem_set_unit]
    intro k
    fin_cases k
    · show win0_4.index t 0 * 1024 ≤ (i 0).val ∧ (i 0).val < win0_4.index t 0 * 1024 + 1024
      rw [(point4 t).1]
      show (i 0).val / 1024 * 1024 ≤ _ ∧ _ < (i 0).val / 1024 * 1024 + 1024
      omega
    · show win0_4.index t 1 * 1024 ≤ (i 1).val ∧ (i 1).val < win0_4.index t 1 * 1024 + 1024
      rw [(point4 t).2]
      omega

open Cert.ReferenceIdeal.Read in
/-- The reference, row by row. -/
theorem ref_result (x : Vec Ideal S16384x1024 .f32) (g : Vec Ideal S1x1024 .f32) (qk vo : Vec Ideal S4x1024x1024 .bf16) (i : S16384x1024.Idx) :
    val_main_v32 (F := Ideal) x g qk vo i = result x g qk vo (i 0) (i 1) := by
  obtain ⟨r, d, rfl⟩ : ∃ (r : Fin 16384) (d : Fin 1024), i = ix2 r d := ⟨i 0, i 1, by funext k; fin_cases k <;> rfl⟩
  have hi : idx_main_v32 (ix2 r d) = ix3 (⟨r / 4096, by omega⟩ : Fin 4) (⟨r % 4096, by omega⟩ : Fin 4096) d := by
    funext k
    fin_cases k
    · ext
      show (r.val * 1024 + d.val) / 4194304 = r.val / 4096
      omega
    · ext
      show (r.val * 1024 + d.val) / 1024 % 4096 = r.val % 4096
      omega
    · ext
      show (r.val * 1024 + d.val) % 1024 = d.val
      omega
  have hr : (⟨r.val / 4096 * 4096 + r.val % 4096, by omega⟩ : Fin 16384) = r := by ext; show r.val / 4096 * 4096 + r.val % 4096 = _; omega
  rw [val_main_v32_apply, hi, ref_sum]
  simp only [hr]
  rfl

/-- The value claim of this call. -/
theorem algebraic : Cert.algebraic_KernelIdeal_ReferenceIdeal := by
  intro m ρ m' ρ' _ hagree
  refine ⟨fun c => whole m c, ?_, ?_⟩
  · exact (θ_run Cert.KernelIdeal.defs _ _).mono
      (fun _ h c => ⟨(h c).1.trans (final m c), (h c).2⟩) (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, (hagree c).1, (hagree c).2.1, (hagree c).2.2.1, (hagree c).2.2.2]
    funext i
    exact ref_result _ _ _ _ i

end Cert.Xattn
end
-- ==== Proof.MemProj.lean ====
/- What one grid point of the memory projection leaves, from its blocks and the normalised memory in scratch. -/
module

public import proofs.«01_k».proof.Proof.Rows
public import proofs.«01_k».proof.Proof.Gen.Kernel2Ideal.Value
public import Idealize.ShloMosaic.Lib.Pointwise
public import Idealize.ShloMosaic.Lib.Writes
public import Idealize.ShloMosaic.Lib.VecWindow

@[expose] public section
set_option maxRecDepth 16384
noncomputable section
namespace Cert.MemProj
open Idealize.ShloMosaic Idealize.ShloMosaic.TcCoe Idealize.SL.Sem Cert.Rows
open Cert.Kernel2Ideal Cert.Kernel2Ideal.Gen

/-- The columns of a head's absorbed keys, cut into one sheet of 256 memories for each batch. -/
def sheetsK (v : Vec Ideal S1024x1024 .bf16) : Vec Ideal S4x1024x256 .bf16 := fun i =>
  v (ix2 (i 1) ⟨256 * (i 0).val + (i 2).val, by have h0 : (i 0).val < 4 := (i 0).isLt; have h2 : (i 2).val < 256 := (i 2).isLt; show _ < 1024; omega⟩)

/-- The rows of a head's absorbed values, cut likewise. -/
def sheetsV (v : Vec Ideal S1024x1024 .bf16) : Vec Ideal S4x256x1024 .bf16 := fun i =>
  v (ix2 ⟨256 * (i 0).val + (i 1).val, by have h0 : (i 0).val < 4 := (i 0).isLt; have h2 : (i 1).val < 256 := (i 1).isLt; show _ < 1024; omega⟩ (i 2))

/-- A batch's columns are stored at its sheet. -/
theorem storedK (v : Vec Ideal S1024x1024 .bf16) (w : Vec Ideal S1x1024x256 .bf16) (b : ℕ) (hb : b < 4) (inb)
    (hw : ∀ (d : Fin 1024) (n : Fin 256), w (ix3 0 d n) = v (ix2 d ⟨256 * b + n, by omega⟩)) (y : S1x1024x256.Idx) :
    w y = sheetsK v ((Rect.unit (s := S4x1024x256) ![b, 0, 0] S1x1024x256.size inb).emb y) := by
  have hy : y = ix3 0 (y 1) (y 2) := by
    funext k
    fin_cases k
    · exact Fin.ext (by have h0 : (y 0).val < 1 := (y 0).isLt; show (y 0).val = 0; omega)
    · rfl
    · rfl
  rw [hy]
  refine (hw (y 1) (y 2)).trans ?_
  unfold sheetsK
  congr 1
  funext k
  fin_cases k
  · ext
    show (y 1).val = 0 + 1 * (y 1).val
    omega
  · ext
    show 256 * b + (y 2).val = 256 * (b + 1 * 0) + (0 + 1 * (y 2).val)
    omega

/-- A batch's rows are stored at its sheet. -/
theorem storedV (v : Vec Ideal S1024x1024 .bf16) (w : Vec Ideal S1x256x1024 .bf16) (b : ℕ) (hb : b < 4) (inb)
    (hw : ∀ (n : Fin 256) (d : Fin 1024), w (ix3 0 n d) = v (ix2 ⟨256 * b + n, by omega⟩ d)) (y : S1x256x1024.Idx) :
    w y = sheetsV v ((Rect.unit (s := S4x256x1024) ![b, 0, 0] S1x256x1024.size inb).emb y) := by
  have hy : y = ix3 0 (y 1) (y 2) := by
    funext k
    fin_cases k
    · exact Fin.ext (by have h0 : (y 0).val < 1 := (y 0).isLt; show (y 0).val = 0; omega)
    · rfl
    · rfl
  rw [hy]
  refine (hw (y 1) (y 2)).trans ?_
  unfold sheetsV
  congr 1
  funext k
  fin_cases k
  · ext
    show 256 * b + (y 1).val = 256 * (b + 1 * 0) + (0 + 1 * (y 1).val)
    omega
  · ext
    show (y 2).val = 0 + 1 * (y 2).val
    omega

/-- The columns of batch 1. -/
theorem columns1 (v : FVec Ideal S1024x1024 .bf16) (d : Fin 1024) (n : Fin 256) : k0_pay1 v (ix3 0 d n) = v (ix2 d ⟨256 * 1 + n, by omega⟩) := by
  pointwise [k0_pay1]

/-- The columns of batch 2. -/
theorem columns2 (v : FVec Ideal S1024x1024 .bf16) (d : Fin 1024) (n : Fin 256) : k0_pay3 v (ix3 0 d n) = v (ix2 d ⟨256 * 2 + n, by omega⟩) := by
  pointwise [k0_pay3]

/-- The columns of batch 3. -/
theorem columns3 (v : FVec Ideal S1024x1024 .bf16) (d : Fin 1024) (n : Fin 256) : k0_pay5 v (ix3 0 d n) = v (ix2 d ⟨256 * 3 + n, by omega⟩) := by
  pointwise [k0_pay5]

/-- The rows of batch 1. -/
theorem rows1 (v : FVec Ideal S1024x1024 .bf16) (n : Fin 256) (d : Fin 1024) : k0_pay2 v (ix3 0 n d) = v (ix2 ⟨256 * 1 + n, by omega⟩ d) := by
  pointwise [k0_pay2]

/-- The rows of batch 2. -/
theorem rows2 (v : FVec Ideal S1024x1024 .bf16) (n : Fin 256) (d : Fin 1024) : k0_pay4 v (ix3 0 n d) = v (ix2 ⟨256 * 2 + n, by omega⟩ d) := by
  pointwise [k0_pay4]

/-- The rows of batch 3. -/
theorem rows3 (v : FVec Ideal S1024x1024 .bf16) (n : Fin 256) (d : Fin 1024) : k0_pay6 v (ix3 0 n d) = v (ix2 ⟨256 * 3 + n, by omega⟩ d) := by
  pointwise [k0_pay6]

/-- The columns of the first batch, cut from the product itself. -/
theorem columns0 (h : Vec Ideal S1024x1024 .bf16) (wk wq : Vec Ideal S1024x256 .f32) (d : Fin 1024) (n : Fin 256) :
    k0_pay10 h wk wq (ix3 0 d n) = k0_pay8 h wk wq (ix2 d ⟨256 * 0 + n, by omega⟩) := by
  unfold k0_pay10
  generalize k0_pay8 h wk wq = v
  pointwise

/-- The rows of the first batch. -/
theorem rows0 (h : Vec Ideal S1024x1024 .bf16) (wv : Vec Ideal S1024x256 .f32) (wo : Vec Ideal S256x1024 .f32) (n : Fin 256) (d : Fin 1024) :
    k0_pay11 h wv wo (ix3 0 n d) = k0_pay9 h wv wo (ix2 ⟨256 * 0 + n, by omega⟩ d) := by
  unfold k0_pay11
  generalize k0_pay9 h wv wo = v
  pointwise

/-- A load of all of a window's block reads the block. -/
theorem loaded {s : Shape} {e : EltTy} {M : Memref sig .tc .vmem s e} (h : M.IsWhole) (X : Vec Ideal s e) {off : Fin s.rank → ℕ}
    (inb : ∀ a, off a + s.size a ≤ s.size a) : View.readAt (Elt Ideal) M.view (Rect.unit off s.size inb).toLoadRect (h.unread X) = X :=
  (View.readAt_full _ _ inb).trans (h.read_unread X)

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S256x1024 .f32) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1024x1024 .bf16) (harg9 : arg9.IsWhole)
  (x0 : Vec Ideal S1024x1024 .f32) (x1 : Vec Ideal S1x1024 .f32) (x2 : Vec Ideal S1024x256 .f32) (x3 : Vec Ideal S1024x256 .f32) (x4 : Vec Ideal S1024x256 .f32) (x5 : Vec Ideal S256x1024 .f32) (xs0 : Vec Ideal S1024x1024 .bf16)

/-- The first point's scratch, read back after its store. -/
theorem mem_first : kernelRun0_A.sl.v3 (F := Ideal) c arg1 harg1 arg2 harg2 arg9 x0 x1 = k0_pay7 x0 x1 := by
  unfold kernelRun0_A.sl.v3
  refine (View.readAt_full _ _ _).trans ((View.read_writes_full _ _ _ _ _).trans ?_)
  exact congr (congrArg k0_pay7 (loaded harg1 x0 _)) (loaded harg2 x1 _)

theorem qk_first : kernelRun0_A.sl.r (F := Ideal) c arg1 harg1 arg2 harg2 arg3 harg3 arg5 harg5 arg9 x0 x1 x2 x4 = k0_pay8 (k0_pay7 x0 x1) x2 x4 := by
  unfold kernelRun0_A.sl.r
  exact congr (congr (congrArg k0_pay8 (mem_first c arg1 harg1 arg2 harg2 arg9 x0 x1)) (loaded harg3 x2 _)) (loaded harg5 x4 _)

theorem qk_later : kernelRun0_B.sl.r (F := Ideal) c arg3 harg3 arg5 harg5 arg9 harg9 x2 x4 xs0 = k0_pay8 xs0 x2 x4 := by
  unfold kernelRun0_B.sl.r
  exact congr (congr (congrArg k0_pay8 (loaded harg9 xs0 _)) (loaded harg3 x2 _)) (loaded harg5 x4 _)

theorem vo_first : kernelRun0_A.sl.r_1 (F := Ideal) c arg1 harg1 arg2 harg2 arg4 harg4 arg6 harg6 arg9 x0 x1 x3 x5 = k0_pay9 (k0_pay7 x0 x1) x3 x5 := by
  unfold kernelRun0_A.sl.r_1
  exact congr (congr (congrArg k0_pay9 (mem_first c arg1 harg1 arg2 harg2 arg9 x0 x1)) (loaded harg4 x3 _)) (loaded harg6 x5 _)

theorem vo_later : kernelRun0_B.sl.r_1 (F := Ideal) c arg4 harg4 arg6 harg6 arg9 harg9 x3 x5 xs0 = k0_pay9 xs0 x3 x5 := by
  unfold kernelRun0_B.sl.r_1
  exact congr (congr (congrArg k0_pay9 (loaded harg9 xs0 _)) (loaded harg4 x3 _)) (loaded harg6 x5 _)

/-- The first point leaves the normalised memory in scratch. -/
theorem scratch_first (hc0 : cond0_0 i) : sout0_A_0 (F := Ideal) c i arg1 harg1 arg2 harg2 arg3 harg3 arg4 harg4 arg5 harg5 arg6 harg6 arg7 harg7 arg8 harg8 arg9 harg9 hc0 x0 x1 x2 x3 x4 x5 = k0_pay7 x0 x1 := by
  unfold sout0_A_0 kernelRun0_A
  dsimp only
  unfold kernelRun0_A.sl.HS0_1
  refine (View.read_writes_full _ _ _ _ _).trans ?_
  exact congr (congrArg k0_pay7 (loaded harg1 x0 _)) (loaded harg2 x1 _)

/-- What the first point leaves of the absorbed keys. -/
theorem keys_first (hc0 : cond0_0 i) : out0_A_6 (F := Ideal) c i arg1 harg1 arg2 harg2 arg3 harg3 arg4 harg4 arg5 harg5 arg6 harg6 arg7 harg7 arg8 harg8 arg9 harg9 hc0 x0 x1 x2 x3 x4 x5 = sheetsK (k0_pay8 (k0_pay7 x0 x1) x2 x4) := by
  funext y
  unfold out0_A_6
  refine View.read_writes_apply_of_pieces _ _ (sheetsK (k0_pay8 (k0_pay7 x0 x1) x2 x4)) _ ?_ y (cover0_A_6 c i arg1 harg1 arg2 harg2 arg3 harg3 arg4 harg4 arg5 harg5 arg6 harg6 arg7 harg7 arg8 harg8 arg9 harg9 hc0 x0 x1 x2 x3 x4 x5 y)
  unfold kernelRun0_A
  dsimp only
  rw [qk_first]
  intro p hp
  simp only [List.mem_cons, List.not_mem_nil, or_false] at hp
  rcases hp with rfl | rfl | rfl | rfl
  · exact fun z => storedK (k0_pay8 (k0_pay7 x0 x1) x2 x4) _ 3 (by omega) inb_S4x1024x256_S1x1024x256_3_0_0 (columns3 _) z
  · exact fun z => storedK (k0_pay8 (k0_pay7 x0 x1) x2 x4) _ 2 (by omega) inb_S4x1024x256_S1x1024x256_2_0_0 (columns2 _) z
  · exact fun z => storedK (k0_pay8 (k0_pay7 x0 x1) x2 x4) _ 1 (by omega) inb_S4x1024x256_S1x1024x256_1_0_0 (columns1 _) z
  · refine fun z => Eq.trans (b := k0_pay10 (k0_pay7 x0 x1) x2 x4 z) ?_ (storedK _ _ 0 (by omega) inb_S4x1024x256_S1x1024x256_0_0_0 (columns0 _ _ _) z)
    exact congrFun (congr (congr (congrArg k0_pay10 (mem_first c arg1 harg1 arg2 harg2 arg9 x0 x1)) (loaded harg3 x2 _)) (loaded harg5 x4 _)) z

/-- What the first point leaves of the absorbed values. -/
theorem values_first (hc0 : cond0_0 i) : out0_A_7 (F := Ideal) c i arg1 harg1 arg2 harg2 arg3 harg3 arg4 harg4 arg5 harg5 arg6 harg6 arg7 harg7 arg8 harg8 arg9 harg9 hc0 x0 x1 x2 x3 x4 x5 = sheetsV (k0_pay9 (k0_pay7 x0 x1) x3 x5) := by
  funext y
  unfold out0_A_7
  refine View.read_writes_apply_of_pieces _ _ (sheetsV (k0_pay9 (k0_pay7 x0 x1) x3 x5)) _ ?_ y (cover0_A_7 c i arg1 harg1 arg2 harg2 arg3 harg3 arg4 harg4 arg5 harg5 arg6 harg6 arg7 harg7 arg8 harg8 arg9 harg9 hc0 x0 x1 x2 x3 x4 x5 y)
  unfold kernelRun0_A
  dsimp only
  rw [vo_first]
  intro p hp
  simp only [List.mem_cons, List.not_mem_nil, or_false] at hp
  rcases hp with rfl | rfl | rfl | rfl
  · exact fun z => storedV (k0_pay9 (k0_pay7 x0 x1) x3 x5) _ 3 (by omega) inb_S4x256x1024_S1x256x1024_3_0_0 (rows3 _) z
  · exact fun z => storedV (k0_pay9 (k0_pay7 x0 x1) x3 x5) _ 2 (by omega) inb_S4x256x1024_S1x256x1024_2_0_0 (rows2 _) z
  · exact fun z => storedV (k0_pay9 (k0_pay7 x0 x1) x3 x5) _ 1 (by omega) inb_S4x256x1024_S1x256x1024_1_0_0 (rows1 _) z
  · refine fun z => Eq.trans (b := k0_pay11 (k0_pay7 x0 x1) x3 x5 z) ?_ (storedV _ _ 0 (by omega) inb_S4x256x1024_S1x256x1024_0_0_0 (rows0 _ _ _) z)
    exact congrFun (congr (congr (congrArg k0_pay11 (mem_first c arg1 harg1 arg2 harg2 arg9 x0 x1)) (loaded harg4 x3 _)) (loaded harg6 x5 _)) z

/-- What the later point leaves of the absorbed keys. -/
theorem keys_later (hc0 : ¬cond0_0 i) : out0_B_6 (F := Ideal) c i arg1 harg1 arg2 harg2 arg3 harg3 arg4 harg4 arg5 harg5 arg6 harg6 arg7 harg7 arg8 harg8 arg9 harg9 hc0 x0 x1 x2 x3 x4 x5 xs0 = sheetsK (k0_pay8 xs0 x2 x4) := by
  funext y
  unfold out0_B_6
  refine View.read_writes_apply_of_pieces _ _ (sheetsK (k0_pay8 xs0 x2 x4)) _ ?_ y (cover0_B_6 c i arg1 harg1 arg2 harg2 arg3 harg3 arg4 harg4 arg5 harg5 arg6 harg6 arg7 harg7 arg8 harg8 arg9 harg9 hc0 x0 x1 x2 x3 x4 x5 xs0 y)
  unfold kernelRun0_B
  dsimp only
  rw [qk_later]
  intro p hp
  simp only [List.mem_cons, List.not_mem_nil, or_false] at hp
  rcases hp with rfl | rfl | rfl | rfl
  · exact fun z => storedK (k0_pay8 xs0 x2 x4) _ 3 (by omega) inb_S4x1024x256_S1x1024x256_3_0_0 (columns3 _) z
  · exact fun z => storedK (k0_pay8 xs0 x2 x4) _ 2 (by omega) inb_S4x1024x256_S1x1024x256_2_0_0 (columns2 _) z
  · exact fun z => storedK (k0_pay8 xs0 x2 x4) _ 1 (by omega) inb_S4x1024x256_S1x1024x256_1_0_0 (columns1 _) z
  · refine fun z => Eq.trans (b := k0_pay10 xs0 x2 x4 z) ?_ (storedK _ _ 0 (by omega) inb_S4x1024x256_S1x1024x256_0_0_0 (columns0 _ _ _) z)
    exact congrFun (congr (congr (congrArg k0_pay10 (loaded harg9 xs0 _)) (loaded harg3 x2 _)) (loaded harg5 x4 _)) z

/-- What the later point leaves of the absorbed values. -/
theorem values_later (hc0 : ¬cond0_0 i) : out0_B_7 (F := Ideal) c i arg1 harg1 arg2 harg2 arg3 harg3 arg4 harg4 arg5 harg5 arg6 harg6 arg7 harg7 arg8 harg8 arg9 harg9 hc0 x0 x1 x2 x3 x4 x5 xs0 = sheetsV (k0_pay9 xs0 x3 x5) := by
  funext y
  unfold out0_B_7
  refine View.read_writes_apply_of_pieces _ _ (sheetsV (k0_pay9 xs0 x3 x5)) _ ?_ y (cover0_B_7 c i arg1 harg1 arg2 harg2 arg3 harg3 arg4 harg4 arg5 harg5 arg6 harg6 arg7 harg7 arg8 harg8 arg9 harg9 hc0 x0 x1 x2 x3 x4 x5 xs0 y)
  unfold kernelRun0_B
  dsimp only
  rw [vo_later]
  intro p hp
  simp only [List.mem_cons, List.not_mem_nil, or_false] at hp
  rcases hp with rfl | rfl | rfl | rfl
  · exact fun z => storedV (k0_pay9 xs0 x3 x5) _ 3 (by omega) inb_S4x256x1024_S1x256x1024_3_0_0 (rows3 _) z
  · exact fun z => storedV (k0_pay9 xs0 x3 x5) _ 2 (by omega) inb_S4x256x1024_S1x256x1024_2_0_0 (rows2 _) z
  · exact fun z => storedV (k0_pay9 xs0 x3 x5) _ 1 (by omega) inb_S4x256x1024_S1x256x1024_1_0_0 (rows1 _) z
  · refine fun z => Eq.trans (b := k0_pay11 xs0 x3 x5 z) ?_ (storedV _ _ 0 (by omega) inb_S4x256x1024_S1x256x1024_0_0_0 (rows0 _ _ _) z)
    exact congrFun (congr (congr (congrArg k0_pay11 (loaded harg9 xs0 _)) (loaded harg4 x3 _)) (loaded harg6 x5 _)) z

end Cert.MemProj
end
-- ==== Proof.MemProjValue.lean ====
/- The memory projection, read element by element over the extended reals, and its value claim: every element of the two
   results is the absorbed key or value of a head, a sum over the head's 256 coordinates of a product of two rows. -/
module

public import proofs.«01_k».proof.Defs
public import proofs.«01_k».proof.Proof.MemProj
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Quiescent

@[expose] public section
set_option maxRecDepth 16384
noncomputable section
namespace Cert.MemProj
open Idealize.ShloMosaic Idealize.ShloMosaic.TcCoe Idealize.SL.Sem Cert.Rows

/-- The factor of the absorbed keys, one over the root of 256, as the programs' literals are read. -/
abbrev sixteenth : EReal := Ideal.ofBits .f32 0x3D800000#32

/-- An absorbed key: a row of the query weights times the key of a memory, in one head. -/
def absK (r : Fin 1024 → EReal) (wk : Fin 1024 → Fin 256 → EReal) (wq : Fin 256 → EReal) : EReal := (∑ e, wq e * rowMul r wk e) * sixteenth

/-- An absorbed value: the value of a memory times a column of the output weights, in one head. -/
def absV (r : Fin 1024 → EReal) (wv : Fin 1024 → Fin 256 → EReal) (wo : Fin 256 → EReal) : EReal := ∑ e, rowMul r wv e * wo e

section
open Cert.Kernel2Ideal Cert.Kernel2Ideal.Gen

/-- The first result, element by element: batch `b`, coordinate `d`, memory `n` of head `h`. -/
def keyOf (x : Vec Ideal S1024x1024 .f32) (g : Vec Ideal S1x1024 .f32) (w : Vec Ideal S1024x2048 .f32) (wq : Vec Ideal S1024x1024 .f32)
    (b : Fin 4) (d : Fin 1024) (h : Fin 4) (n : Fin 256) : EReal :=
  absK (rms (fun k => x (ix2 ⟨256 * b + n, by omega⟩ k)) (fun k => g (ix2 0 k)))
    (fun k e => w (ix2 k ⟨256 * h + e, by omega⟩)) (fun e => wq (ix2 d ⟨256 * h + e, by omega⟩))

/-- The second result likewise. -/
def valueOf (x : Vec Ideal S1024x1024 .f32) (g : Vec Ideal S1x1024 .f32) (w : Vec Ideal S1024x2048 .f32) (wo : Vec Ideal S1024x1024 .f32)
    (b : Fin 4) (h : Fin 4) (n : Fin 256) (d : Fin 1024) : EReal :=
  absV (rms (fun k => x (ix2 ⟨256 * b + n, by omega⟩ k)) (fun k => g (ix2 0 k)))
    (fun k e => w (ix2 k ⟨1024 + (256 * h + e), by omega⟩)) (fun e => wo (ix2 ⟨256 * h + e, by omega⟩ d))

/-- The normalised memory in scratch. -/
theorem normed (x : Vec Ideal S1024x1024 .f32) (g : Vec Ideal S1x1024 .f32) (r k : Fin 1024) :
    k0_pay7 x g (ix2 r k) = rms (fun k => x (ix2 r k)) (fun k => g (ix2 0 k)) k := by
  pointwise [k0_pay7]
  rfl

/-- A grid point's product of absorbed keys. -/
theorem keys_apply (s : Vec Ideal S1024x1024 .bf16) (wk wq : Vec Ideal S1024x256 .f32) (d r : Fin 1024) :
    k0_pay8 s wk wq (ix2 d r) = absK (fun k => s (ix2 r k)) (fun k e => wk (ix2 k e)) (fun e => wq (ix2 d e)) := by
  pointwise [k0_pay8]
  rfl

/-- A grid point's product of absorbed values. -/
theorem values_apply (s : Vec Ideal S1024x1024 .bf16) (wv : Vec Ideal S1024x256 .f32) (wo : Vec Ideal S256x1024 .f32) (r d : Fin 1024) :
    k0_pay9 s wv wo (ix2 r d) = absV (fun k => s (ix2 r k)) (fun k e => wv (ix2 k e)) (fun e => wo (ix2 e d)) := by
  pointwise [k0_pay9]
  rfl

/-- Which block each window is at, at every grid point. -/
theorem point0 : ∀ t : Fin grid0.N, win0_0.index t 0 = 0 ∧ win0_0.index t 1 = 0 := by decide +kernel
theorem point1 : ∀ t : Fin grid0.N, win0_1.index t 0 = 0 ∧ win0_1.index t 1 = 0 := by decide +kernel
theorem point2 : ∀ t : Fin grid0.N, win0_2.index t 0 = 0 ∧ win0_2.index t 1 = t.val := by decide +kernel
theorem point3 : ∀ t : Fin grid0.N, win0_3.index t 0 = 0 ∧ win0_3.index t 1 = t.val + 4 := by decide +kernel
theorem point4 : ∀ t : Fin grid0.N, win0_4.index t 0 = 0 ∧ win0_4.index t 1 = t.val := by decide +kernel
theorem point5 : ∀ t : Fin grid0.N, win0_5.index t 0 = t.val ∧ win0_5.index t 1 = 0 := by decide +kernel
theorem point6 : ∀ t : Fin grid0.N, win0_6.index t 0 = 0 ∧ win0_6.index t 1 = 0 ∧ win0_6.index t 2 = t.val := by decide +kernel
theorem point7 : ∀ t : Fin grid0.N, win0_7.index t 0 = 0 ∧ win0_7.index t 1 = t.val ∧ win0_7.index t 2 = 0 := by decide +kernel

variable (m : (ℓ : Loc nD τ sig) → Buf (Elt Ideal) ℓ) (c : Dev nD)

/-- The memory rows, read off the argument. -/
theorem block0 (t : Fin cfg0.N) (r : Fin 1024) (d : Fin 1024) :
    iblk m c 0 t (ix2 r d) = m ((c : Thread nD τ).loc main_arg0) (ix2 r d) := by
  refine (congrFun (V_main_arg0 m c) _).trans ?_
  congr 1
  funext k
  have h := point0 t
  fin_cases k
  · ext
    show win0_0.index t 0 * 1024 + 1 * r.val = r
    rw [h.1]; omega
  · ext
    show win0_0.index t 1 * 1024 + 1 * d.val = d
    rw [h.2]; omega

/-- The gain, read off the argument. -/
theorem block1 (t : Fin cfg0.N) (d : Fin 1024) :
    iblk m c 1 t (ix2 0 d) = m ((c : Thread nD τ).loc main_arg1) (ix2 0 d) := by
  refine (congrFun (V_main_arg1 m c) _).trans ?_
  congr 1
  funext k
  have h := point1 t
  fin_cases k
  · ext
    show win0_1.index t 0 * 1 + 1 * 0 = 0
    rw [h.1]
  · ext
    show win0_1.index t 1 * 1024 + 1 * d.val = d
    rw [h.2]; omega

/-- The key weights of the head, read off the argument. -/
theorem block2 (t : Fin cfg0.N) (ht : t.val < 4) (r : Fin 1024) (d : Fin 256) :
    iblk m c 2 t (ix2 r d) = m ((c : Thread nD τ).loc main_arg2) (ix2 r (⟨256 * t.val + d, by omega⟩ : Fin 2048)) := by
  refine (congrFun (V_main_arg2 m c) _).trans ?_
  congr 1
  funext k
  have h := point2 t
  fin_cases k
  · ext
    show win0_2.index t 0 * 1024 + 1 * r.val = r
    rw [h.1]; omega
  · ext
    show win0_2.index t 1 * 256 + 1 * d.val = 256 * t.val + d
    rw [h.2]; omega

/-- The value weights of the head, read off the argument. -/
theorem block3 (t : Fin cfg0.N) (ht : t.val < 4) (r : Fin 1024) (d : Fin 256) :
    iblk m c 3 t (ix2 r d) = m ((c : Thread nD τ).loc main_arg2) (ix2 r (⟨1024 + (256 * t.val + d), by omega⟩ : Fin 2048)) := by
  refine (congrFun (V_main_arg2 m c) _).trans ?_
  congr 1
  funext k
  have h := point3 t
  fin_cases k
  · ext
    show win0_3.index t 0 * 1024 + 1 * r.val = r
    rw [h.1]; omega
  · ext
    show win0_3.index t 1 * 256 + 1 * d.val = 1024 + (256 * t.val + d)
    rw [h.2]; omega

/-- The query weights of the head, read off the argument. -/
theorem block4 (t : Fin cfg0.N) (ht : t.val < 4) (r : Fin 1024) (d : Fin 256) :
    iblk m c 4 t (ix2 r d) = m ((c : Thread nD τ).loc main_arg3) (ix2 r (⟨256 * t.val + d, by omega⟩ : Fin 1024)) := by
  refine (congrFun (V_main_arg3 m c) _).trans ?_
  congr 1
  funext k
  have h := point4 t
  fin_cases k
  · ext
    show win0_4.index t 0 * 1024 + 1 * r.val = r
    rw [h.1]; omega
  · ext
    show win0_4.index t 1 * 256 + 1 * d.val = 256 * t.val + d
    rw [h.2]; omega

/-- The output weights of the head, read off the argument. -/
theorem block5 (t : Fin cfg0.N) (ht : t.val < 4) (r : Fin 256) (d : Fin 1024) :
    iblk m c 5 t (ix2 r d) = m ((c : Thread nD τ).loc main_arg4) (ix2 (⟨256 * t.val + r, by omega⟩ : Fin 1024) d) := by
  refine (congrFun (V_main_arg4 m c) _).trans ?_
  congr 1
  funext k
  have h := point5 t
  fin_cases k
  · ext
    show win0_5.index t 0 * 256 + 1 * r.val = 256 * t.val + r
    rw [h.1]; omega
  · ext
    show win0_5.index t 1 * 1024 + 1 * d.val = d
    rw [h.2]; omega

/-- The whole results. -/
def wholeK : Buf (Elt Ideal) ((c : Thread nD τ).loc main_v0_0) := fun i =>
  keyOf (m ((c : Thread nD τ).loc main_arg0)) (m ((c : Thread nD τ).loc main_arg1)) (m ((c : Thread nD τ).loc main_arg2))
    (m ((c : Thread nD τ).loc main_arg3)) (i 0) (i 1) ⟨(i 2).val / 256, by have h : (i 2).val < 1024 := (i 2).isLt; omega⟩ ⟨(i 2).val % 256, by omega⟩
def wholeV : Buf (Elt Ideal) ((c : Thread nD τ).loc main_v0_1) := fun i =>
  valueOf (m ((c : Thread nD τ).loc main_arg0)) (m ((c : Thread nD τ).loc main_arg1)) (m ((c : Thread nD τ).loc main_arg2))
    (m ((c : Thread nD τ).loc main_arg4)) (i 0) ⟨(i 1).val / 256, by have h : (i 1).val < 1024 := (i 1).isLt; omega⟩ ⟨(i 1).val % 256, by omega⟩ (i 2)

/-- The normalised memory, as every grid point finds it. -/
def mem : Vec Ideal S1024x1024 .bf16 := fun i =>
  rms (fun k => m ((c : Thread nD τ).loc main_arg0) (ix2 (i 0) k)) (fun k => m ((c : Thread nD τ).loc main_arg1) (ix2 0 k)) (i 1)

theorem mem_blocks (t : Fin cfg0.N) : k0_pay7 (iblk m c 0 t) (iblk m c 1 t) = mem m c := by
  funext i
  obtain ⟨r, k, rfl⟩ : ∃ (r k : Fin 1024), i = ix2 r k := ⟨i 0, i 1, by funext k; fin_cases k <;> rfl⟩
  refine (normed _ _ r k).trans ?_
  have e0 : (fun k : Fin 1024 => iblk m c 0 t (ix2 r k)) = fun k => m ((c : Thread nD τ).loc main_arg0) (ix2 r k) := funext fun k => block0 m c t r k
  have e1 : (fun k : Fin 1024 => iblk m c 1 t (ix2 0 k)) = fun k => m ((c : Thread nD τ).loc main_arg1) (ix2 0 k) := funext fun k => block1 m c t k
  show rms (fun k : Fin 1024 => iblk m c 0 t (ix2 r k)) (fun k : Fin 1024 => iblk m c 1 t (ix2 0 k)) k = _
  rw [e0, e1]
  rfl

/-- Every grid point leaves the normalised memory in scratch. -/
theorem carried : ∀ (n : ℕ) (hn : n < cfg0.N), (outsAt0 m c n hn).2.2 = mem m c
  | 0, hn => by
    have e : outsAt0 m c 0 hn = _ := outsAt0_A m c ⟨0, hn⟩ rfl
    rw [e]
    dsimp only
    rw [scratch_first, mem_blocks]
  | n + 1, hn => by
    have hN : cfg0.N = 4 := N_0
    have e : outsAt0 m c (n + 1) hn = _ := outsAt0_B m c ⟨n + 1, hn⟩ (by show ¬(n + 1) % 4 = 0; omega)
    rw [e]
    dsimp only
    unfold sout0_B_0
    exact carried n (by omega)

/-- So every grid point leaves its head's absorbed keys and values. -/
theorem keys_at (t : Fin cfg0.N) : (outsAt0 m c t.val t.isLt).1 = sheetsK (k0_pay8 (mem m c) (iblk m c 2 t) (iblk m c 4 t)) := by
  by_cases h : t.val % 4 = 0
  · rw [outsAt0_A m c t h]
    dsimp only
    rw [keys_first, mem_blocks]
  · rw [outsAt0_B m c t h]
    dsimp only
    rw [keys_later, carried]
theorem values_at (t : Fin cfg0.N) : (outsAt0 m c t.val t.isLt).2.1 = sheetsV (k0_pay9 (mem m c) (iblk m c 3 t) (iblk m c 5 t)) := by
  by_cases h : t.val % 4 = 0
  · rw [outsAt0_A m c t h]
    dsimp only
    rw [values_first, mem_blocks]
  · rw [outsAt0_B m c t h]
    dsimp only
    rw [values_later, carried]

/-- What a grid point writes back is its block of the whole result. -/
theorem flushedK (t : Fin cfg0.N) : (dats m 0 c).flushed 6 t = ((cfg0.win 6).blk t).view.read (Elt Ideal) (wholeK m c) := by
  rw [Cert.Kernel2Ideal.Value.flushed6, keys_at]
  have hN : cfg0.N = 4 := N_0
  have ht := t.isLt
  funext y
  obtain ⟨b, d, n, rfl⟩ : ∃ (b : Fin 4) (d : Fin 1024) (n : Fin 256), y = ix3 b d n := ⟨y 0, y 1, y 2, by funext k; fin_cases k <;> rfl⟩
  have h0 : ((cfg0.win 6).blk t).view.emb (ix3 b d n) 0 = b := by
    ext
    show win0_6.index t 0 * 4 + 1 * b.val = b
    rw [(point6 t).1]; omega
  have h1 : ((cfg0.win 6).blk t).view.emb (ix3 b d n) 1 = d := by
    ext
    show win0_6.index t 1 * 1024 + 1 * d.val = d
    rw [(point6 t).2.1]; omega
  have h2 : ((cfg0.win 6).blk t).view.emb (ix3 b d n) 2 = (⟨256 * t.val + n, by omega⟩ : Fin 1024) := by
    ext
    show win0_6.index t 2 * 256 + 1 * n.val = 256 * t.val + n
    rw [(point6 t).2.2]; omega
  show sheetsK (k0_pay8 (mem m c) (iblk m c 2 t) (iblk m c 4 t)) (ix3 b d n) = wholeK m c (((cfg0.win 6).blk t).view.emb (ix3 b d n))
  unfold wholeK
  rw [h0, h1]
  simp only [h2]
  have ha : (256 * t.val + n.val) / 256 = t.val := by omega
  have hb : (256 * t.val + n.val) % 256 = n.val := by omega
  simp only [ha, hb]
  refine (keys_apply _ _ _ d ⟨256 * b + n, by omega⟩).trans ?_
  have e2 : (fun (k : Fin 1024) (e : Fin 256) => iblk m c 2 t (ix2 k e)) = fun (k : Fin 1024) (e : Fin 256) => m ((c : Thread nD τ).loc main_arg2) (ix2 k (⟨256 * t.val + e, by omega⟩ : Fin 2048)) :=
    funext fun k => funext fun e => block2 m c t (by omega) k e
  have e4 : (fun (e : Fin 256) => iblk m c 4 t (ix2 d e)) = fun (e : Fin 256) => m ((c : Thread nD τ).loc main_arg3) (ix2 d (⟨256 * t.val + e, by omega⟩ : Fin 1024)) :=
    funext fun e => block4 m c t (by omega) d e
  show absK _ (fun (k : Fin 1024) (e : Fin 256) => iblk m c 2 t (ix2 k e)) (fun (e : Fin 256) => iblk m c 4 t (ix2 d e)) = _
  rw [e2, e4]
  rfl

theorem flushedV (t : Fin cfg0.N) : (dats m 0 c).flushed 7 t = ((cfg0.win 7).blk t).view.read (Elt Ideal) (wholeV m c) := by
  rw [Cert.Kernel2Ideal.Value.flushed7, values_at]
  have hN : cfg0.N = 4 := N_0
  have ht := t.isLt
  funext y
  obtain ⟨b, n, d, rfl⟩ : ∃ (b : Fin 4) (n : Fin 256) (d : Fin 1024), y = ix3 b n d := ⟨y 0, y 1, y 2, by funext k; fin_cases k <;> rfl⟩
  have h0 : ((cfg0.win 7).blk t).view.emb (ix3 b n d) 0 = b := by
    ext
    show win0_7.index t 0 * 4 + 1 * b.val = b
    rw [(point7 t).1]; omega
  have h1 : ((cfg0.win 7).blk t).view.emb (ix3 b n d) 1 = (⟨256 * t.val + n, by omega⟩ : Fin 1024) := by
    ext
    show win0_7.index t 1 * 256 + 1 * n.val = 256 * t.val + n
    rw [(point7 t).2.1]; omega
  have h2 : ((cfg0.win 7).blk t).view.emb (ix3 b n d) 2 = d := by
    ext
    show win0_7.index t 2 * 1024 + 1 * d.val = d
    rw [(point7 t).2.2]; omega
  show sheetsV (k0_pay9 (mem m c) (iblk m c 3 t) (iblk m c 5 t)) (ix3 b n d) = wholeV m c (((cfg0.win 7).blk t).view.emb (ix3 b n d))
  unfold wholeV
  rw [h0, h2]
  simp only [h1]
  have ha : (256 * t.val + n.val) / 256 = t.val := by omega
  have hb : (256 * t.val + n.val) % 256 = n.val := by omega
  simp only [ha, hb]
  refine (values_apply _ _ _ ⟨256 * b + n, by omega⟩ d).trans ?_
  have e3 : (fun (k : Fin 1024) (e : Fin 256) => iblk m c 3 t (ix2 k e)) = fun (k : Fin 1024) (e : Fin 256) => m ((c : Thread nD τ).loc main_arg2) (ix2 k (⟨1024 + (256 * t.val + e), by omega⟩ : Fin 2048)) :=
    funext fun k => funext fun e => block3 m c t (by omega) k e
  have e5 : (fun (e : Fin 256) => iblk m c 5 t (ix2 e d)) = fun (e : Fin 256) => m ((c : Thread nD τ).loc main_arg4) (ix2 (⟨256 * t.val + e, by omega⟩ : Fin 1024) d) :=
    funext fun e => block5 m c t (by omega) e d
  show absV _ (fun (k : Fin 1024) (e : Fin 256) => iblk m c 3 t (ix2 k e)) (fun (e : Fin 256) => iblk m c 5 t (ix2 e d)) = _
  rw [e3, e5]
  rfl

/-- So the result arrays end at the whole results. -/
theorem finalK : (dats m 0 c).arrAt 6 cfg0.N = wholeK m c :=
  (dats m 0 c).arrAt_eq_of_cover 6 (wholeK m c) (fun t _ => flushedK m c t) fun i => by
    have hN : cfg0.N = 4 := N_0
    have h0 : (i 0 : ℕ) < 4 := (i 0).isLt
    have h1 : (i 1 : ℕ) < 1024 := (i 1).isLt
    have h2 : (i 2 : ℕ) < 1024 := (i 2).isLt
    let t : Fin cfg0.N := ⟨(i 2).val / 256, by omega⟩
    refine ⟨t, (by decide +kernel : ∀ t : Fin grid0.N, win0_6.flush t = true) _, ?_⟩
    show i ∈ ((View.whole main_v0_0).slice (win0_6.rect t)).set
    rw [View.set_slice_whole, Rect.mem_set_unit]
    intro k
    fin_cases k
    · show win0_6.index t 0 * 4 ≤ (i 0).val ∧ (i 0).val < win0_6.index t 0 * 4 + 4
      rw [(point6 t).1]
      omega
    · show win0_6.index t 1 * 1024 ≤ (i 1).val ∧ (i 1).val < win0_6.index t 1 * 1024 + 1024
      rw [(point6 t).2.1]
      omega
    · show win0_6.index t 2 * 256 ≤ (i 2).val ∧ (i 2).val < win0_6.index t 2 * 256 + 256
      rw [(point6 t).2.2]
      show (i 2).val / 256 * 256 ≤ _ ∧ _ < (i 2).val / 256 * 256 + 256
      omega
theorem finalV : (dats m 0 c).arrAt 7 cfg0.N = wholeV m c :=
  (dats m 0 c).arrAt_eq_of_cover 7 (wholeV m c) (fun t _ => flushedV m c t) fun i => by
    have hN : cfg0.N = 4 := N_0
    have h0 : (i 0 : ℕ) < 4 := (i 0).isLt
    have h1 : (i 1 : ℕ) < 1024 := (i 1).isLt
    have h2 : (i 2 : ℕ) < 1024 := (i 2).isLt
    let t : Fin cfg0.N := ⟨(i 1).val / 256, by omega⟩
    refine ⟨t, (by decide +kernel : ∀ t : Fin grid0.N, win0_7.flush t = true) _, ?_⟩
    show i ∈ ((View.whole main_v0_1).slice (win0_7.rect t)).set
    rw [View.set_slice_whole, Rect.mem_set_unit]
    intro k
    fin_cases k
    · show win0_7.index t 0 * 4 ≤ (i 0).val ∧ (i 0).val < win0_7.index t 0 * 4 + 4
      rw [(point7 t).1]
      omega
    · show win0_7.index t 1 * 256 ≤ (i 1).val ∧ (i 1).val < win0_7.index t 1 * 256 + 256
      rw [(point7 t).2.1]
      show (i 1).val / 256 * 256 ≤ _ ∧ _ < (i 1).val / 256 * 256 + 256
      omega
    · show win0_7.index t 2 * 1024 ≤ (i 2).val ∧ (i 2).val < win0_7.index t 2 * 1024 + 1024
      rw [(point7 t).2.2]
      omega
end

section
open Cert.Reference2Ideal Cert.Reference2Ideal.Gen Cert.Reference2Ideal.Read
variable (x0 : (⟨S1024x1024, .f32⟩ : BufTy).Contents (Elt Ideal)) (x1 : (⟨S1x1024, .f32⟩ : BufTy).Contents (Elt Ideal))
  (x2 : (⟨S1024x2048, .f32⟩ : BufTy).Contents (Elt Ideal)) (x3 x4 : (⟨S1024x1024, .f32⟩ : BufTy).Contents (Elt Ideal))

/-- The reference's keys and values. -/
theorem ref_key (b : Fin 4) (n : Fin 256) (h : Fin 4) (e : Fin 256) :
    val_main_v15 (F := Ideal) x0 x1 x2 (ix4 b n h e) = rowMul (rms (fun k => x0 (ix2 ⟨256 * b + n, by omega⟩ k)) (fun k => x1 (ix2 0 k)))
      (fun k (e : Fin 256) => x2 (ix2 k ⟨256 * h + e, by omega⟩)) e := by
  have e0 : idx_main_v13 (idx_main_v15 (ix4 b n h e)) = ix2 (⟨256 * b + n, by omega⟩ : Fin 1024) (⟨256 * h + e, by omega⟩ : Fin 2048) := by
    funext k
    fin_cases k <;> ext <;> simp [idx_main_v13, idx_main_v15] <;> omega
  rw [val_main_v15_apply, val_main_v13_apply, e0]
  pointwise [val_main_v12, val_main_v11, val_main_v10, val_main_v9, val_main_v8, val_main_v7, val_main_v6, val_main_cst_1, val_main_v5, val_main_v4, val_main_cst_0, val_main_v3, val_main_v2, val_main_v1, val_main_cst, val_main_v0]
  rfl
theorem ref_value (b : Fin 4) (n : Fin 256) (h : Fin 4) (e : Fin 256) :
    val_main_v16 (F := Ideal) x0 x1 x2 (ix4 b n h e) = rowMul (rms (fun k => x0 (ix2 ⟨256 * b + n, by omega⟩ k)) (fun k => x1 (ix2 0 k)))
      (fun k (e : Fin 256) => x2 (ix2 k ⟨1024 + (256 * h + e), by omega⟩)) e := by
  have e0 : idx_main_v14 (idx_main_v16 (ix4 b n h e)) = ix2 (⟨256 * b + n, by omega⟩ : Fin 1024) (⟨1024 + (256 * h + e), by omega⟩ : Fin 2048) := by
    funext k
    fin_cases k <;> ext <;> simp [idx_main_v14, idx_main_v16] <;> omega
  rw [val_main_v16_apply, val_main_v14_apply, e0]
  pointwise [val_main_v12, val_main_v11, val_main_v10, val_main_v9, val_main_v8, val_main_v7, val_main_v6, val_main_cst_1, val_main_v5, val_main_v4, val_main_cst_0, val_main_v3, val_main_v2, val_main_v1, val_main_cst, val_main_v0]
  rfl

/-- The reference's first result. -/
theorem ref_keys (i : S4x1024x1024.Idx) : val_main_v26 (F := Ideal) x0 x1 x2 x3 i
    = keyOf x0 x1 x2 x3 (i 0) (i 1) ⟨(i 2).val / 256, by have h : (i 2).val < 1024 := (i 2).isLt; omega⟩ ⟨(i 2).val % 256, by omega⟩ := by
  obtain ⟨b, d, j, rfl⟩ : ∃ (b : Fin 4) (d j : Fin 1024), i = ix3 b d j := ⟨i 0, i 1, i 2, by funext k; fin_cases k <;> rfl⟩
  obtain ⟨h, hh⟩ : ∃ h : Fin 4, h.val = j.val / 256 := ⟨⟨j / 256, by omega⟩, rfl⟩
  obtain ⟨n, hn⟩ : ∃ n : Fin 256, n.val = j.val % 256 := ⟨⟨j % 256, by omega⟩, rfl⟩
  have e0 : idx_main_v25 (ix3 b d j) = ix4 b d h n := by
    funext k
    fin_cases k <;> ext <;> simp [idx_main_v25, hh, hn] <;> omega
  have e1 : idx_main_v20 (ix4 b d h n) = ix4 h b n d := by
    funext k
    fin_cases k <;> rfl
  have e2 (k : Fin 256) : lidx_main_v19 (ix4 h b n d) k = ix4 b n h k := by
    funext a
    fin_cases a <;> rfl
  have e3 (k : Fin 256) : idx_main_v17 (ridx_main_v19 (ix4 h b n d) k) = ix2 d (⟨256 * h + k, by omega⟩ : Fin 1024) := by
    funext a
    fin_cases a <;> ext <;> simp [idx_main_v17, ridx_main_v19] <;> omega
  show _ = keyOf x0 x1 x2 x3 b d ⟨j.val / 256, _⟩ ⟨j.val % 256, _⟩
  rw [show (⟨j.val / 256, by omega⟩ : Fin 4) = h from Fin.ext hh.symm, show (⟨j.val % 256, by omega⟩ : Fin 256) = n from Fin.ext hn.symm]
  rw [val_main_v26_apply, val_main_v25_apply, e0, val_main_v22_apply, val_main_v20_apply, e1, val_main_v19_apply, val_main_v21_apply, val_main_cst_2_apply]
  unfold keyOf absK
  simp only [e2, val_main_v17_apply, e3, ref_key]
  refine congrArg (· * sixteenth) (Finset.sum_congr rfl fun e _ => ?_)
  exact mul_comm _ _
theorem ref_values (i : S4x1024x1024.Idx) : val_main_v28 (F := Ideal) x0 x1 x2 x4 i
    = valueOf x0 x1 x2 x4 (i 0) ⟨(i 1).val / 256, by have h : (i 1).val < 1024 := (i 1).isLt; omega⟩ ⟨(i 1).val % 256, by omega⟩ (i 2) := by
  obtain ⟨b, j, d, rfl⟩ : ∃ (b : Fin 4) (j d : Fin 1024), i = ix3 b j d := ⟨i 0, i 1, i 2, by funext k; fin_cases k <;> rfl⟩
  obtain ⟨h, hh⟩ : ∃ h : Fin 4, h.val = j.val / 256 := ⟨⟨j / 256, by omega⟩, rfl⟩
  obtain ⟨n, hn⟩ : ∃ n : Fin 256, n.val = j.val % 256 := ⟨⟨j % 256, by omega⟩, rfl⟩
  have e0 : idx_main_v27 (ix3 b j d) = ix4 b h n d := by
    funext k
    fin_cases k <;> ext <;> simp [idx_main_v27, hh, hn] <;> omega
  have e1 : idx_main_v24 (ix4 b h n d) = ix4 h d b n := by
    funext k
    fin_cases k <;> rfl
  have e2 (k : Fin 256) : ridx_main_v23 (ix4 h d b n) k = ix4 b n h k := by
    funext a
    fin_cases a <;> rfl
  have e3 (k : Fin 256) : idx_main_v18 (lidx_main_v23 (ix4 h d b n) k) = ix2 (⟨256 * h + k, by omega⟩ : Fin 1024) d := by
    funext a
    fin_cases a <;> ext <;> simp [idx_main_v18, lidx_main_v23] <;> omega
  show _ = valueOf x0 x1 x2 x4 b ⟨j.val / 256, _⟩ ⟨j.val % 256, _⟩ d
  rw [show (⟨j.val / 256, by omega⟩ : Fin 4) = h from Fin.ext hh.symm, show (⟨j.val % 256, by omega⟩ : Fin 256) = n from Fin.ext hn.symm]
  rw [val_main_v28_apply, val_main_v27_apply, e0, val_main_v24_apply, e1, val_main_v23_apply]
  unfold valueOf absV
  simp only [e2, val_main_v18_apply, e3, ref_value]
  refine Finset.sum_congr rfl fun e _ => ?_
  exact mul_comm _ _
end

/-- The value claim of this call. -/
theorem algebraic : Cert.algebraic_Kernel2Ideal_Reference2Ideal := by
  intro m ρ m' ρ' _ hagree
  refine ⟨fun c => wholeK m c, fun c => wholeV m c, ?_, ?_⟩
  · exact (θ_run Cert.Kernel2Ideal.defs _ _).mono
      (fun _ h c => ⟨(h c).1.trans (finalK m c), (h c).2.1.trans (finalV m c), (h c).2.2⟩) (Cert.Kernel2Ideal.Value.run_blocks (F := Ideal) m ρ)
  · refine (θ_run Cert.Reference2Ideal.defs _ _).mono (fun _ h c => ⟨(h c).1.trans ?_, (h c).2.1.trans ?_, (h c).2.2⟩)
      (Cert.Reference2Ideal.Value.run (F := Ideal) m' ρ')
    · rw [Cert.Reference2Ideal.Read.val_main_v26_eq, (hagree c).1, (hagree c).2.1, (hagree c).2.2.1, (hagree c).2.2.2.1]
      funext i
      exact ref_keys _ _ _ _ i
    · rw [Cert.Reference2Ideal.Read.val_main_v28_eq, (hagree c).1, (hagree c).2.1, (hagree c).2.2.1, (hagree c).2.2.2.2]
      funext i
      exact ref_values _ _ _ _ i

end Cert.MemProj
end
-- ==== Proof.Swiglu.lean ====
/- One row of the feed-forward block: the normalised row through the gated hidden layer and back, half of it added to the row. -/
module

public import proofs.«01_k».proof.Proof.Rows

@[expose] public section
set_option maxRecDepth 16384
noncomputable section
namespace Cert.Rows
open Idealize.ShloMosaic

/-- The half, as the programs' literal is read. -/
abbrev half : EReal := Ideal.ofBits .f32 0x3F000000#32

/-- A gate times its own logistic. -/
def silu (x : EReal) : EReal := x * Ideal.logistic x

/-- One hidden position from a row that is already normalised: the gate column's silu times the up column. -/
def gated (h : Fin 1024 → EReal) (w : Fin 1024 → Fin 5632 → EReal) (j : Fin 2816) : EReal :=
  silu (rowMul h w ⟨j, by omega⟩) * rowMul h w ⟨2816 + j, by omega⟩

/-- One row of the block's result. -/
def ffnRow (x g : Fin 1024 → EReal) (w : Fin 1024 → Fin 5632 → EReal) (v : Fin 2816 → Fin 1024 → EReal) (c : Fin 1024) : EReal :=
  x c + half * rowMul (gated (rms x g) w) v c

end Cert.Rows
end
-- ==== Proof.FfnIdealFirst.lean ====
/- One grid point of the feed-forward call: the first, which brings the weights in. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gate and up weights, whole. -/
abbrev hbGu : Memref sig .tc .hbm S1024x5632 .f32 := Memref.whole main_arg2
/-- The down weights, whole. -/
abbrev hbDn : Memref sig .tc .hbm S2816x1024 .f32 := Memref.whole main_arg3
/-- The scratch holding the gate and up weights by chunks. -/
abbrev scGu : Memref sig .tc .vmem S22x1024x256 .f32 := Memref.whole cc0_scratch0
/-- The scratch holding the down weights by chunks. -/
abbrev scDn : Memref sig .tc .vmem S4x2816x256 .f32 := Memref.whole cc0_scratch1
/-- The contents of a buffer. -/
abbrev Cont (c : Dev nD) {sp : Space} {S : Shape} {e : EltTy} (M : Memref sig .tc sp S e) : Type := Buf (Elt F) (M.view.loc (c : Thread nD τ))
/-- A buffer held whole at contents. -/
abbrev wholeAt (c : Dev nD) {sp : Space} {S : Shape} {e : EltTy} (M : Memref sig .tc sp S e) (f : Cont (F := F) c M) : sProp 𝕄 :=
  M.view.loc (c : Thread nD τ) ↦{fullShare} f

set_option sl_exec.dmaWindow true in
set_option sl_exec.dmaWindowSet true in
set_option sl_exec.rejoinFuel 60 in
set_option maxHeartbeats 40000000 in
/-- The first step's run. -/
noncomputable def runA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg6 : Memref sig .tc .vmem S1x1024 .f32) (harg6 : arg6.IsWhole) (arg7 : Memref sig .tc .vmem S512x1024 .f32) (harg7 : arg7.IsWhole) (arg10 : Memref sig .tc .vmem S512x2816 .bf16) (harg10 : arg10.IsWhole) (arg11 : Memref sig .tc .vmem S2x512x1024 .bf16) (harg11 : arg11.IsWhole) (arg12 : Memref sig .tc .vmem S2x512x256 .bf16) (harg12 : arg12.IsWhole)
    (hc1 : k0_cond1 i = 1#1) (hc2 : ¬ k0_cond2 i = 1#1)
    (x0 x1 : Vec F S512x1024 .f32) (x2 x3 : Vec F S1x1024 .f32)
    (g4 : Buf (Elt F) (hbGu.view.loc (c : Thread nD τ)))
    (g5 : Buf (Elt F) (hbDn.view.loc (c : Thread nD τ)))
    (g8 : Buf (Elt F) (scGu.view.loc (c : Thread nD τ)))
    (g9 : Buf (Elt F) (scDn.view.loc (c : Thread nD τ)))
    (g11 : Buf (Elt F) (arg11.view.loc (c : Thread nD τ))) (g12 : Buf (Elt F) (arg12.view.loc (c : Thread nD τ))) :
    Σ' (L7 : List (View.Piece (Elt F) S512x1024 .f32)), Σ' (L10 : List (View.Piece (Elt F) S512x2816 .bf16)),
    Σ' (X8 : Buf (Elt F) (scGu.view.loc (c : Thread nD τ))),
    Σ' (X9 : Buf (Elt F) (scDn.view.loc (c : Thread nD τ))),
    Σ' (X11 : Buf (Elt F) (arg11.view.loc (c : Thread nD τ))), { X12 : Buf (Elt F) (arg12.view.loc (c : Thread nD τ)) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ wholeAt c scGu g8 ∗ wholeAt c scDn g9 ∗ (∃ d, owns (c : Thread nD τ) arg10 fullShare d) ∗ (arg11.view.loc (c : Thread nD τ) ↦[arg11.view.set]{fullShare} g11) ∗ (arg12.view.loc (c : Thread nD τ) ↦[arg12.view.set]{fullShare} g12) ∗ wholeAt c hbGu g4 ∗ wholeAt c hbDn g5 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ (∃ f, arg7.view.loc (c : Thread nD τ) ↦[arg7.view.set]{fullShare} arg7.view.writes (Elt F) f L7) ∗ wholeAt c scGu X8 ∗ wholeAt c scDn X9 ∗ (∃ f, arg10.view.loc (c : Thread nD τ) ↦[arg10.view.set]{fullShare} arg10.view.writes (Elt F) f L10) ∗ (arg11.view.loc (c : Thread nD τ) ↦[arg11.view.set]{fullShare} X11) ∗ (arg12.view.loc (c : Thread nD τ) ↦[arg12.view.set]{fullShare} X12) ∗ wholeAt c hbGu g4 ∗ wholeAt c hbDn g5 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ (∃ W', owes (c : Thread nD τ) 0 W')) -∗ K ⟨⟩))
          ⊢ wp frame (wpE (defs₀ (F := F)) Variants.none c none) Set.univ (cc0_ffn i arg1 harg1 arg2 harg2 arg3 harg3 hbGu (Memref.isWhole_whole _) hbDn (Memref.isWhole_whole _) arg6 harg6 arg7 harg7 scGu (Memref.isWhole_whole _) scDn (Memref.isWhole_whole _) arg10 harg10 arg11 harg11 arg12 harg12 cc0_scratch5) K } := by
  refine ⟨?_, ?_, ?_, ?_, ?_, ?_, fun W K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%d7, %f7, -, H7⟩, H8, H9, ⟨%d10, %f10, -, H10⟩, H11, H12, H4, H5, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, HW, Hk⟩
    obtain rfl := harg1.eq_unread hf0; obtain rfl := harg2.eq_unread hf1; obtain rfl := harg3.eq_unread hf2; obtain rfl := harg6.eq_unread hf3
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H7]; · iexists _; iexact H7
    isplitl [H8]; · iexact H8
    isplitl [H9]; · iexact H9
    isplitl [H10]; · iexists _; iexact H10
    isplitl [H11]; · iexact H11
    isplitl [H12]; · iexact H12
    isplitl [H4]; · iexact H4
    isplitl [H5]; · iexact H5
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    iexists _; iexact HW

end Cert.Kernel3Ideal.Hand

end
-- ==== Proof.FfnIdealLater.lean ====
/- One grid point of the feed-forward call: any later one. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A later step's run. On whole memrefs, the windows at `x0` (this tile), `x1` (the next tile), `x2`, `x3` (the two
    gains) and the scratch at `s8`, `s9` (the weights' chunks), `s11`, `s12` (what the step before left), the body
    runs to the continuation with its result written in the pieces `L7`, the activations in the pieces `L10`, and
    the two carried buffers at the contents `X11` and `X12`. -/
noncomputable def runB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .hbm S1024x5632 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S22x1024x256 .f32) (harg8 : arg8.IsWhole) (arg9 : Memref sig .tc .vmem S4x2816x256 .f32) (harg9 : arg9.IsWhole) (arg10 : Memref sig .tc .vmem S512x2816 .bf16) (harg10 : arg10.IsWhole) (arg11 : Memref sig .tc .vmem S2x512x1024 .bf16) (harg11 : arg11.IsWhole) (arg12 : Memref sig .tc .vmem S2x512x256 .bf16) (harg12 : arg12.IsWhole) (arg13 : DmaSems sig S26)
    (hc1 : ¬ k0_cond1 i = 1#1) (hc2 : k0_cond2 i = 1#1)
    (x0 x1 : Vec F S512x1024 .f32) (x2 x3 : Vec F S1x1024 .f32) (s8 : Vec F S22x1024x256 .f32) (s9 : Vec F S4x2816x256 .f32)
    (s11 : Vec F S2x512x1024 .bf16) (s12 : Vec F S2x512x256 .bf16) :
    Σ' (L7 : List (View.Piece (Elt F) S512x1024 .f32)), Σ' (L10 : List (View.Piece (Elt F) S512x2816 .bf16)),
    Σ' (X11 : Buf (Elt F) (arg11.view.loc (c : Thread nD τ))), { X12 : Buf (Elt F) (arg12.view.loc (c : Thread nD τ)) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ owns (c : Thread nD τ) arg8 fullShare s8 ∗ owns (c : Thread nD τ) arg9 fullShare s9 ∗ (∃ d, owns (c : Thread nD τ) arg10 fullShare d) ∗ owns (c : Thread nD τ) arg11 fullShare s11 ∗ owns (c : Thread nD τ) arg12 fullShare s12
            ∗ (iprop(owns (c : Thread nD τ) arg1 fullShare x0 ∗ owns (c : Thread nD τ) arg2 fullShare x1 ∗ owns (c : Thread nD τ) arg3 fullShare x2 ∗ owns (c : Thread nD τ) arg6 fullShare x3 ∗ (∃ f, arg7.view.loc (c : Thread nD τ) ↦[arg7.view.set]{fullShare} arg7.view.writes (Elt F) f L7) ∗ owns (c : Thread nD τ) arg8 fullShare s8 ∗ owns (c : Thread nD τ) arg9 fullShare s9 ∗ (∃ f, arg10.view.loc (c : Thread nD τ) ↦[arg10.view.set]{fullShare} arg10.view.writes (Elt F) f L10) ∗ (arg11.view.loc (c : Thread nD τ) ↦[arg11.view.set]{fullShare} X11) ∗ (arg12.view.loc (c : Thread nD τ) ↦[arg12.view.set]{fullShare} X12)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13) K } := by
  refine ⟨?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, ⟨%d10, %f10, -, H10⟩, ⟨%f11, %hf11, H11⟩, ⟨%f12, %hf12, H12⟩, Hk⟩
    obtain rfl := harg1.eq_unread hf0; obtain rfl := harg2.eq_unread hf1; obtain rfl := harg3.eq_unread hf2; obtain rfl := harg6.eq_unread hf3; obtain rfl := harg8.eq_unread hf8; obtain rfl := harg9.eq_unread hf9; obtain rfl := harg11.eq_unread hf11; obtain rfl := harg12.eq_unread hf12
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexact H11
    iexact H12

end Cert.Kernel3Ideal.Hand

end
-- ==== Proof.FfnIdealTile.lean ====
/- What a step of the feed-forward call leaves, in plain terms. -/
module

public import proofs.«01_k».proof.Proof.FfnIdealFirst
public import proofs.«01_k».proof.Proof.FfnIdealLater
public import Idealize.ShloMosaic.Lib.WholeRead
public import Idealize.ShloMosaic.Lib.ViewIndex
public import Idealize.ShloMosaic.Lib.WritesUnit
public import Idealize.ShloMosaic.Lib.Pointwise

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- An entry of a rank-2 array. -/
abbrev at2 {a b : ℕ} (i : Fin a) (j : Fin b) : (⟨2, ![a, b]⟩ : Shape).Idx := Idealize.ShloMosaic.ix2 i j
/-- An entry of a rank-3 array. -/
abbrev at3 {a b d : ℕ} (i : Fin a) (j : Fin b) (k : Fin d) : (⟨3, ![a, b, d]⟩ : Shape).Idx := Idealize.ShloMosaic.ix3 i j k

/-- The gate and up weights cut into 22 groups of 256 columns. -/
def gu0 (w : Vec F S1024x5632 .f32) : Vec F S22x1024x256 .f32 := fun y =>
  w (at2 (y 1) ⟨256 * (y 0).val + (y 2).val, by have h0 : (y 0).val < 22 := (y 0).isLt; have h2 : (y 2).val < 256 := (y 2).isLt; omega⟩)

/-- The down weights cut into 4 groups of 256 columns. -/
def dn0 (w : Vec F S2816x1024 .f32) : Vec F S4x2816x256 .f32 := fun y =>
  w (at2 (y 1) ⟨256 * (y 0).val + (y 2).val, by have h0 : (y 0).val < 4 := (y 0).isLt; have h2 : (y 2).val < 256 := (y 2).isLt; omega⟩)

/-- The `k`-th group of the gate and up weights. -/
def slab (s : Vec F S22x1024x256 .f32) (k : ℕ) : Vec F S1x1024x256 .f32 := fun y =>
  s (at3 ⟨k % 22, Nat.mod_lt _ (by decide)⟩ (y 1) (y 2))

/-- The `k`-th group of the down weights. -/
def slabD (s : Vec F S4x2816x256 .f32) (k : ℕ) : Vec F S1x2816x256 .f32 := fun y =>
  s (at3 ⟨k % 4, Nat.mod_lt _ (by decide)⟩ (y 1) (y 2))

/-- The normalised block of rows. -/
def hid (x : Vec F S512x1024 .f32) (g : Vec F S1x1024 .f32) : FVec F S512x1024 .bf16 := k0_pay45 x g

/-- One group of hidden columns: gate times its logistic times up. -/
def act (h : FVec F S512x1024 .bf16) (a b : Vec F S1x1024x256 .f32) : FVec F S512x256 .bf16 := k0_pay41 h a b

/-- The hidden block: its groups of 256 columns side by side. -/
def mid (h : FVec F S512x1024 .bf16) (g : Vec F S22x1024x256 .f32) : Vec F S512x2816 .bf16 := fun y =>
  act h (slab g ((y 1).val / 256)) (slab g (11 + (y 1).val / 256)) (at2 (y 0) ⟨(y 1).val % 256, Nat.mod_lt _ (by decide)⟩)

/-- The result block from the hidden block. -/
def tile (x : Vec F S512x1024 .f32) (x3 : Vec F S1x1024 .f32) (m : Vec F S512x2816 .bf16) (d : Vec F S4x2816x256 .f32) : Vec F S512x1024 .f32 :=
  k0_pay44 x (k0_pay42 m (slabD d 0)) m (k0_pay43 (slabD d 1)) (constant S512x256 .f32 0x00000000#32) m (slabD d 2) m (slabD d 3)

/-- A load of one group from the scratch of gate and up weights. -/
theorem readAt_slab {M : Memref sig .tc .vmem S22x1024x256 .f32} (f : M.view.ty.Contents (Elt F)) (k : ℕ) (hk : k < 22)
    (inb : ∀ a, (![k, 0, 0] : Fin 3 → ℕ) a + S1x1024x256.size a ≤ S22x1024x256.size a) :
    View.readAt (Elt F) M.view (Rect.unit (s := S22x1024x256) ![k, 0, 0] S1x1024x256.size inb).toLoadRect f = slab (View.read (Elt F) M.view f) k := by
  funext y
  show View.read (Elt F) M.view f _ = View.read (Elt F) M.view f _
  congr 1
  funext a
  apply Fin.ext
  have h0 : (y 0).val = 0 := by have h0 : (y 0).val < 1 := (y 0).isLt; omega
  fin_cases a
  · show k + 1 * (y 0).val = k % 22
    rw [h0, Nat.mod_eq_of_lt hk]
    omega
  · show 0 + 1 * (y 1).val = (y 1).val
    omega
  · show 0 + 1 * (y 2).val = (y 2).val
    omega

/-- A load of one group from the scratch of down weights. -/
theorem readAt_slabD {M : Memref sig .tc .vmem S4x2816x256 .f32} (f : M.view.ty.Contents (Elt F)) (k : ℕ) (hk : k < 4)
    (inb : ∀ a, (![k, 0, 0] : Fin 3 → ℕ) a + S1x2816x256.size a ≤ S4x2816x256.size a) :
    View.readAt (Elt F) M.view (Rect.unit (s := S4x2816x256) ![k, 0, 0] S1x2816x256.size inb).toLoadRect f = slabD (View.read (Elt F) M.view f) k := by
  funext y
  show View.read (Elt F) M.view f _ = View.read (Elt F) M.view f _
  congr 1
  funext a
  apply Fin.ext
  have h0 : (y 0).val = 0 := by have h0 : (y 0).val < 1 := (y 0).isLt; omega
  fin_cases a
  · show k + 1 * (y 0).val = k % 4
    rw [h0, Nat.mod_eq_of_lt hk]
    omega
  · show 0 + 1 * (y 1).val = (y 1).val
    omega
  · show 0 + 1 * (y 2).val = (y 2).val
    omega

/-- What the scratch of gate and up weights reads after a transfer into its `k`-th group. -/
theorem peel {M : Memref sig .tc .vmem S22x1024x256 .f32} (k : ℕ)
    (inb : ∀ a, (![k, 0, 0] : Fin 3 → ℕ) a + S1x1024x256.size a ≤ S22x1024x256.size a)
    (hs : ∀ a, (Rect.unit (s := S22x1024x256) ![k, 0, 0] S1x1024x256.size inb).stride a = 1) (hq : S1x1024x256.Squeezes S1024x256)
    (f : M.view.ty.Contents (Elt F)) (w : S1024x256.Idx → Elt F .f32) (y : S22x1024x256.Idx) :
    View.read (Elt F) M.view (View.write (Elt F) ((M.slice (Rect.unit (s := S22x1024x256) ![k, 0, 0] S1x1024x256.size inb) hs).squeeze S1024x256 hq).view f w Finset.univ) y
      = if (y 0).val = k then w (at2 (y 1) (y 2)) else View.read (Elt F) M.view f y := by
  refine (congrFun (congrArg (View.read (Elt F) M.view) (View.write_reshape_univ (M.view.slice (Rect.unit (s := S22x1024x256) ![k, 0, 0] S1x1024x256.size inb)) hq.numel_eq f w : View.write (Elt F) ((M.slice (Rect.unit (s := S22x1024x256) ![k, 0, 0] S1x1024x256.size inb) hs).squeeze S1024x256 hq).view f w Finset.univ = _)) y).trans ?_
  have e := View.read_writes_cons_unit M.view f inb (fun x => w ((Shape.reshapeEquiv hq.numel_eq).symm x)) [] y rfl
  refine (Eq.trans ?_ e).trans ?_
  · rfl
  by_cases h : (y 0).val = k
  · rw [if_pos h, dif_pos]
    · congr 1
      rw [Equiv.symm_apply_eq]
      refine Eq.trans ?_ (shapeCast_dropUnit_apply (α := S1x1024x256.Idx) ![1024, 256] id shapeCasts_S1x1024x256_S1024x256 (at2 (y 1) (y 2))).symm
      funext a
      apply Fin.ext
      fin_cases a
      · show (y 0).val - k = 0
        omega
      · show (y 1).val - 0 = (y 1).val
        omega
      · show (y 2).val - 0 = (y 2).val
        omega
    · intro a
      fin_cases a
      · exact ⟨h.symm.le, by show (y 0).val < k + 1; omega⟩
      · exact ⟨Nat.zero_le _, by show (y 1).val < 0 + 1024; have h1 : (y 1).val < 1024 := (y 1).isLt; omega⟩
      · exact ⟨Nat.zero_le _, by show (y 2).val < 0 + 256; have h1 : (y 2).val < 256 := (y 2).isLt; omega⟩
  · rw [if_neg h, dif_neg]
    · rfl
    · intro hh
      have h0 := hh 0
      apply h
      have h1 : k ≤ (y 0).val := h0.1
      have h2 : (y 0).val < k + 1 := h0.2
      omega
/-- What the scratch of down weights reads after a transfer into its `k`-th group. -/
theorem peelD {M : Memref sig .tc .vmem S4x2816x256 .f32} (k : ℕ)
    (inb : ∀ a, (![k, 0, 0] : Fin 3 → ℕ) a + S1x2816x256.size a ≤ S4x2816x256.size a)
    (hs : ∀ a, (Rect.unit (s := S4x2816x256) ![k, 0, 0] S1x2816x256.size inb).stride a = 1) (hq : S1x2816x256.Squeezes S2816x256)
    (f : M.view.ty.Contents (Elt F)) (w : S2816x256.Idx → Elt F .f32) (y : S4x2816x256.Idx) :
    View.read (Elt F) M.view (View.write (Elt F) ((M.slice (Rect.unit (s := S4x2816x256) ![k, 0, 0] S1x2816x256.size inb) hs).squeeze S2816x256 hq).view f w Finset.univ) y
      = if (y 0).val = k then w (at2 (y 1) (y 2)) else View.read (Elt F) M.view f y := by
  refine (congrFun (congrArg (View.read (Elt F) M.view) (View.write_reshape_univ (M.view.slice (Rect.unit (s := S4x2816x256) ![k, 0, 0] S1x2816x256.size inb)) hq.numel_eq f w : View.write (Elt F) ((M.slice (Rect.unit (s := S4x2816x256) ![k, 0, 0] S1x2816x256.size inb) hs).squeeze S2816x256 hq).view f w Finset.univ = _)) y).trans ?_
  have e := View.read_writes_cons_unit M.view f inb (fun x => w ((Shape.reshapeEquiv hq.numel_eq).symm x)) [] y rfl
  refine (Eq.trans ?_ e).trans ?_
  · rfl
  by_cases h : (y 0).val = k
  · rw [if_pos h, dif_pos]
    · congr 1
      rw [Equiv.symm_apply_eq]
      refine Eq.trans ?_ (shapeCast_dropUnit_apply (α := S1x2816x256.Idx) ![2816, 256] id shapeCasts_S1x2816x256_S2816x256 (at2 (y 1) (y 2))).symm
      funext a
      apply Fin.ext
      fin_cases a
      · show (y 0).val - k = 0
        omega
      · show (y 1).val - 0 = (y 1).val
        omega
      · show (y 2).val - 0 = (y 2).val
        omega
    · intro a
      fin_cases a
      · exact ⟨h.symm.le, by show (y 0).val < k + 1; omega⟩
      · exact ⟨Nat.zero_le _, by show (y 1).val < 0 + 2816; have h1 : (y 1).val < 2816 := (y 1).isLt; omega⟩
      · exact ⟨Nat.zero_le _, by show (y 2).val < 0 + 256; have h1 : (y 2).val < 256 := (y 2).isLt; omega⟩
  · rw [if_neg h, dif_neg]
    · rfl
    · intro hh
      have h0 := hh 0
      apply h
      have h1 : k ≤ (y 0).val := h0.1
      have h2 : (y 0).val < k + 1 := h0.2
      omega

/-- The same at a place told by its coordinates. -/
theorem peel3 {M : Memref sig .tc .vmem S22x1024x256 .f32} (k : ℕ)
    (inb : ∀ a, (![k, 0, 0] : Fin 3 → ℕ) a + S1x1024x256.size a ≤ S22x1024x256.size a)
    (hs : ∀ a, (Rect.unit (s := S22x1024x256) ![k, 0, 0] S1x1024x256.size inb).stride a = 1) (hq : S1x1024x256.Squeezes S1024x256)
    (f : M.view.ty.Contents (Elt F)) (w : S1024x256.Idx → Elt F .f32) (j : Fin 22) (a : Fin 1024) (b : Fin 256) :
    View.read (Elt F) M.view (View.write (Elt F) ((M.slice (Rect.unit (s := S22x1024x256) ![k, 0, 0] S1x1024x256.size inb) hs).squeeze S1024x256 hq).view f w Finset.univ) (at3 j a b)
      = if j.val = k then w (at2 a b) else View.read (Elt F) M.view f (at3 j a b) := peel k inb hs hq f w (at3 j a b)

/-- And so for the down weights, at a place told by its coordinates. -/
theorem peelD3 {M : Memref sig .tc .vmem S4x2816x256 .f32} (k : ℕ)
    (inb : ∀ a, (![k, 0, 0] : Fin 3 → ℕ) a + S1x2816x256.size a ≤ S4x2816x256.size a)
    (hs : ∀ a, (Rect.unit (s := S4x2816x256) ![k, 0, 0] S1x2816x256.size inb).stride a = 1) (hq : S1x2816x256.Squeezes S2816x256)
    (f : M.view.ty.Contents (Elt F)) (w : S2816x256.Idx → Elt F .f32) (j : Fin 4) (a : Fin 2816) (b : Fin 256) :
    View.read (Elt F) M.view (View.write (Elt F) ((M.slice (Rect.unit (s := S4x2816x256) ![k, 0, 0] S1x2816x256.size inb) hs).squeeze S2816x256 hq).view f w Finset.univ) (at3 j a b)
      = if j.val = k then w (at2 a b) else View.read (Elt F) M.view f (at3 j a b) := peelD k inb hs hq f w (at3 j a b)

/-- A part of the gate and up weights the transfers read. -/
theorem part_gu (c : Dev nD) (g4 : Buf (Elt F) (hbGu.view.loc (c : Thread nD τ))) (o : ℕ)
    (inb : ∀ a, (![0, o] : Fin 2 → ℕ) a + S1024x256.size a ≤ S1024x5632.size a)
    (hs : ∀ a, (Rect.unit (s := S1024x5632) ![0, o] S1024x256.size inb).stride a = 1) (a : Fin 1024) (b : Fin 256) (h : o + b.val < 5632) :
    View.read (Elt F) (hbGu.slice (Rect.unit (s := S1024x5632) ![0, o] S1024x256.size inb) hs).view g4 (at2 a b)
      = View.read (Elt F) hbGu.view g4 (at2 a ⟨o + b.val, h⟩) := by
  show View.read (Elt F) hbGu.view g4 _ = _
  congr 1
  funext d
  apply Fin.ext
  fin_cases d
  · show 0 + 1 * a.val = a.val
    omega
  · show o + 1 * b.val = o + b.val
    omega

/-- A part of the down weights the transfers read. -/
theorem part_dn (c : Dev nD) (g5 : Buf (Elt F) (hbDn.view.loc (c : Thread nD τ))) (o : ℕ)
    (inb : ∀ a, (![0, o] : Fin 2 → ℕ) a + S2816x256.size a ≤ S2816x1024.size a)
    (hs : ∀ a, (Rect.unit (s := S2816x1024) ![0, o] S2816x256.size inb).stride a = 1) (a : Fin 2816) (b : Fin 256) (h : o + b.val < 1024) :
    View.read (Elt F) (hbDn.slice (Rect.unit (s := S2816x1024) ![0, o] S2816x256.size inb) hs).view g5 (at2 a b)
      = View.read (Elt F) hbDn.view g5 (at2 a ⟨o + b.val, h⟩) := by
  show View.read (Elt F) hbDn.view g5 _ = _
  congr 1
  funext d
  apply Fin.ext
  fin_cases d
  · show 0 + 1 * a.val = a.val
    omega
  · show o + 1 * b.val = o + b.val
    omega

/-- The scratch of gate and up weights after the first step's transfers. -/
def nestGu (c : Dev nD) (g4 : Buf (Elt F) (hbGu.view.loc (c : Thread nD τ))) (g8 : Buf (Elt F) (scGu.view.loc (c : Thread nD τ))) :
    Buf (Elt F) (scGu.view.loc (c : Thread nD τ)) :=
  View.write (Elt F) ((scGu.slice (Rect.unit (s := S22x1024x256) ![21, 0, 0] S1x1024x256.size inb_S22x1024x256_S1x1024x256_21_0_0) (fun _ => rfl)).squeeze S1024x256 squeezes_S1x1024x256_S1024x256).view
    (View.write (Elt F) ((scGu.slice (Rect.unit (s := S22x1024x256) ![10, 0, 0] S1x1024x256.size inb_S22x1024x256_S1x1024x256_10_0_0) (fun _ => rfl)).squeeze S1024x256 squeezes_S1x1024x256_S1024x256).view
    (View.write (Elt F) ((scGu.slice (Rect.unit (s := S22x1024x256) ![20, 0, 0] S1x1024x256.size inb_S22x1024x256_S1x1024x256_20_0_0) (fun _ => rfl)).squeeze S1024x256 squeezes_S1x1024x256_S1024x256).view
    (View.write (Elt F) ((scGu.slice (Rect.unit (s := S22x1024x256) ![9, 0, 0] S1x1024x256.size inb_S22x1024x256_S1x1024x256_9_0_0) (fun _ => rfl)).squeeze S1024x256 squeezes_S1x1024x256_S1024x256).view
    (View.write (Elt F) ((scGu.slice (Rect.unit (s := S22x1024x256) ![19, 0, 0] S1x1024x256.size inb_S22x1024x256_S1x1024x256_19_0_0) (fun _ => rfl)).squeeze S1024x256 squeezes_S1x1024x256_S1024x256).view
    (View.write (Elt F) ((scGu.slice (Rect.unit (s := S22x1024x256) ![8, 0, 0] S1x1024x256.size inb_S22x1024x256_S1x1024x256_8_0_0) (fun _ => rfl)).squeeze S1024x256 squeezes_S1x1024x256_S1024x256).view
    (View.write (Elt F) ((scGu.slice (Rect.unit (s := S22x1024x256) ![18, 0, 0] S1x1024x256.size inb_S22x1024x256_S1x1024x256_18_0_0) (fun _ => rfl)).squeeze S1024x256 squeezes_S1x1024x256_S1024x256).view
    (View.write (Elt F) ((scGu.slice (Rect.unit (s := S22x1024x256) ![7, 0, 0] S1x1024x256.size inb_S22x1024x256_S1x1024x256_7_0_0) (fun _ => rfl)).squeeze S1024x256 squeezes_S1x1024x256_S1024x256).view
    (View.write (Elt F) ((scGu.slice (Rect.unit (s := S22x1024x256) ![17, 0, 0] S1x1024x256.size inb_S22x1024x256_S1x1024x256_17_0_0) (fun _ => rfl)).squeeze S1024x256 squeezes_S1x1024x256_S1024x256).view
    (View.write (Elt F) ((scGu.slice (Rect.unit (s := S22x1024x256) ![6, 0, 0] S1x1024x256.size inb_S22x1024x256_S1x1024x256_6_0_0) (fun _ => rfl)).squeeze S1024x256 squeezes_S1x1024x256_S1024x256).view
    (View.write (Elt F) ((scGu.slice (Rect.unit (s := S22x1024x256) ![16, 0, 0] S1x1024x256.size inb_S22x1024x256_S1x1024x256_16_0_0) (fun _ => rfl)).squeeze S1024x256 squeezes_S1x1024x256_S1024x256).view
    (View.write (Elt F) ((scGu.slice (Rect.unit (s := S22x1024x256) ![5, 0, 0] S1x1024x256.size inb_S22x1024x256_S1x1024x256_5_0_0) (fun _ => rfl)).squeeze S1024x256 squeezes_S1x1024x256_S1024x256).view
    (View.write (Elt F) ((scGu.slice (Rect.unit (s := S22x1024x256) ![15, 0, 0] S1x1024x256.size inb_S22x1024x256_S1x1024x256_15_0_0) (fun _ => rfl)).squeeze S1024x256 squeezes_S1x1024x256_S1024x256).view
    (View.write (Elt F) ((scGu.slice (Rect.unit (s := S22x1024x256) ![4, 0, 0] S1x1024x256.size inb_S22x1024x256_S1x1024x256_4_0_0) (fun _ => rfl)).squeeze S1024x256 squeezes_S1x1024x256_S1024x256).view
    (View.write (Elt F) ((scGu.slice (Rect.unit (s := S22x1024x256) ![14, 0, 0] S1x1024x256.size inb_S22x1024x256_S1x1024x256_14_0_0) (fun _ => rfl)).squeeze S1024x256 squeezes_S1x1024x256_S1024x256).view
    (View.write (Elt F) ((scGu.slice (Rect.unit (s := S22x1024x256) ![3, 0, 0] S1x1024x256.size inb_S22x1024x256_S1x1024x256_3_0_0) (fun _ => rfl)).squeeze S1024x256 squeezes_S1x1024x256_S1024x256).view
    (View.write (Elt F) ((scGu.slice (Rect.unit (s := S22x1024x256) ![13, 0, 0] S1x1024x256.size inb_S22x1024x256_S1x1024x256_13_0_0) (fun _ => rfl)).squeeze S1024x256 squeezes_S1x1024x256_S1024x256).view
    (View.write (Elt F) ((scGu.slice (Rect.unit (s := S22x1024x256) ![2, 0, 0] S1x1024x256.size inb_S22x1024x256_S1x1024x256_2_0_0) (fun _ => rfl)).squeeze S1024x256 squeezes_S1x1024x256_S1024x256).view
    (View.write (Elt F) ((scGu.slice (Rect.unit (s := S22x1024x256) ![12, 0, 0] S1x1024x256.size inb_S22x1024x256_S1x1024x256_12_0_0) (fun _ => rfl)).squeeze S1024x256 squeezes_S1x1024x256_S1024x256).view
    (View.write (Elt F) ((scGu.slice (Rect.unit (s := S22x1024x256) ![1, 0, 0] S1x1024x256.size inb_S22x1024x256_S1x1024x256_1_0_0) (fun _ => rfl)).squeeze S1024x256 squeezes_S1x1024x256_S1024x256).view
    (View.write (Elt F) ((scGu.slice (Rect.unit (s := S22x1024x256) ![11, 0, 0] S1x1024x256.size inb_S22x1024x256_S1x1024x256_11_0_0) (fun _ => rfl)).squeeze S1024x256 squeezes_S1x1024x256_S1024x256).view
    (View.write (Elt F) ((scGu.slice (Rect.unit (s := S22x1024x256) ![0, 0, 0] S1x1024x256.size inb_S22x1024x256_S1x1024x256_0_0_0) (fun _ => rfl)).squeeze S1024x256 squeezes_S1x1024x256_S1024x256).view
    (g8) (runA.sl.dma0 c g4) Finset.univ) (runA.sl.dma0_1 c g4) Finset.univ) (runA.sl.dma0_2 c g4) Finset.univ) (runA.sl.dma0_3 c g4) Finset.univ) (runA.sl.dma0_4 c g4) Finset.univ) (runA.sl.dma0_5 c g4) Finset.univ) (runA.sl.dma0_6 c g4) Finset.univ) (runA.sl.dma0_7 c g4) Finset.univ) (runA.sl.dma0_8 c g4) Finset.univ) (runA.sl.dma0_9 c g4) Finset.univ) (runA.sl.dma0_10 c g4) Finset.univ) (runA.sl.dma0_11 c g4) Finset.univ) (runA.sl.dma0_12 c g4) Finset.univ) (runA.sl.dma0_13 c g4) Finset.univ) (runA.sl.dma0_14 c g4) Finset.univ) (runA.sl.dma0_15 c g4) Finset.univ) (runA.sl.dma0_16 c g4) Finset.univ) (runA.sl.dma0_17 c g4) Finset.univ) (runA.sl.dma0_18 c g4) Finset.univ) (runA.sl.dma0_19 c g4) Finset.univ) (runA.sl.dma0_20 c g4) Finset.univ) (runA.sl.dma0_21 c g4) Finset.univ

/-- The scratch of down weights after the first step's transfers. -/
def nestDn (c : Dev nD) (g5 : Buf (Elt F) (hbDn.view.loc (c : Thread nD τ))) (g9 : Buf (Elt F) (scDn.view.loc (c : Thread nD τ))) :
    Buf (Elt F) (scDn.view.loc (c : Thread nD τ)) :=
  View.write (Elt F) ((scDn.slice (Rect.unit (s := S4x2816x256) ![3, 0, 0] S1x2816x256.size inb_S4x2816x256_S1x2816x256_3_0_0) (fun _ => rfl)).squeeze S2816x256 squeezes_S1x2816x256_S2816x256).view
    (View.write (Elt F) ((scDn.slice (Rect.unit (s := S4x2816x256) ![2, 0, 0] S1x2816x256.size inb_S4x2816x256_S1x2816x256_2_0_0) (fun _ => rfl)).squeeze S2816x256 squeezes_S1x2816x256_S2816x256).view
    (View.write (Elt F) ((scDn.slice (Rect.unit (s := S4x2816x256) ![1, 0, 0] S1x2816x256.size inb_S4x2816x256_S1x2816x256_1_0_0) (fun _ => rfl)).squeeze S2816x256 squeezes_S1x2816x256_S2816x256).view
    (View.write (Elt F) ((scDn.slice (Rect.unit (s := S4x2816x256) ![0, 0, 0] S1x2816x256.size inb_S4x2816x256_S1x2816x256_0_0_0) (fun _ => rfl)).squeeze S2816x256 squeezes_S1x2816x256_S2816x256).view
    (g9) (runA.sl.dma0_22 c g5) Finset.univ) (runA.sl.dma0_23 c g5) Finset.univ) (runA.sl.dma0_24 c g5) Finset.univ) (runA.sl.dma0_25 c g5) Finset.univ

/-- The transfers fill the scratch with the weights, group by group. -/
theorem read_nestGu (c : Dev nD) (g4 : Buf (Elt F) (hbGu.view.loc (c : Thread nD τ))) (g8 : Buf (Elt F) (scGu.view.loc (c : Thread nD τ))) :
    View.read (Elt F) scGu.view (nestGu c g4 g8) = gu0 (View.read (Elt F) hbGu.view g4) := by
  funext y
  obtain ⟨k, a, b, rfl⟩ : ∃ (k : Fin 22) (a : Fin 1024) (b : Fin 256), y = at3 k a b := ⟨y 0, y 1, y 2, by funext d; fin_cases d <;> rfl⟩
  unfold nestGu
  iterate 22 rw [peel3 (M := scGu)]
  show _ = View.read (Elt F) hbGu.view g4 (at2 a ⟨256 * k.val + b.val, _⟩)
  have hb : b.val < 256 := b.isLt
  fin_cases k
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 0 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 256 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 512 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 768 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 1024 _ _ a b (by omega)
  · rw [if_neg (by decide), if_neg (by decide), if_neg (by decide), if_neg (by decide), if_neg (by decide), if_neg (by decide), if_neg (by decide), if_neg (by decide), if_neg (by decide), if_neg (by decide), if_neg (by decide), if_pos rfl]
    exact part_gu c g4 1280 _ _ a b (by omega)
  · rw [if_neg (by decide), if_neg (by decide), if_neg (by decide), if_neg (by decide), if_neg (by decide), if_neg (by decide), if_neg (by decide), if_neg (by decide), if_neg (by decide), if_pos rfl]
    exact part_gu c g4 1536 _ _ a b (by omega)
  · rw [if_neg (by decide), if_neg (by decide), if_neg (by decide), if_neg (by decide), if_neg (by decide), if_neg (by decide), if_neg (by decide), if_pos rfl]
    exact part_gu c g4 1792 _ _ a b (by omega)
  · rw [if_neg (by decide), if_neg (by decide), if_neg (by decide), if_neg (by decide), if_neg (by decide), if_pos rfl]
    exact part_gu c g4 2048 _ _ a b (by omega)
  · rw [if_neg (by decide), if_neg (by decide), if_neg (by decide), if_pos rfl]
    exact part_gu c g4 2304 _ _ a b (by omega)
  · rw [if_neg (by decide), if_pos rfl]
    exact part_gu c g4 2560 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 2816 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 3072 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 3328 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 3584 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 3840 _ _ a b (by omega)
  · rw [if_neg (by decide), if_neg (by decide), if_neg (by decide), if_neg (by decide), if_neg (by decide), if_neg (by decide), if_neg (by decide), if_neg (by decide), if_neg (by decide), if_neg (by decide), if_pos rfl]
    exact part_gu c g4 4096 _ _ a b (by omega)
  · rw [if_neg (by decide), if_neg (by decide), if_neg (by decide), if_neg (by decide), if_neg (by decide), if_neg (by decide), if_neg (by decide), if_neg (by decide), if_pos rfl]
    exact part_gu c g4 4352 _ _ a b (by omega)
  · rw [if_neg (by decide), if_neg (by decide), if_neg (by decide), if_neg (by decide), if_neg (by decide), if_neg (by decide), if_pos rfl]
    exact part_gu c g4 4608 _ _ a b (by omega)
  · rw [if_neg (by decide), if_neg (by decide), if_neg (by decide), if_neg (by decide), if_pos rfl]
    exact part_gu c g4 4864 _ _ a b (by omega)
  · rw [if_neg (by decide), if_neg (by decide), if_pos rfl]
    exact part_gu c g4 5120 _ _ a b (by omega)
  · rw [if_pos rfl]
    exact part_gu c g4 5376 _ _ a b (by omega)

/-- The transfers fill the scratch with the down weights, group by group. -/
theorem read_nestDn (c : Dev nD) (g5 : Buf (Elt F) (hbDn.view.loc (c : Thread nD τ))) (g9 : Buf (Elt F) (scDn.view.loc (c : Thread nD τ))) :
    View.read (Elt F) scDn.view (nestDn c g5 g9) = dn0 (View.read (Elt F) hbDn.view g5) := by
  funext y
  obtain ⟨k, a, b, rfl⟩ : ∃ (k : Fin 4) (a : Fin 2816) (b : Fin 256), y = at3 k a b := ⟨y 0, y 1, y 2, by funext d; fin_cases d <;> rfl⟩
  unfold nestDn
  iterate 4 rw [peelD3 (M := scDn)]
  show _ = View.read (Elt F) hbDn.view g5 (at2 a ⟨256 * k.val + b.val, _⟩)
  have hb : b.val < 256 := b.isLt
  fin_cases k
  · rw [if_neg (by decide), if_neg (by decide), if_neg (by decide), if_pos rfl]
    exact part_dn c g5 0 _ _ a b (by omega)
  · rw [if_neg (by decide), if_neg (by decide), if_pos rfl]
    exact part_dn c g5 256 _ _ a b (by omega)
  · rw [if_neg (by decide), if_pos rfl]
    exact part_dn c g5 512 _ _ a b (by omega)
  · rw [if_pos rfl]
    exact part_dn c g5 768 _ _ a b (by omega)

end Cert.Kernel3Ideal.Hand

end
-- ==== Proof.FfnIdealVals.lean ====
/- What the loads and stores of a step of the feed-forward call hold. -/
module

public import proofs.«01_k».proof.Proof.FfnIdealTile

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A load of all of a whole two-axis buffer reads its contents. -/
theorem load_all {a b : ℕ} {e : EltTy} {M : Memref sig .tc .vmem ⟨2, ![a, b]⟩ e} (h : M.IsWhole)
    (inb : ∀ d, (![0, 0] : Fin 2 → ℕ) d + (⟨2, ![a, b]⟩ : Shape).size d ≤ (⟨2, ![a, b]⟩ : Shape).size d) (X : Vec F ⟨2, ![a, b]⟩ e) :
    View.readAt (Elt F) M.view (Rect.unit (s := ⟨2, ![a, b]⟩) ![0, 0] (⟨2, ![a, b]⟩ : Shape).size inb).toLoadRect (h.unread X) = X := by
  funext y
  refine (h.readAt_unread X _ y).trans ?_
  congr 1
  funext d
  apply Fin.ext
  fin_cases d
  · show 0 + 1 * (y 0).val = (y 0).val
    omega
  · show 0 + 1 * (y 1).val = (y 1).val
    omega

/-- One piece of the hidden block. -/
theorem mid_piece (h : FVec F S512x1024 .bf16) (g : Vec F S22x1024x256 .f32) (k o : ℕ) (hk : o = 256 * k)
    (inb : ∀ d, (![0, o] : Fin 2 → ℕ) d + S512x256.size d ≤ S512x2816.size d) (x : (Rect.unit (s := S512x2816) ![0, o] S512x256.size inb).shape.Idx) :
    act h (slab g k) (slab g (11 + k)) x = mid h g ((Rect.unit (s := S512x2816) ![0, o] S512x256.size inb).emb x) := by
  subst hk
  have hx : (x 1).val < 256 := (x 1).isLt
  have e0 : (((Rect.unit (s := S512x2816) ![0, 256 * k] S512x256.size inb).emb x) 0).val = (x 0).val := by
    show 0 + 1 * (x 0).val = (x 0).val
    omega
  have e1 : (((Rect.unit (s := S512x2816) ![0, 256 * k] S512x256.size inb).emb x) 1).val = 256 * k + (x 1).val := by
    show 256 * k + 1 * (x 1).val = 256 * k + (x 1).val
    omega
  have hd : (((Rect.unit (s := S512x2816) ![0, 256 * k] S512x256.size inb).emb x) 1).val / 256 = k := by rw [e1]; omega
  unfold mid
  rw [hd]
  congr 1
  funext d
  apply Fin.ext
  fin_cases d
  · exact e0.symm
  · show (x 1).val = (((Rect.unit (s := S512x2816) ![0, 256 * k] S512x256.size inb).emb x) 1).val % 256
    rw [e1]
    omega

/-- The eleven pieces of the hidden block. -/
def midPieces (h : FVec F S512x1024 .bf16) (g : Vec F S22x1024x256 .f32) : List (View.Piece (Elt F) S512x2816 .bf16) :=
  [⟨Rect.unit (s := S512x2816) ![0, 2560] S512x256.size inb_S512x2816_S512x256_0_2560, act h (slab g 10) (slab g 21)⟩,
    ⟨Rect.unit (s := S512x2816) ![0, 2304] S512x256.size inb_S512x2816_S512x256_0_2304, act h (slab g 9) (slab g 20)⟩,
    ⟨Rect.unit (s := S512x2816) ![0, 2048] S512x256.size inb_S512x2816_S512x256_0_2048, act h (slab g 8) (slab g 19)⟩,
    ⟨Rect.unit (s := S512x2816) ![0, 1792] S512x256.size inb_S512x2816_S512x256_0_1792, act h (slab g 7) (slab g 18)⟩,
    ⟨Rect.unit (s := S512x2816) ![0, 1536] S512x256.size inb_S512x2816_S512x256_0_1536, act h (slab g 6) (slab g 17)⟩,
    ⟨Rect.unit (s := S512x2816) ![0, 1280] S512x256.size inb_S512x2816_S512x256_0_1280, act h (slab g 5) (slab g 16)⟩,
    ⟨Rect.unit (s := S512x2816) ![0, 1024] S512x256.size inb_S512x2816_S512x256_0_1024, act h (slab g 4) (slab g 15)⟩,
    ⟨Rect.unit (s := S512x2816) ![0, 768] S512x256.size inb_S512x2816_S512x256_0_768, act h (slab g 3) (slab g 14)⟩,
    ⟨Rect.unit (s := S512x2816) ![0, 512] S512x256.size inb_S512x2816_S512x256_0_512, act h (slab g 2) (slab g 13)⟩,
    ⟨Rect.unit (s := S512x2816) ![0, 256] S512x256.size inb_S512x2816_S512x256_0_256, act h (slab g 1) (slab g 12)⟩,
    ⟨Rect.unit (s := S512x2816) ![0, 0] S512x256.size inb_S512x2816_S512x256_0_0, act h (slab g 0) (slab g 11)⟩]

/-- The eleven pieces cover the hidden block, and it reads as `mid`. -/
theorem load_mid (h : FVec F S512x1024 .bf16) (g : Vec F S22x1024x256 .f32) {M : Memref sig .tc .vmem S512x2816 .bf16}
    (inb : ∀ d, (![0, 0] : Fin 2 → ℕ) d + S512x2816.size d ≤ S512x2816.size d) :
    M.view.readCov (midPieces h g) (Rect.unit (s := S512x2816) ![0, 0] S512x2816.size inb).toLoadRect = mid h g := by
  have hcov : ∀ y : S512x2816.Idx, ∃ p ∈ midPieces h g, y ∈ p.1.set :=
    View.cover_of_tiledL (midPieces h g) S512x256.size (by sl_kernel_rfl)
  refine (View.readCov_eq_canon M.view (midPieces h g) _ fun j => hcov _).trans ?_
  funext y
  refine (View.canon_apply_of_pieces (mid h g) (midPieces h g) ?_ _ (hcov _)).trans ?_
  · unfold midPieces
    simp only [List.forall_mem_cons, List.not_mem_nil, false_imp_iff, implies_true, and_true]
    exact ⟨fun x => mid_piece h g 10 2560 rfl _ x, fun x => mid_piece h g 9 2304 rfl _ x, fun x => mid_piece h g 8 2048 rfl _ x, fun x => mid_piece h g 7 1792 rfl _ x, fun x => mid_piece h g 6 1536 rfl _ x, fun x => mid_piece h g 5 1280 rfl _ x, fun x => mid_piece h g 4 1024 rfl _ x, fun x => mid_piece h g 3 768 rfl _ x, fun x => mid_piece h g 2 512 rfl _ x, fun x => mid_piece h g 1 256 rfl _ x, fun x => mid_piece h g 0 0 rfl _ x⟩
  · congr 1
    funext d
    apply Fin.ext
    fin_cases d
    · show 0 + 1 * (y 0).val = (y 0).val
      omega
    · show 0 + 1 * (y 1).val = (y 1).val
      omega

theorem ldA_182 (c : Dev nD) (g4 : Buf (Elt F) (hbGu.view.loc (c : Thread nD τ))) (g8 : Buf (Elt F) (scGu.view.loc (c : Thread nD τ))) :
    runA.sl.v182 c g4 g8 = slab (gu0 (View.read (Elt F) hbGu.view g4)) 0 :=
  (readAt_slab (M := scGu) (nestGu c g4 g8) 0 (by decide) _).trans (congrArg (fun s => slab s 0) (read_nestGu c g4 g8))

theorem ldA_186 (c : Dev nD) (g4 : Buf (Elt F) (hbGu.view.loc (c : Thread nD τ))) (g8 : Buf (Elt F) (scGu.view.loc (c : Thread nD τ))) :
    runA.sl.v186 c g4 g8 = slab (gu0 (View.read (Elt F) hbGu.view g4)) 11 :=
  (readAt_slab (M := scGu) (nestGu c g4 g8) 11 (by decide) _).trans (congrArg (fun s => slab s 11) (read_nestGu c g4 g8))

theorem ldA_207 (c : Dev nD) (g4 : Buf (Elt F) (hbGu.view.loc (c : Thread nD τ))) (g8 : Buf (Elt F) (scGu.view.loc (c : Thread nD τ))) :
    runA.sl.v207 c g4 g8 = slab (gu0 (View.read (Elt F) hbGu.view g4)) 1 :=
  (readAt_slab (M := scGu) (nestGu c g4 g8) 1 (by decide) _).trans (congrArg (fun s => slab s 1) (read_nestGu c g4 g8))

theorem ldA_211 (c : Dev nD) (g4 : Buf (Elt F) (hbGu.view.loc (c : Thread nD τ))) (g8 : Buf (Elt F) (scGu.view.loc (c : Thread nD τ))) :
    runA.sl.v211 c g4 g8 = slab (gu0 (View.read (Elt F) hbGu.view g4)) 12 :=
  (readAt_slab (M := scGu) (nestGu c g4 g8) 12 (by decide) _).trans (congrArg (fun s => slab s 12) (read_nestGu c g4 g8))

theorem ldA_232 (c : Dev nD) (g4 : Buf (Elt F) (hbGu.view.loc (c : Thread nD τ))) (g8 : Buf (Elt F) (scGu.view.loc (c : Thread nD τ))) :
    runA.sl.v232 c g4 g8 = slab (gu0 (View.read (Elt F) hbGu.view g4)) 2 :=
  (readAt_slab (M := scGu) (nestGu c g4 g8) 2 (by decide) _).trans (congrArg (fun s => slab s 2) (read_nestGu c g4 g8))

theorem ldA_236 (c : Dev nD) (g4 : Buf (Elt F) (hbGu.view.loc (c : Thread nD τ))) (g8 : Buf (Elt F) (scGu.view.loc (c : Thread nD τ))) :
    runA.sl.v236 c g4 g8 = slab (gu0 (View.read (Elt F) hbGu.view g4)) 13 :=
  (readAt_slab (M := scGu) (nestGu c g4 g8) 13 (by decide) _).trans (congrArg (fun s => slab s 13) (read_nestGu c g4 g8))

theorem ldA_257 (c : Dev nD) (g4 : Buf (Elt F) (hbGu.view.loc (c : Thread nD τ))) (g8 : Buf (Elt F) (scGu.view.loc (c : Thread nD τ))) :
    runA.sl.v257 c g4 g8 = slab (gu0 (View.read (Elt F) hbGu.view g4)) 3 :=
  (readAt_slab (M := scGu) (nestGu c g4 g8) 3 (by decide) _).trans (congrArg (fun s => slab s 3) (read_nestGu c g4 g8))

theorem ldA_261 (c : Dev nD) (g4 : Buf (Elt F) (hbGu.view.loc (c : Thread nD τ))) (g8 : Buf (Elt F) (scGu.view.loc (c : Thread nD τ))) :
    runA.sl.v261 c g4 g8 = slab (gu0 (View.read (Elt F) hbGu.view g4)) 14 :=
  (readAt_slab (M := scGu) (nestGu c g4 g8) 14 (by decide) _).trans (congrArg (fun s => slab s 14) (read_nestGu c g4 g8))

theorem ldA_282 (c : Dev nD) (g4 : Buf (Elt F) (hbGu.view.loc (c : Thread nD τ))) (g8 : Buf (Elt F) (scGu.view.loc (c : Thread nD τ))) :
    runA.sl.v282 c g4 g8 = slab (gu0 (View.read (Elt F) hbGu.view g4)) 4 :=
  (readAt_slab (M := scGu) (nestGu c g4 g8) 4 (by decide) _).trans (congrArg (fun s => slab s 4) (read_nestGu c g4 g8))

theorem ldA_286 (c : Dev nD) (g4 : Buf (Elt F) (hbGu.view.loc (c : Thread nD τ))) (g8 : Buf (Elt F) (scGu.view.loc (c : Thread nD τ))) :
    runA.sl.v286 c g4 g8 = slab (gu0 (View.read (Elt F) hbGu.view g4)) 15 :=
  (readAt_slab (M := scGu) (nestGu c g4 g8) 15 (by decide) _).trans (congrArg (fun s => slab s 15) (read_nestGu c g4 g8))

theorem ldA_307 (c : Dev nD) (g4 : Buf (Elt F) (hbGu.view.loc (c : Thread nD τ))) (g8 : Buf (Elt F) (scGu.view.loc (c : Thread nD τ))) :
    runA.sl.v307 c g4 g8 = slab (gu0 (View.read (Elt F) hbGu.view g4)) 5 :=
  (readAt_slab (M := scGu) (nestGu c g4 g8) 5 (by decide) _).trans (congrArg (fun s => slab s 5) (read_nestGu c g4 g8))

theorem ldA_311 (c : Dev nD) (g4 : Buf (Elt F) (hbGu.view.loc (c : Thread nD τ))) (g8 : Buf (Elt F) (scGu.view.loc (c : Thread nD τ))) :
    runA.sl.v311 c g4 g8 = slab (gu0 (View.read (Elt F) hbGu.view g4)) 16 :=
  (readAt_slab (M := scGu) (nestGu c g4 g8) 16 (by decide) _).trans (congrArg (fun s => slab s 16) (read_nestGu c g4 g8))

theorem ldA_332 (c : Dev nD) (g4 : Buf (Elt F) (hbGu.view.loc (c : Thread nD τ))) (g8 : Buf (Elt F) (scGu.view.loc (c : Thread nD τ))) :
    runA.sl.v332 c g4 g8 = slab (gu0 (View.read (Elt F) hbGu.view g4)) 6 :=
  (readAt_slab (M := scGu) (nestGu c g4 g8) 6 (by decide) _).trans (congrArg (fun s => slab s 6) (read_nestGu c g4 g8))

theorem ldA_336 (c : Dev nD) (g4 : Buf (Elt F) (hbGu.view.loc (c : Thread nD τ))) (g8 : Buf (Elt F) (scGu.view.loc (c : Thread nD τ))) :
    runA.sl.v336 c g4 g8 = slab (gu0 (View.read (Elt F) hbGu.view g4)) 17 :=
  (readAt_slab (M := scGu) (nestGu c g4 g8) 17 (by decide) _).trans (congrArg (fun s => slab s 17) (read_nestGu c g4 g8))

theorem ldA_357 (c : Dev nD) (g4 : Buf (Elt F) (hbGu.view.loc (c : Thread nD τ))) (g8 : Buf (Elt F) (scGu.view.loc (c : Thread nD τ))) :
    runA.sl.v357 c g4 g8 = slab (gu0 (View.read (Elt F) hbGu.view g4)) 7 :=
  (readAt_slab (M := scGu) (nestGu c g4 g8) 7 (by decide) _).trans (congrArg (fun s => slab s 7) (read_nestGu c g4 g8))

theorem ldA_361 (c : Dev nD) (g4 : Buf (Elt F) (hbGu.view.loc (c : Thread nD τ))) (g8 : Buf (Elt F) (scGu.view.loc (c : Thread nD τ))) :
    runA.sl.v361 c g4 g8 = slab (gu0 (View.read (Elt F) hbGu.view g4)) 18 :=
  (readAt_slab (M := scGu) (nestGu c g4 g8) 18 (by decide) _).trans (congrArg (fun s => slab s 18) (read_nestGu c g4 g8))

theorem ldA_382 (c : Dev nD) (g4 : Buf (Elt F) (hbGu.view.loc (c : Thread nD τ))) (g8 : Buf (Elt F) (scGu.view.loc (c : Thread nD τ))) :
    runA.sl.v382 c g4 g8 = slab (gu0 (View.read (Elt F) hbGu.view g4)) 8 :=
  (readAt_slab (M := scGu) (nestGu c g4 g8) 8 (by decide) _).trans (congrArg (fun s => slab s 8) (read_nestGu c g4 g8))

theorem ldA_386 (c : Dev nD) (g4 : Buf (Elt F) (hbGu.view.loc (c : Thread nD τ))) (g8 : Buf (Elt F) (scGu.view.loc (c : Thread nD τ))) :
    runA.sl.v386 c g4 g8 = slab (gu0 (View.read (Elt F) hbGu.view g4)) 19 :=
  (readAt_slab (M := scGu) (nestGu c g4 g8) 19 (by decide) _).trans (congrArg (fun s => slab s 19) (read_nestGu c g4 g8))

theorem ldA_407 (c : Dev nD) (g4 : Buf (Elt F) (hbGu.view.loc (c : Thread nD τ))) (g8 : Buf (Elt F) (scGu.view.loc (c : Thread nD τ))) :
    runA.sl.v407 c g4 g8 = slab (gu0 (View.read (Elt F) hbGu.view g4)) 9 :=
  (readAt_slab (M := scGu) (nestGu c g4 g8) 9 (by decide) _).trans (congrArg (fun s => slab s 9) (read_nestGu c g4 g8))

theorem ldA_411 (c : Dev nD) (g4 : Buf (Elt F) (hbGu.view.loc (c : Thread nD τ))) (g8 : Buf (Elt F) (scGu.view.loc (c : Thread nD τ))) :
    runA.sl.v411 c g4 g8 = slab (gu0 (View.read (Elt F) hbGu.view g4)) 20 :=
  (readAt_slab (M := scGu) (nestGu c g4 g8) 20 (by decide) _).trans (congrArg (fun s => slab s 20) (read_nestGu c g4 g8))

theorem ldA_432 (c : Dev nD) (g4 : Buf (Elt F) (hbGu.view.loc (c : Thread nD τ))) (g8 : Buf (Elt F) (scGu.view.loc (c : Thread nD τ))) :
    runA.sl.v432 c g4 g8 = slab (gu0 (View.read (Elt F) hbGu.view g4)) 10 :=
  (readAt_slab (M := scGu) (nestGu c g4 g8) 10 (by decide) _).trans (congrArg (fun s => slab s 10) (read_nestGu c g4 g8))

theorem ldA_436 (c : Dev nD) (g4 : Buf (Elt F) (hbGu.view.loc (c : Thread nD τ))) (g8 : Buf (Elt F) (scGu.view.loc (c : Thread nD τ))) :
    runA.sl.v436 c g4 g8 = slab (gu0 (View.read (Elt F) hbGu.view g4)) 21 :=
  (readAt_slab (M := scGu) (nestGu c g4 g8) 21 (by decide) _).trans (congrArg (fun s => slab s 21) (read_nestGu c g4 g8))

theorem ldA_515 (c : Dev nD) (g4 : Buf (Elt F) (hbGu.view.loc (c : Thread nD τ))) (g8 : Buf (Elt F) (scGu.view.loc (c : Thread nD τ))) :
    runA.sl.v515 c g4 g8 = slab (gu0 (View.read (Elt F) hbGu.view g4)) 11 :=
  (readAt_slab (M := scGu) (nestGu c g4 g8) 11 (by decide) _).trans (congrArg (fun s => slab s 11) (read_nestGu c g4 g8))

theorem ldA_469 (c : Dev nD) (g5 : Buf (Elt F) (hbDn.view.loc (c : Thread nD τ))) (g9 : Buf (Elt F) (scDn.view.loc (c : Thread nD τ))) :
    runA.sl.v469 c g5 g9 = slabD (dn0 (View.read (Elt F) hbDn.view g5)) 0 :=
  (readAt_slabD (M := scDn) (nestDn c g5 g9) 0 (by decide) _).trans (congrArg (fun s => slabD s 0) (read_nestDn c g5 g9))

theorem ldA_474 (c : Dev nD) (g5 : Buf (Elt F) (hbDn.view.loc (c : Thread nD τ))) (g9 : Buf (Elt F) (scDn.view.loc (c : Thread nD τ))) :
    runA.sl.v474 c g5 g9 = slabD (dn0 (View.read (Elt F) hbDn.view g5)) 1 :=
  (readAt_slabD (M := scDn) (nestDn c g5 g9) 1 (by decide) _).trans (congrArg (fun s => slabD s 1) (read_nestDn c g5 g9))

theorem ldA_479 (c : Dev nD) (g5 : Buf (Elt F) (hbDn.view.loc (c : Thread nD τ))) (g9 : Buf (Elt F) (scDn.view.loc (c : Thread nD τ))) :
    runA.sl.v479 c g5 g9 = slabD (dn0 (View.read (Elt F) hbDn.view g5)) 2 :=
  (readAt_slabD (M := scDn) (nestDn c g5 g9) 2 (by decide) _).trans (congrArg (fun s => slabD s 2) (read_nestDn c g5 g9))

theorem ldA_484 (c : Dev nD) (g5 : Buf (Elt F) (hbDn.view.loc (c : Thread nD τ))) (g9 : Buf (Elt F) (scDn.view.loc (c : Thread nD τ))) :
    runA.sl.v484 c g5 g9 = slabD (dn0 (View.read (Elt F) hbDn.view g5)) 3 :=
  (readAt_slabD (M := scDn) (nestDn c g5 g9) 3 (by decide) _).trans (congrArg (fun s => slabD s 3) (read_nestDn c g5 g9))

/-- The first step's normalised rows. -/
theorem hidA (c : Dev nD) (arg1 : Memref sig .tc .vmem S512x1024 .f32) (harg1 : arg1.IsWhole) (arg3 : Memref sig .tc .vmem S1x1024 .f32) (harg3 : arg3.IsWhole) (x0 : Vec F S512x1024 .f32) (x2 : Vec F S1x1024 .f32) : runA.sl.r c arg1 harg1 arg3 harg3 x0 x2 = hid x0 x2 := by
  unfold runA.sl.r
  rw [load_all harg1 _ x0, load_all harg3 _ x2]
  rfl

/-- The first step's hidden pieces. -/
theorem piecesA (c : Dev nD) (arg1 : Memref sig .tc .vmem S512x1024 .f32) (harg1 : arg1.IsWhole) (arg3 : Memref sig .tc .vmem S1x1024 .f32) (harg3 : arg3.IsWhole) (x0 : Vec F S512x1024 .f32) (x2 : Vec F S1x1024 .f32) (g4 : Buf (Elt F) (hbGu.view.loc (c : Thread nD τ))) (g8 : Buf (Elt F) (scGu.view.loc (c : Thread nD τ))) :
    runA.sl.H10_11 c arg1 harg1 arg3 harg3 x0 x2 g4 g8 = midPieces (hid x0 x2) (gu0 (View.read (Elt F) hbGu.view g4)) := by
  unfold runA.sl.H10_11 runA.sl.r_1 runA.sl.r_2 runA.sl.r_3 runA.sl.r_4
  simp only [hidA, ldA_182, ldA_186, ldA_207, ldA_211, ldA_232, ldA_236, ldA_257, ldA_261, ldA_282, ldA_286, ldA_307, ldA_311, ldA_332, ldA_336, ldA_357, ldA_361, ldA_382, ldA_386, ldA_407, ldA_411, ldA_432, ldA_436]
  rfl

/-- The first step's hidden block. -/
theorem midA (c : Dev nD) (arg1 : Memref sig .tc .vmem S512x1024 .f32) (harg1 : arg1.IsWhole) (arg3 : Memref sig .tc .vmem S1x1024 .f32) (harg3 : arg3.IsWhole) (arg10 : Memref sig .tc .vmem S512x2816 .bf16) (x0 : Vec F S512x1024 .f32) (x2 : Vec F S1x1024 .f32) (g4 : Buf (Elt F) (hbGu.view.loc (c : Thread nD τ))) (g8 : Buf (Elt F) (scGu.view.loc (c : Thread nD τ))) :
    runA.sl.v468 c arg1 harg1 arg3 harg3 arg10 x0 x2 g4 g8 = mid (hid x0 x2) (gu0 (View.read (Elt F) hbGu.view g4)) := by
  unfold runA.sl.v468
  rw [piecesA]
  exact load_mid _ _ _

end Cert.Kernel3Ideal.Hand

end
-- ==== Proof.FfnIdealStep.lean ====
/- The two kinds of step of the feed-forward call, in plain terms. -/
module

public import proofs.«01_k».proof.Proof.FfnIdealVals
public import Idealize.ShloMosaic.Lib.VecWindow

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slot of the parity of `k` in the buffer of normalised rows. -/
def slotH (s : Vec F S2x512x1024 .bf16) (k : ℕ) : Vec F S1x512x1024 .bf16 := fun y => s (at3 ⟨k % 2, Nat.mod_lt _ (by decide)⟩ (y 1) (y 2))

/-- The slot of the parity of `k` in the buffer of first activations. -/
def slotA (s : Vec F S2x512x256 .bf16) (k : ℕ) : Vec F S1x512x256 .bf16 := fun y => s (at3 ⟨k % 2, Nat.mod_lt _ (by decide)⟩ (y 1) (y 2))

/-- A store of a slot leaves it in that slot. -/
theorem storeH {M : Memref sig .tc .vmem S2x512x1024 .bf16} (f : M.view.ty.Contents (Elt F)) {off : Fin 3 → ℕ} (k : ℕ) (hoff : off = ![k % 2, 0, 0])
    (inb : ∀ a, off a + S1x512x1024.size a ≤ S2x512x1024.size a) (w : Vec F S1x512x1024 .bf16) :
    slotH (View.read (Elt F) M.view (M.view.writes (Elt F) f [⟨Rect.unit (s := S2x512x1024) off S1x512x1024.size inb, w⟩])) k = w := by
  funext y
  refine View.read_writes_cons_unit_of_mem M.view f inb w [] _ y hoff fun a => ?_
  have h0 : (y 0).val = 0 := by have h0 : (y 0).val < 1 := (y 0).isLt; omega
  fin_cases a
  · show k % 2 = k % 2 + (y 0).val
    omega
  · show (y 1).val = 0 + (y 1).val
    omega
  · show (y 2).val = 0 + (y 2).val
    omega

/-- A load of a slot reads it. -/
theorem loadH {M : Memref sig .tc .vmem S2x512x1024 .bf16} (h : M.IsWhole) (s : Vec F S2x512x1024 .bf16) {off : Fin 3 → ℕ} (k : ℕ) (hoff : off = ![k % 2, 0, 0])
    (inb : ∀ a, off a + S1x512x1024.size a ≤ S2x512x1024.size a) :
    View.readAt (Elt F) M.view (Rect.unit (s := S2x512x1024) off S1x512x1024.size inb).toLoadRect (h.unread s) = slotH s k := by
  subst hoff
  funext y
  refine (h.readAt_unread s _ y).trans ?_
  unfold slotH
  congr 1
  funext a
  apply Fin.ext
  have h0 : (y 0).val = 0 := by have h0 : (y 0).val < 1 := (y 0).isLt; omega
  fin_cases a
  · show k % 2 + 1 * (y 0).val = k % 2
    omega
  · show 0 + 1 * (y 1).val = (y 1).val
    omega
  · show 0 + 1 * (y 2).val = (y 2).val
    omega

/-- A store of a slot leaves it in that slot. -/
theorem storeA {M : Memref sig .tc .vmem S2x512x256 .bf16} (f : M.view.ty.Contents (Elt F)) {off : Fin 3 → ℕ} (k : ℕ) (hoff : off = ![k % 2, 0, 0])
    (inb : ∀ a, off a + S1x512x256.size a ≤ S2x512x256.size a) (w : Vec F S1x512x256 .bf16) :
    slotA (View.read (Elt F) M.view (M.view.writes (Elt F) f [⟨Rect.unit (s := S2x512x256) off S1x512x256.size inb, w⟩])) k = w := by
  funext y
  refine View.read_writes_cons_unit_of_mem M.view f inb w [] _ y hoff fun a => ?_
  have h0 : (y 0).val = 0 := by have h0 : (y 0).val < 1 := (y 0).isLt; omega
  fin_cases a
  · show k % 2 = k % 2 + (y 0).val
    omega
  · show (y 1).val = 0 + (y 1).val
    omega
  · show (y 2).val = 0 + (y 2).val
    omega

/-- A load of a slot reads it. -/
theorem loadA {M : Memref sig .tc .vmem S2x512x256 .bf16} (h : M.IsWhole) (s : Vec F S2x512x256 .bf16) {off : Fin 3 → ℕ} (k : ℕ) (hoff : off = ![k % 2, 0, 0])
    (inb : ∀ a, off a + S1x512x256.size a ≤ S2x512x256.size a) :
    View.readAt (Elt F) M.view (Rect.unit (s := S2x512x256) off S1x512x256.size inb).toLoadRect (h.unread s) = slotA s k := by
  subst hoff
  funext y
  refine (h.readAt_unread s _ y).trans ?_
  unfold slotA
  congr 1
  funext a
  apply Fin.ext
  have h0 : (y 0).val = 0 := by have h0 : (y 0).val < 1 := (y 0).isLt; omega
  fin_cases a
  · show k % 2 + 1 * (y 0).val = k % 2
    omega
  · show 0 + 1 * (y 1).val = (y 1).val
    omega
  · show 0 + 1 * (y 2).val = (y 2).val
    omega

/-- A later step's load of one group of the gate and up weights. -/
theorem ld8 {M : Memref sig .tc .vmem S22x1024x256 .f32} (h : M.IsWhole) (s : Vec F S22x1024x256 .f32) (k : ℕ)
    (inb : ∀ a, (![k, 0, 0] : Fin 3 → ℕ) a + S1x1024x256.size a ≤ S22x1024x256.size a) :
    View.readAt (Elt F) M.view (Rect.unit (s := S22x1024x256) ![k, 0, 0] S1x1024x256.size inb).toLoadRect (h.unread s) = slab s k :=
  (readAt_slab (h.unread s) k (by have h0 : k + 1 ≤ 22 := inb 0; omega) inb).trans (congrArg (fun s => slab s k) (h.read_unread s))

/-- A later step's load of one group of the down weights. -/
theorem ld9 {M : Memref sig .tc .vmem S4x2816x256 .f32} (h : M.IsWhole) (s : Vec F S4x2816x256 .f32) (k : ℕ)
    (inb : ∀ a, (![k, 0, 0] : Fin 3 → ℕ) a + S1x2816x256.size a ≤ S4x2816x256.size a) :
    View.readAt (Elt F) M.view (Rect.unit (s := S4x2816x256) ![k, 0, 0] S1x2816x256.size inb).toLoadRect (h.unread s) = slabD s k :=
  (readAt_slabD (h.unread s) k (by have h0 : k + 1 ≤ 4 := inb 0; omega) inb).trans (congrArg (fun s => slabD s k) (h.read_unread s))

/-- Carried normalised rows read back. -/
theorem cast_hid (x : Vec F S512x1024 .f32) (g : Vec F S1x1024 .f32) : k0_pay25 (k0_pay46 x g) = hid x g := by
  unfold k0_pay25 k0_pay46
  exact shapeCast_shapeCast _ _ _

/-- Carried activations read back. -/
theorem cast_act (h : FVec F S512x1024 .bf16) (a b : Vec F S1x1024x256 .f32) : k0_pay26 (k0_pay2 h a b) = act h a b := by
  unfold k0_pay26 k0_pay2 act k0_pay41
  dsimp only
  rw [shapeCast_shapeCast (s := S512x256) (t := S1x512x256)]

set_option maxHeartbeats 4000000 in
/-- The first step, in plain terms. -/
theorem stepA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg6 : Memref sig .tc .vmem S1x1024 .f32) (harg6 : arg6.IsWhole) (arg7 : Memref sig .tc .vmem S512x1024 .f32) (harg7 : arg7.IsWhole) (arg10 : Memref sig .tc .vmem S512x2816 .bf16) (harg10 : arg10.IsWhole) (arg11 : Memref sig .tc .vmem S2x512x1024 .bf16) (harg11 : arg11.IsWhole) (arg12 : Memref sig .tc .vmem S2x512x256 .bf16) (harg12 : arg12.IsWhole)
    (hc1 : k0_cond1 i = 1#1) (hc2 : ¬ k0_cond2 i = 1#1) (ho1 : k0_off1 i = ![((i 0).val + 1) % 2, 0, 0]) (ho2 : k0_off2 i = ![((i 0).val + 1) % 2, 0, 0])
    (x0 x1 : Vec F S512x1024 .f32) (x2 x3 : Vec F S1x1024 .f32)
    (g4 : Buf (Elt F) (hbGu.view.loc (c : Thread nD τ))) (g5 : Buf (Elt F) (hbDn.view.loc (c : Thread nD τ)))
    (g8 : Buf (Elt F) (scGu.view.loc (c : Thread nD τ))) (g9 : Buf (Elt F) (scDn.view.loc (c : Thread nD τ)))
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ wholeAt c scGu g8 ∗ wholeAt c scDn g9 ∗ (∃ d, owns (c : Thread nD τ) arg10 fullShare d) ∗ (∃ f, arg11.view.loc (c : Thread nD τ) ↦[arg11.view.set]{fullShare} f) ∗ (∃ f, arg12.view.loc (c : Thread nD τ) ↦[arg12.view.set]{fullShare} f) ∗ wholeAt c hbGu g4 ∗ wholeAt c hbDn g5 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ owes (c : Thread nD τ) 0 W ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare (tile x0 x3 (mid (hid x0 x2) (gu0 (View.read (Elt F) hbGu.view g4))) (dn0 (View.read (Elt F) hbDn.view g5))) ∗ owns (c : Thread nD τ) scGu fullShare (gu0 (View.read (Elt F) hbGu.view g4)) ∗ owns (c : Thread nD τ) scDn fullShare (dn0 (View.read (Elt F) hbDn.view g5)) ∗ (∃ d, owns (c : Thread nD τ) arg10 fullShare d) ∗ (∃ s, ⌜slotH s ((i 0).val + 1) = k0_pay46 x1 x2⌝ ∗ owns (c : Thread nD τ) arg11 fullShare s) ∗ (∃ s, ⌜slotA s ((i 0).val + 1) = k0_pay2 (hid x1 x2) (slab (gu0 (View.read (Elt F) hbGu.view g4)) 0) (slab (gu0 (View.read (Elt F) hbGu.view g4)) 11)⌝ ∗ owns (c : Thread nD τ) arg12 fullShare s) ∗ wholeAt c hbGu g4 ∗ wholeAt c hbDn g5 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ (∃ W', owes (c : Thread nD τ) 0 W')) -∗ K ⟨⟩))
      ⊢ wp frame (wpE (defs₀ (F := F)) Variants.none c none) Set.univ (cc0_ffn i arg1 harg1 arg2 harg2 arg3 harg3 hbGu (Memref.isWhole_whole _) hbDn (Memref.isWhole_whole _) arg6 harg6 arg7 harg7 scGu (Memref.isWhole_whole _) scDn (Memref.isWhole_whole _) arg10 harg10 arg11 harg11 arg12 harg12 cc0_scratch5) K := by
  iintro ⟨H0, H1, H2, H3, H7, H8, H9, H10, ⟨%f11, H11⟩, ⟨%f12, H12⟩, H4, H5, S8, S9, S10, S11, S12, S13, S14, S15, S16, S17, S18, S19, S20, S21, S22, S23, S24, S25, S26, S27, S28, S29, S30, S31, S32, S33, HW, Hk⟩
  have eL7 : (runA c i arg1 harg1 arg2 harg2 arg3 harg3 arg6 harg6 arg7 harg7 arg10 harg10 arg11 harg11 arg12 harg12 hc1 hc2 x0 x1 x2 x3 g4 g5 g8 g9 f11 f12).1
      = [⟨Rect.unit (s := S512x1024) ![0, 0] S512x1024.size inb_S512x1024_S512x1024_0_0, tile x0 x3 (mid (hid x0 x2) (gu0 (View.read (Elt F) hbGu.view g4))) (dn0 (View.read (Elt F) hbDn.view g5))⟩] := by
    unfold runA
    dsimp only
    unfold runA.sl.r_8 runA.sl.r_5 runA.sl.r_6 runA.sl.r_7
    simp only [midA, ldA_469, ldA_474, ldA_479, ldA_484, load_all harg1]
    rfl
  have eX8 : (runA c i arg1 harg1 arg2 harg2 arg3 harg3 arg6 harg6 arg7 harg7 arg10 harg10 arg11 harg11 arg12 harg12 hc1 hc2 x0 x1 x2 x3 g4 g5 g8 g9 f11 f12).2.2.1 = (gu0 (View.read (Elt F) hbGu.view g4)) := (View.read_whole (Val := Elt F) cc0_scratch0 _).symm.trans (read_nestGu c g4 g8)
  have eX9 : (runA c i arg1 harg1 arg2 harg2 arg3 harg3 arg6 harg6 arg7 harg7 arg10 harg10 arg11 harg11 arg12 harg12 hc1 hc2 x0 x1 x2 x3 g4 g5 g8 g9 f11 f12).2.2.2.1 = (dn0 (View.read (Elt F) hbDn.view g5)) := (View.read_whole (Val := Elt F) cc0_scratch1 _).symm.trans (read_nestDn c g5 g9)
  have eX11 : slotH (View.read (Elt F) arg11.view (runA c i arg1 harg1 arg2 harg2 arg3 harg3 arg6 harg6 arg7 harg7 arg10 harg10 arg11 harg11 arg12 harg12 hc1 hc2 x0 x1 x2 x3 g4 g5 g8 g9 f11 f12).2.2.2.2.1) ((i 0).val + 1) = k0_pay46 x1 x2 := by
    unfold runA
    dsimp only
    refine (storeH f11 _ ho1 _ _).trans ?_
    rw [load_all harg2 _ x1, load_all harg3 _ x2]
    rfl
  have eX12 : slotA (View.read (Elt F) arg12.view (runA c i arg1 harg1 arg2 harg2 arg3 harg3 arg6 harg6 arg7 harg7 arg10 harg10 arg11 harg11 arg12 harg12 hc1 hc2 x0 x1 x2 x3 g4 g5 g8 g9 f11 f12).2.2.2.2.2.1) ((i 0).val + 1) = k0_pay2 (hid x1 x2) (slab (gu0 (View.read (Elt F) hbGu.view g4)) 0) (slab (gu0 (View.read (Elt F) hbGu.view g4)) 11) := by
    unfold runA
    dsimp only
    refine (storeA f12 _ ho2 _ _).trans ?_
    unfold runA.sl.r_9 runA.sl.r_10
    rw [load_all harg2 _ x1, load_all harg3 _ x2, ldA_182, ldA_515]
    rfl
  iapply ((runA c i arg1 harg1 arg2 harg2 arg3 harg3 arg6 harg6 arg7 harg7 arg10 harg10 arg11 harg11 arg12 harg12 hc1 hc2 x0 x1 x2 x3 g4 g5 g8 g9 f11 f12).2.2.2.2.2.2 W K)
  isplitl [H0]; · iexact H0
  isplitl [H1]; · iexact H1
  isplitl [H2]; · iexact H2
  isplitl [H3]; · iexact H3
  isplitl [H7]; · iexact H7
  isplitl [H8]; · iexact H8
  isplitl [H9]; · iexact H9
  isplitl [H10]; · iexact H10
  isplitl [H11]; · iexact H11
  isplitl [H12]; · iexact H12
  isplitl [H4]; · iexact H4
  isplitl [H5]; · iexact H5
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [HW]; · iexact HW
  iintro ⟨H0, H1, H2, H3, ⟨%e7, H7⟩, H8, H9, ⟨%e10, H10⟩, H11, H12, H4, H5, S8, S9, S10, S11, S12, S13, S14, S15, S16, S17, S18, S19, S20, S21, S22, S23, S24, S25, S26, S27, S28, S29, S30, S31, S32, S33, HW⟩
  iapply Hk
  isplitl [H0]; · iexact H0
  isplitl [H1]; · iexact H1
  isplitl [H2]; · iexact H2
  isplitl [H3]; · iexact H3
  isplitl [H7]
  · unfold owns; iexists _; isplitr
    swap; · iexact H7
    ipureintro
    rw [eL7]
    exact View.read_writes_full _ _ _ _ _
  isplitl [H8]
  · rw [eX8]
    rw [show owns (c : Thread nD τ) scGu fullShare (gu0 (View.read (Elt F) hbGu.view g4)) = _ from owns_whole (c : Thread nD τ) cc0_scratch0 fullShare _]
    iexact H8
  isplitl [H9]
  · rw [eX9]
    rw [show owns (c : Thread nD τ) scDn fullShare (dn0 (View.read (Elt F) hbDn.view g5)) = _ from owns_whole (c : Thread nD τ) cc0_scratch1 fullShare _]
    iexact H9
  isplitl [H10]
  · iexists _
    iapply (owns_intro (c : Thread nD τ) arg10 fullShare _); iexact H10
  isplitl [H11]
  · iexists _; isplitr; · ipureintro; exact eX11
    iapply (owns_intro (c : Thread nD τ) arg11 fullShare _); iexact H11
  isplitl [H12]
  · iexists _; isplitr; · ipureintro; exact eX12
    iapply (owns_intro (c : Thread nD τ) arg12 fullShare _); iexact H12
  isplitl [H4]; · iexact H4
  isplitl [H5]; · iexact H5
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  iexact HW

/-- A later step's hidden pieces. -/
theorem piecesB (c : Dev nD) (i : grid0.Coords) (arg8 : Memref sig .tc .vmem S22x1024x256 .f32) (harg8 : arg8.IsWhole) (arg11 : Memref sig .tc .vmem S2x512x1024 .bf16) (harg11 : arg11.IsWhole) (arg12 : Memref sig .tc .vmem S2x512x256 .bf16) (harg12 : arg12.IsWhole)
    (hc2 : k0_cond2 i = 1#1) (ho3 : k0_off3 i = ![(i 0).val % 2, 0, 0]) (ho4 : k0_off4 i = ![(i 0).val % 2, 0, 0])
    (x0 : Vec F S512x1024 .f32) (x2 : Vec F S1x1024 .f32) (s8 : Vec F S22x1024x256 .f32) (s11 : Vec F S2x512x1024 .bf16) (s12 : Vec F S2x512x256 .bf16)
    (h11 : slotH s11 (i 0).val = k0_pay46 x0 x2) (h12 : slotA s12 (i 0).val = k0_pay2 (hid x0 x2) (slab s8 0) (slab s8 11)) :
    runB.sl.H10_11 c i arg8 harg8 arg11 harg11 arg12 harg12 hc2 s8 s11 s12 = midPieces (hid x0 x2) s8 := by
  unfold runB.sl.H10_11 runB.sl.r_1 runB.sl.r_2 runB.sl.r_3 runB.sl.r_4 runB.sl.r_5 runB.sl.r
  simp only [loadH harg11 s11 _ ho3, loadA harg12 s12 _ ho4, h11, h12, cast_act, ld8 harg8 s8]
  rw [← cast_hid x0 x2]
  rfl

/-- A later step's hidden rows. -/
theorem midB (c : Dev nD) (i : grid0.Coords) (arg8 : Memref sig .tc .vmem S22x1024x256 .f32) (harg8 : arg8.IsWhole) (arg10 : Memref sig .tc .vmem S512x2816 .bf16) (arg11 : Memref sig .tc .vmem S2x512x1024 .bf16) (harg11 : arg11.IsWhole) (arg12 : Memref sig .tc .vmem S2x512x256 .bf16) (harg12 : arg12.IsWhole)
    (hc2 : k0_cond2 i = 1#1) (ho3 : k0_off3 i = ![(i 0).val % 2, 0, 0]) (ho4 : k0_off4 i = ![(i 0).val % 2, 0, 0])
    (x0 : Vec F S512x1024 .f32) (x2 : Vec F S1x1024 .f32) (s8 : Vec F S22x1024x256 .f32) (s11 : Vec F S2x512x1024 .bf16) (s12 : Vec F S2x512x256 .bf16)
    (h11 : slotH s11 (i 0).val = k0_pay46 x0 x2) (h12 : slotA s12 (i 0).val = k0_pay2 (hid x0 x2) (slab s8 0) (slab s8 11)) :
    runB.sl.v187 c i arg8 harg8 arg10 arg11 harg11 arg12 harg12 hc2 s8 s11 s12 = mid (hid x0 x2) s8 := by
  unfold runB.sl.v187
  rw [piecesB c i arg8 harg8 arg11 harg11 arg12 harg12 hc2 ho3 ho4 x0 x2 s8 s11 s12 h11 h12]
  exact load_mid _ _ _

set_option maxHeartbeats 4000000 in
/-- A later step, in plain terms. -/
theorem stepB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .hbm S1024x5632 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S22x1024x256 .f32) (harg8 : arg8.IsWhole) (arg9 : Memref sig .tc .vmem S4x2816x256 .f32) (harg9 : arg9.IsWhole) (arg10 : Memref sig .tc .vmem S512x2816 .bf16) (harg10 : arg10.IsWhole) (arg11 : Memref sig .tc .vmem S2x512x1024 .bf16) (harg11 : arg11.IsWhole) (arg12 : Memref sig .tc .vmem S2x512x256 .bf16) (harg12 : arg12.IsWhole) (arg13 : DmaSems sig S26)
    (hc1 : ¬ k0_cond1 i = 1#1) (hc2 : k0_cond2 i = 1#1) (ho3 : k0_off3 i = ![(i 0).val % 2, 0, 0]) (ho4 : k0_off4 i = ![(i 0).val % 2, 0, 0])
    (ho5 : k0_off5 i = ![((i 0).val + 1) % 2, 0, 0]) (ho6 : k0_off6 i = ![((i 0).val + 1) % 2, 0, 0])
    (x0 x1 : Vec F S512x1024 .f32) (x2 x3 : Vec F S1x1024 .f32) (s8 : Vec F S22x1024x256 .f32) (s9 : Vec F S4x2816x256 .f32)
    (s11 : Vec F S2x512x1024 .bf16) (s12 : Vec F S2x512x256 .bf16)
    (h11 : slotH s11 (i 0).val = k0_pay46 x0 x2) (h12 : slotA s12 (i 0).val = k0_pay2 (hid x0 x2) (slab s8 0) (slab s8 11))
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ owns (c : Thread nD τ) arg8 fullShare s8 ∗ owns (c : Thread nD τ) arg9 fullShare s9 ∗ (∃ d, owns (c : Thread nD τ) arg10 fullShare d) ∗ owns (c : Thread nD τ) arg11 fullShare s11 ∗ owns (c : Thread nD τ) arg12 fullShare s12 ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare (tile x0 x3 (mid (hid x0 x2) s8) s9) ∗ owns (c : Thread nD τ) arg8 fullShare s8 ∗ owns (c : Thread nD τ) arg9 fullShare s9 ∗ (∃ d, owns (c : Thread nD τ) arg10 fullShare d) ∗ (∃ s, ⌜slotH s ((i 0).val + 1) = k0_pay46 x1 x2⌝ ∗ owns (c : Thread nD τ) arg11 fullShare s) ∗ (∃ s, ⌜slotA s ((i 0).val + 1) = k0_pay2 (hid x1 x2) (slab s8 0) (slab s8 11)⌝ ∗ owns (c : Thread nD τ) arg12 fullShare s)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13) K := by
  iintro ⟨H0, H1, H2, H3, H7, H8, H9, H10, H11, H12, Hk⟩
  have eL7 : (runB c i arg1 harg1 arg2 harg2 arg3 harg3 arg4 harg4 arg5 harg5 arg6 harg6 arg7 harg7 arg8 harg8 arg9 harg9 arg10 harg10 arg11 harg11 arg12 harg12 arg13 hc1 hc2 x0 x1 x2 x3 s8 s9 s11 s12).1
      = [⟨Rect.unit (s := S512x1024) ![0, 0] S512x1024.size inb_S512x1024_S512x1024_0_0, tile x0 x3 (mid (hid x0 x2) s8) s9⟩] := by
    unfold runB
    dsimp only
    unfold runB.sl.r_9 runB.sl.r_6 runB.sl.r_7 runB.sl.r_8
    simp only [midB c i arg8 harg8 arg10 arg11 harg11 arg12 harg12 hc2 ho3 ho4 x0 x2 s8 s11 s12 h11 h12, ld9 harg9 s9, load_all harg1]
    rfl
  have eX11 : slotH (View.read (Elt F) arg11.view (runB c i arg1 harg1 arg2 harg2 arg3 harg3 arg4 harg4 arg5 harg5 arg6 harg6 arg7 harg7 arg8 harg8 arg9 harg9 arg10 harg10 arg11 harg11 arg12 harg12 arg13 hc1 hc2 x0 x1 x2 x3 s8 s9 s11 s12).2.2.1) ((i 0).val + 1) = k0_pay46 x1 x2 := by
    unfold runB
    dsimp only
    refine (storeH (harg11.unread s11) _ ho5 _ _).trans ?_
    rw [load_all harg2 _ x1, load_all harg3 _ x2]
  have eX12 : slotA (View.read (Elt F) arg12.view (runB c i arg1 harg1 arg2 harg2 arg3 harg3 arg4 harg4 arg5 harg5 arg6 harg6 arg7 harg7 arg8 harg8 arg9 harg9 arg10 harg10 arg11 harg11 arg12 harg12 arg13 hc1 hc2 x0 x1 x2 x3 s8 s9 s11 s12).2.2.2.1) ((i 0).val + 1) = k0_pay2 (hid x1 x2) (slab s8 0) (slab s8 11) := by
    unfold runB
    dsimp only
    refine (storeA (harg12.unread s12) _ ho6 _ _).trans ?_
    unfold runB.sl.r_10
    rw [load_all harg2 _ x1, load_all harg3 _ x2, ld8 harg8 s8, ld8 harg8 s8]
    rfl
  iapply ((runB c i arg1 harg1 arg2 harg2 arg3 harg3 arg4 harg4 arg5 harg5 arg6 harg6 arg7 harg7 arg8 harg8 arg9 harg9 arg10 harg10 arg11 harg11 arg12 harg12 arg13 hc1 hc2 x0 x1 x2 x3 s8 s9 s11 s12).2.2.2.2 E K)
  isplitl [H0]; · iexact H0
  isplitl [H1]; · iexact H1
  isplitl [H2]; · iexact H2
  isplitl [H3]; · iexact H3
  isplitl [H7]; · iexact H7
  isplitl [H8]; · iexact H8
  isplitl [H9]; · iexact H9
  isplitl [H10]; · iexact H10
  isplitl [H11]; · iexact H11
  isplitl [H12]; · iexact H12
  iintro ⟨H0, H1, H2, H3, ⟨%e7, H7⟩, H8, H9, ⟨%e10, H10⟩, H11, H12⟩
  iapply Hk
  isplitl [H0]; · iexact H0
  isplitl [H1]; · iexact H1
  isplitl [H2]; · iexact H2
  isplitl [H3]; · iexact H3
  isplitl [H7]
  · unfold owns; iexists _; isplitr
    swap; · iexact H7
    ipureintro
    rw [eL7]
    exact View.read_writes_full _ _ _ _ _
  isplitl [H8]; · iexact H8
  isplitl [H9]; · iexact H9
  isplitl [H10]
  · iexists _
    iapply (owns_intro (c : Thread nD τ) arg10 fullShare _); iexact H10
  isplitl [H11]
  · iexists _; isplitr; · ipureintro; exact eX11
    iapply (owns_intro (c : Thread nD τ) arg11 fullShare _); iexact H11
  iexists _; isplitr; · ipureintro; exact eX12
  iapply (owns_intro (c : Thread nD τ) arg12 fullShare _); iexact H12

end Cert.Kernel3Ideal.Hand

end
-- ==== Proof.FfnIdealFrame.lean ====
/- The feed-forward call terminates, faults nowhere and leaves its arguments; and what each point leaves in the result. -/
module

public import proofs.«01_k».proof.Proof.FfnIdealStep
public import proofs.«01_k».proof.Proof.Gen.Kernel3Ideal.Launch
public import proofs.«01_k».proof.Proof.Gen.Kernel3Ideal.Points
public import Idealize.ShloMosaic.Lib.Pipeline.FrameBody
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The scratch for a tile's hidden rows. -/
abbrev scMid : Memref sig .tc .vmem S512x2816 .bf16 := Memref.whole cc0_scratch2
/-- The scratch for two tiles' normalised rows. -/
abbrev scRow : Memref sig .tc .vmem S2x512x1024 .bf16 := Memref.whole cc0_scratch3
/-- The scratch for two tiles' first activations. -/
abbrev scAct : Memref sig .tc .vmem S2x512x256 .bf16 := Memref.whole cc0_scratch4

local notation "𝕄" => MT nD τ sig Unit (Elt F) ℕ (Pipeline.UD sig nD τ) ℕ

variable (m : (ℓ : Loc nD τ sig) → Buf (Elt F) ℓ) (ρ : Dev nD → PrngReg)

/-- Core `c`'s buffers when the call is entered: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The grid -/

/-- The grid's one coordinate is the point. -/
theorem coord0 : ∀ t : Fin grid0.N, ((grid0.coords t) 0).val = t.val := by decide +kernel
/-- The first point is the one that fills the scratch. -/
theorem cond1 : ∀ t : Fin grid0.N, k0_cond1 (grid0.coords t) = 1#1 ↔ t.val = 0 := by decide +kernel
/-- Every other point reads what the point before left. -/
theorem cond2 : ∀ t : Fin grid0.N, k0_cond2 (grid0.coords t) = 1#1 ↔ t.val ≠ 0 := by decide +kernel
/-- Where each point leaves the next tile's rows, and where it finds its own. -/
theorem slots : ∀ t : Fin grid0.N, k0_off1 (grid0.coords t) = ![(((grid0.coords t) 0).val + 1) % 2, 0, 0] ∧ k0_off2 (grid0.coords t) = ![(((grid0.coords t) 0).val + 1) % 2, 0, 0]
    ∧ k0_off3 (grid0.coords t) = ![((grid0.coords t) 0).val % 2, 0, 0] ∧ k0_off4 (grid0.coords t) = ![((grid0.coords t) 0).val % 2, 0, 0]
    ∧ k0_off5 (grid0.coords t) = ![(((grid0.coords t) 0).val + 1) % 2, 0, 0] ∧ k0_off6 (grid0.coords t) = ![(((grid0.coords t) 0).val + 1) % 2, 0, 0] := by decide +kernel
/-- The tile a point looks ahead to is the next point's. -/
theorem ahead : ∀ t : Fin grid0.N, t.val ≠ 0 → win0_1.index ⟨t.val - 1, by have := t.isLt; omega⟩ = win0_0.index t := by decide +kernel

/-- So the block a point looks ahead to is the next point's own. -/
theorem iblk_ahead (c : Dev nD) (t : Fin cfg0.N) (hz : t.val ≠ 0) :
    (iblk m c 1 ⟨t.val - 1, by have := t.isLt; omega⟩ : Vec F S512x1024 .f32) = iblk m c 0 t := by
  funext y
  show V m c main_arg0 _ = V m c main_arg0 _
  congr 1
  funext a
  have h := congrFun (ahead t hz) a
  fin_cases a
  · ext
    show win0_1.index _ 0 * 512 + 1 * (y 0).val = win0_0.index t 0 * 512 + 1 * (y 0).val
    rw [show win0_1.index _ 0 = win0_0.index t 0 from h]
  · ext
    show win0_1.index _ 1 * 1024 + 1 * (y 1).val = win0_0.index t 1 * 1024 + 1 * (y 1).val
    rw [show win0_1.index _ 1 = win0_0.index t 1 from h]

/-- The gain's block is the same at every point. -/
theorem iblk_gain (c : Dev nD) (t t' : Fin cfg0.N) : (iblk m c 2 t : Vec F S1x1024 .f32) = iblk m c 2 t' := rfl

/-! ## The launch's invariant and the one carried from point to point -/

/-- The body's own completion counters. -/
abbrev osem0 : Fin 26 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 26 → SemLoc sig) j
theorem ownSemFacts0 : Pipeline.OwnSemFacts spec0 osem0 := by decide +kernel
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2, 3, 4, 5, 6, 7, 8, 9, 10, 11, 12, 13, 14, 15, 16, 17, 18, 19, 20, 21, 22, 23, 24, 25] (by decide) (by decide)]; rfl

/-- The arrays the body's own copies read. -/
def H0 : Finset (Ref sig .tc) := {main_arg2, main_arg3}
theorem H0_sub : H0 ⊆ Pipeline.restRefs sig spec0 := by decide
theorem hbm_list (c : Dev nD) :
    (bigSep H0 (fun b => ((c : Thread nD τ).loc b) ↦{fullShare} V m c b) : sProp 𝕄)
      = iprop(wholeAt c hbGu (V m c main_arg2) ∗ wholeAt c hbDn (V m c main_arg3)) := by
  rw [BI.bigSep_eq_bigSepL_of_eq [main_arg2, main_arg3] (by decide) (by decide)]; rfl

/-- What the launch hands the first point, and takes back after the last. -/
theorem launch_list (c : Dev nD) :
    (Pipeline.ΦD osem0 spec0 H0 (V m) c : sProp 𝕄)
      = iprop(iprop((∃ f, wholeAt c scGu f) ∗ (∃ f, wholeAt c scDn f) ∗ (∃ f, wholeAt c scMid f) ∗ (∃ f, wholeAt c scRow f) ∗ (∃ f, wholeAt c scAct f))
          ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(wholeAt c hbGu (V m c main_arg2) ∗ wholeAt c hbDn (V m c main_arg3))) := by
  rw [Pipeline.ΦD_eq, scopedRest0_eq, ownSems0_list, hbm_list]

/-- The scratch's gate and up weights. -/
def gu (c : Dev nD) : Vec F S22x1024x256 .f32 := gu0 (View.read (Elt F) hbGu.view (V m c main_arg2))
/-- The scratch's down weights. -/
def dn (c : Dev nD) : Vec F S4x2816x256 .f32 := dn0 (View.read (Elt F) hbDn.view (V m c main_arg3))

/-- What is carried into the point of parity `k`, whose rows are `x` and whose gain is `g`. -/
def carried (c : Dev nD) (k : ℕ) (x : Vec F S512x1024 .f32) (g : Vec F S1x1024 .f32) : sProp 𝕄 :=
  iprop(iprop(owns (c : Thread nD τ) scGu fullShare (gu m c) ∗ owns (c : Thread nD τ) scDn fullShare (dn m c) ∗ (∃ d, owns (c : Thread nD τ) scMid fullShare d)
        ∗ (∃ s, ⌜slotH s k = k0_pay46 x g⌝ ∗ owns (c : Thread nD τ) scRow fullShare s)
        ∗ (∃ s, ⌜slotA s k = k0_pay2 (hid x g) (slab (gu m c) 0) (slab (gu m c) 11)⌝ ∗ owns (c : Thread nD τ) scAct fullShare s))
      ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(wholeAt c hbGu (V m c main_arg2) ∗ wholeAt c hbDn (V m c main_arg3)))

/-- The invariant before position `n`. -/
def PhiS (c : Dev nD) : (n : ℕ) → n ≤ cfg0.N → sProp 𝕄
  | 0, _ => Pipeline.ΦD osem0 spec0 H0 (V m) c
  | n + 1, hn => carried m c (n + 1) (iblk m c 1 ⟨n, hn⟩) (iblk m c 2 ⟨n, hn⟩)

theorem PhiS_zero (c : Dev nD) (n : ℕ) (h : n ≤ cfg0.N) (hz : n = 0) : PhiS m c n h = Pipeline.ΦD osem0 spec0 H0 (V m) c := by
  subst hz; rfl

/-- After a point: the next tile's rows. -/
theorem PhiS_after (c : Dev nD) (t : Fin cfg0.N) :
    PhiS m c (t.val + 1) t.isLt = carried m c (((grid0.coords t) 0).val + 1) (iblk m c 1 t) (iblk m c 2 t) := by
  rw [coord0 t]; rfl

/-- Before a point that is not the first: its own rows. -/
theorem PhiS_before (c : Dev nD) (t : Fin cfg0.N) (hz : t.val ≠ 0) :
    PhiS m c t.val (Nat.le_of_lt t.isLt) = carried m c (((grid0.coords t) 0).val) (iblk m c 0 t) (iblk m c 2 t) := by
  rw [coord0 t, ← iblk_ahead m c t hz]
  obtain ⟨n, hn⟩ := t
  cases n with
  | zero => exact absurd rfl hz
  | succ n => rfl

/-- A buffer held whole at some contents, as the body holds it. -/
theorem to_owns (c : Dev nD) (b : Ref sig .tc) :
    iprop(∃ f, ((c : Thread nD τ).loc b) ↦{fullShare} f) ⊢ (iprop(∃ d, owns (c : Thread nD τ) (Memref.whole b) fullShare d) : sProp 𝕄) := by
  iintro ⟨%f, H⟩; iexists f; rw [owns_whole]; iexact H
theorem of_owns (c : Dev nD) (b : Ref sig .tc) :
    iprop(∃ d, owns (c : Thread nD τ) (Memref.whole b) fullShare d) ⊢ (iprop(∃ f, ((c : Thread nD τ).loc b) ↦{fullShare} f) : sProp 𝕄) := by
  simp only [owns_whole]; exact .rfl
theorem to_part (c : Dev nD) (b : Ref sig .tc) :
    iprop(∃ f, ((c : Thread nD τ).loc b) ↦{fullShare} f)
      ⊢ (iprop(∃ f, (Memref.whole b).view.loc (c : Thread nD τ) ↦[(Memref.whole b).view.set]{fullShare} f) : sProp 𝕄) := by
  refine (to_owns c b).trans ?_
  unfold owns
  iintro ⟨%d, ⟨%f, -, H⟩⟩
  iexists f; iexact H

/-! ## The proof data and the body at every point -/

/-- What a point leaves in the result's block. -/
def outAt (c : Dev nD) (t : Fin cfg0.N) : Vec F S512x1024 .f32 :=
  tile (iblk m c 0 t) (iblk m c 3 t) (mid (hid (iblk m c 0 t) (iblk m c 2 t)) (gu m c)) (dn m c)

/-- The proof data of the call on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
/-- Window 0's buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1's buffer holds its block at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2's buffer holds its block at every point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3's buffer holds its block at every point. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4]
  rw [show (dats m 0 c).Φ t.succ = PhiS m c (t.val + 1) t.isLt from rfl, PhiS_after, PhiS_castSucc]
  unfold Dat.owesAt Pipeline.owesWithin
  rw [show (dats m 0 c).owed t.castSucc = 0 from rfl, show (dats m 0 c).owed t.succ = 0 from rfl]
  obtain ⟨ho1, ho2, ho3, ho4, ho5, ho6⟩ := slots t
  by_cases hz : t.val = 0
  · rw [PhiS_zero m c _ _ hz, launch_list]
    unfold outAt carried gu dn
    iintro ⟨⟨⟨⟨%g8, HS0⟩, ⟨%g9, HS1⟩, HS2, HS3, HS4⟩, Hg, ⟨Q8, Q9, Q10, Q11, Q12, Q13, Q14, Q15, Q16, Q17, Q18, Q19, Q20, Q21, Q22, Q23, Q24, Q25, Q26, Q27, Q28, Q29, Q30, Q31, Q32, Q33⟩, ⟨Hh0, Hh1⟩⟩, ⟨%W, -, HW⟩, ⟨%d0, H0⟩, ⟨%d1, H1⟩, ⟨%d2, H2⟩, ⟨%d3, H3⟩, ⟨%d4, H4⟩⟩
    iapply (stepA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) scMid (Memref.isWhole_whole _) scRow (Memref.isWhole_whole _) scAct (Memref.isWhole_whole _) ((cond1 t).mpr hz) (fun h => (cond2 t).mp h hz) ho1 ho2 (iblk m c 0 t) (iblk m c 1 t) (iblk m c 2 t) (iblk m c 3 t) (V m c main_arg2) (V m c main_arg3) g8 g9 W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iapply (to_owns c cc0_scratch2); iexact HS2
    isplitl [HS3]; · iapply (to_part c cc0_scratch3); iexact HS3
    isplitl [HS4]; · iapply (to_part c cc0_scratch4); iexact HS4
    isplitl [Hh0]; · iexact Hh0
    isplitl [Hh1]; · iexact Hh1
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [HW]; · iexact HW
    iintro ⟨H0, H1, H2, H3, H4, HS0, HS1, HS2, HS3, HS4, Hh0, Hh1, Q8, Q9, Q10, Q11, Q12, Q13, Q14, Q15, Q16, Q17, Q18, Q19, Q20, Q21, Q22, Q23, Q24, Q25, Q26, Q27, Q28, Q29, Q30, Q31, Q32, Q33, ⟨%W2, HW⟩⟩
    isplitl [HS0 HS1 HS2 HS3 HS4 Hg Hh0 Hh1 Q8 Q9 Q10 Q11 Q12 Q13 Q14 Q15 Q16 Q17 Q18 Q19 Q20 Q21 Q22 Q23 Q24 Q25 Q26 Q27 Q28 Q29 Q30 Q31 Q32 Q33]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Q8 Q9 Q10 Q11 Q12 Q13 Q14 Q15 Q16 Q17 Q18 Q19 Q20 Q21 Q22 Q23 Q24 Q25 Q26 Q27 Q28 Q29 Q30 Q31 Q32 Q33]
      · isplitl [Q8]; · iexact Q8
        isplitl [Q9]; · iexact Q9
        isplitl [Q10]; · iexact Q10
        isplitl [Q11]; · iexact Q11
        isplitl [Q12]; · iexact Q12
        isplitl [Q13]; · iexact Q13
        isplitl [Q14]; · iexact Q14
        isplitl [Q15]; · iexact Q15
        isplitl [Q16]; · iexact Q16
        isplitl [Q17]; · iexact Q17
        isplitl [Q18]; · iexact Q18
        isplitl [Q19]; · iexact Q19
        isplitl [Q20]; · iexact Q20
        isplitl [Q21]; · iexact Q21
        isplitl [Q22]; · iexact Q22
        isplitl [Q23]; · iexact Q23
        isplitl [Q24]; · iexact Q24
        isplitl [Q25]; · iexact Q25
        isplitl [Q26]; · iexact Q26
        isplitl [Q27]; · iexact Q27
        isplitl [Q28]; · iexact Q28
        isplitl [Q29]; · iexact Q29
        isplitl [Q30]; · iexact Q30
        isplitl [Q31]; · iexact Q31
        isplitl [Q32]; · iexact Q32
        iexact Q33
      isplitl [Hh0]; · iexact Hh0
      iexact Hh1
    isplitl [HW]
    · iexists W2; isplitr; · ipureintro; exact fun _ _ => Or.inl trivial
      iexact HW
    isplitl [H0]; · iexact H0
    isplitl [H1]; · iexact H1
    isplitl [H2]; · iexact H2
    isplitl [H3]; · iexact H3
    iexact H4
  · rw [PhiS_before m c t hz]
    unfold carried outAt
    iintro ⟨⟨⟨HS0, HS1, HS2, ⟨%s11, %h11, HS3⟩, ⟨%s12, %h12, HS4⟩⟩, Hrest⟩, Ho, ⟨%d0, H0⟩, ⟨%d1, H1⟩, ⟨%d2, H2⟩, ⟨%d3, H3⟩, ⟨%d4, H4⟩⟩
    iapply (stepB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) hbGu (Memref.isWhole_whole _) hbDn (Memref.isWhole_whole _) (st0_3 t) (hstage0_3 ((cfg0.slots t 3).cast nbuf0_3)) (st0_4 t) (hstage0_4 ((cfg0.slots t 4).cast nbuf0_4)) scGu (Memref.isWhole_whole _) scDn (Memref.isWhole_whole _) scMid (Memref.isWhole_whole _) scRow (Memref.isWhole_whole _) scAct (Memref.isWhole_whole _) cc0_scratch5 (fun h => hz ((cond1 t).mp h)) ((cond2 t).mpr hz) ho3 ho4 ho5 ho6 (iblk m c 0 t) (iblk m c 1 t) (iblk m c 2 t) (iblk m c 3 t) (gu m c) (dn m c) s11 s12 h11 h12 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, HS4⟩
    isplitl [HS0 HS1 HS2 HS3 HS4 Hrest]
    · isplitl [HS0 HS1 HS2 HS3 HS4]
      · isplitl [HS0]; · iexact HS0
        isplitl [HS1]; · iexact HS1
        isplitl [HS2]; · iexact HS2
        isplitl [HS3]; · iexact HS3
        iexact HS4
      iexact Hrest
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The result is stored at every point. -/
theorem stores : ∀ t : Fin cfg0.N, cfg0.idle 4 (cfg0.grid.coords t) = false :=
  (by decide +kernel : ∀ t : Fin grid0.N, (!(k0_cond1 (grid0.coords t) == 1#1) && !(k0_cond2 (grid0.coords t) == 1#1)) = false)

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [stores t]
  exact .rfl

/-- What the last point leaves is what the launch takes back. -/
theorem give_back (c : Dev nD) (k : ℕ) (x : Vec F S512x1024 .f32) (g : Vec F S1x1024 .f32) :
    carried m c k x g ⊢ (Pipeline.ΦD osem0 spec0 H0 (V m) c : sProp 𝕄) := by
  rw [launch_list]
  unfold carried
  iintro ⟨⟨HS0, HS1, HS2, ⟨%s11, -, HS3⟩, ⟨%s12, -, HS4⟩⟩, Hrest⟩
  isplitl [HS0 HS1 HS2 HS3 HS4]
  · isplitl [HS0]; · iapply (of_owns c cc0_scratch0); iexists _; iexact HS0
    isplitl [HS1]; · iapply (of_owns c cc0_scratch1); iexists _; iexact HS1
    isplitl [HS2]; · iapply (of_owns c cc0_scratch2); iexact HS2
    isplitl [HS3]; · iapply (of_owns c cc0_scratch3); iexists _; iexact HS3
    iapply (of_owns c cc0_scratch4); iexists _; iexact HS4
  iexact Hrest

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := fun _ => .rfl) (hout := fun c => give_back m c _ _ _)

/-- The frame: the call terminates without fault, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (A_eq m c 0)),
      ((h.1 c).1 2).trans (((dats m 0 c).arrAt_in 2 rfl _).trans (A_eq m c 2)),
      (h.1 c).2 main_arg2 (Pipeline.mem_restRefs_of main_arg2 (by decide) (by decide)),
      (h.1 c).2 main_arg3 (Pipeline.mem_restRefs_of main_arg3 (by decide) (by decide)),
      ((h.1 c).1 3).trans (((dats m 0 c).arrAt_in 3 rfl _).trans (A_eq m c 3))⟩, h.2⟩) (run_main m ρ)

end Cert.Kernel3Ideal.Hand

end
-- ==== Proof.FfnIdealRows.lean ====
/- What one step of the feed-forward call leaves, read element by element over the extended reals. -/
module

public import proofs.«01_k».proof.Proof.Swiglu
public import proofs.«01_k».proof.Proof.FfnIdealTile

@[expose] public section
set_option maxRecDepth 16384
noncomputable section
namespace Cert.Kernel3Ideal.Hand
open Idealize.ShloMosaic Cert.Rows
open Cert.Kernel3Ideal Cert.Kernel3Ideal.Gen

/-- The block of rows, normalised. -/
theorem hid_apply (x : Vec Ideal S512x1024 .f32) (g : Vec Ideal S1x1024 .f32) (r : Fin 512) (d : Fin 1024) :
    hid x g (ix2 r d) = rms (fun d => x (ix2 r d)) (fun d => g (ix2 0 d)) d := by
  pointwise [hid, k0_pay45]
  rfl

/-- One group of hidden columns. -/
theorem act_apply (h : FVec Ideal S512x1024 .bf16) (a b : Vec Ideal S1x1024x256 .f32) (r : Fin 512) (q : Fin 256) :
    act h a b (ix2 r q) = silu (∑ k, h (ix2 r k) * a (ix3 0 k q)) * ∑ k, h (ix2 r k) * b (ix3 0 k q) := by
  pointwise [act, k0_pay41]
  rfl

/-- The hidden block from the weights as they are given. -/
theorem mid_apply (h : FVec Ideal S512x1024 .bf16) (w : Vec Ideal S1024x5632 .f32) (r : Fin 512) (j : Fin 2816) :
    mid h (gu0 w) (ix2 r j) = gated (fun d => h (ix2 r d)) (fun d n => w (ix2 d n)) j := by
  have hj : j.val < 2816 := j.isLt
  have e (k o : ℕ) (hk : k < 22) (ho : o = 256 * k + j.val % 256) (ho' : o < 5632) (d : Fin 1024) :
      slab (gu0 w) k (ix3 0 d (⟨j.val % 256, Nat.mod_lt _ (by decide)⟩ : Fin 256)) = w (ix2 d ⟨o, ho'⟩) := by
    subst ho
    unfold slab gu0
    refine congrArg w (congrArg (ix2 d) (Fin.ext ?_))
    show 256 * (k % 22) + j.val % 256 = 256 * k + j.val % 256
    rw [Nat.mod_eq_of_lt hk]
  show act h (slab (gu0 w) (j.val / 256)) (slab (gu0 w) (11 + j.val / 256)) (ix2 r (⟨j.val % 256, Nat.mod_lt _ (by decide)⟩ : Fin 256)) = _
  rw [act_apply]
  unfold gated rowMul
  simp only [e (j.val / 256) j.val (by omega) (by omega) (by omega), e (11 + j.val / 256) (2816 + j.val) (by omega) (by omega) (by omega)]

/-- A group of the down weights from the weights as they are given. -/
theorem slabD_apply (v : Vec Ideal S2816x1024 .f32) (k : ℕ) (hk : k < 4) (j : Fin 2816) (q : Fin 256) (o : ℕ) (ho : o = 256 * k + q) (ho' : o < 1024) :
    slabD (dn0 v) k (ix3 0 j q) = v (ix2 j ⟨o, ho'⟩) := by
  subst ho
  unfold slabD dn0
  refine congrArg v (congrArg (ix2 j) (Fin.ext ?_))
  show 256 * (k % 4) + q.val = 256 * k + q.val
  rw [Nat.mod_eq_of_lt hk]

/-- The four column groups of the second product laid side by side, with the residual. -/
theorem down_apply (x : Vec Ideal S512x1024 .f32) (m : Vec Ideal S512x2816 .bf16) (v : Vec Ideal S2816x1024 .f32) (r : Fin 512) (k : Fin 4) (q : Fin 256) :
    k0_pay44 x (k0_pay42 m (slabD (dn0 v) 0)) m (k0_pay43 (slabD (dn0 v) 1)) (constant S512x256 .f32 0x00000000#32) m (slabD (dn0 v) 2) m (slabD (dn0 v) 3) (ix2 r ⟨256 * k + q, by omega⟩)
      = x (ix2 r ⟨256 * k + q, by omega⟩) + half * rowMul (fun j => m (ix2 r j)) (fun j c => v (ix2 j c)) ⟨256 * k + q, by omega⟩ := by
  have h0 (j : Fin 2816) (q : Fin 256) := slabD_apply v 0 (by omega) j q q.val (by omega) (by omega)
  have h1 (j : Fin 2816) (q : Fin 256) := slabD_apply v 1 (by omega) j q (256 + q.val) (by omega) (by omega)
  have h2 (j : Fin 2816) (q : Fin 256) := slabD_apply v 2 (by omega) j q (512 + q.val) (by omega) (by omega)
  have h3 (j : Fin 2816) (q : Fin 256) := slabD_apply v 3 (by omega) j q (768 + q.val) (by omega) (by omega)
  generalize slabD (dn0 v) 0 = v0, slabD (dn0 v) 1 = v1, slabD (dn0 v) 2 = v2, slabD (dn0 v) 3 = v3 at *
  obtain ⟨k, hk⟩ := k
  interval_cases k
  all_goals
    pointwise [k0_pay44, k0_pay42, k0_pay43]
    unfold rowMul
  · simp only [h0]
  · simp only [h1]
  · rw [dif_neg (by omega), dif_neg (by omega), dif_pos (by omega)]
    simp only [show 512 + q.val - 256 - 256 = q.val by omega, Fin.eta, h2]
  · rw [dif_neg (by omega), dif_neg (by omega), dif_neg (by omega)]
    simp only [show 768 + q.val - 256 - 256 - 256 = q.val by omega, Fin.eta, h3]

/-- The residual and the second product at any position. -/
theorem sum_apply (x : Vec Ideal S512x1024 .f32) (m : Vec Ideal S512x2816 .bf16) (v : Vec Ideal S2816x1024 .f32) (r : Fin 512) (c : Fin 1024) :
    k0_pay44 x (k0_pay42 m (slabD (dn0 v) 0)) m (k0_pay43 (slabD (dn0 v) 1)) (constant S512x256 .f32 0x00000000#32) m (slabD (dn0 v) 2) m (slabD (dn0 v) 3) (ix2 r c)
      = x (ix2 r c) + half * rowMul (fun j => m (ix2 r j)) (fun j c => v (ix2 j c)) c := by
  have hc : c = ⟨256 * (⟨c.val / 256, by omega⟩ : Fin 4).val + (⟨c.val % 256, by omega⟩ : Fin 256).val, by show 256 * (c.val / 256) + c.val % 256 < 1024; omega⟩ := by
    ext
    show c.val = 256 * (c.val / 256) + c.val % 256
    omega
  rw [hc]
  exact down_apply x m v r ⟨c.val / 256, by omega⟩ ⟨c.val % 256, by omega⟩

/-- What a step leaves, from the arrays as they are given. -/
theorem tile_apply (x : Vec Ideal S512x1024 .f32) (g g3 : Vec Ideal S1x1024 .f32) (w : Vec Ideal S1024x5632 .f32) (v : Vec Ideal S2816x1024 .f32) (r : Fin 512) (c : Fin 1024) :
    tile x g3 (mid (hid x g) (gu0 w)) (dn0 v) (ix2 r c) = ffnRow (fun d => x (ix2 r d)) (fun d => g (ix2 0 d)) (fun d n => w (ix2 d n)) (fun j c => v (ix2 j c)) c := by
  unfold tile
  rw [sum_apply]
  have hm : (fun j : Fin 2816 => mid (hid x g) (gu0 w) (ix2 r j)) = gated (rms (fun d => x (ix2 r d)) (fun d => g (ix2 0 d))) (fun d n => w (ix2 d n)) := by
    funext j
    rw [mid_apply]
    simp only [hid_apply]
  rw [hm]
  rfl

end Cert.Kernel3Ideal.Hand
end
-- ==== Proof.FfnIdealValue.lean ====
/- The feed-forward call as a whole: each grid point writes its tile of 512 rows, the tiles cover the result, and the
   array they leave is the reference's. -/
module

public import proofs.«01_k».proof.Proof.FfnIdealRows
public import proofs.«01_k».proof.Proof.FfnIdealFrame
public import proofs.«01_k».proof.Proof.Gen.Reference3Ideal.Run
public import proofs.«01_k».proof.Proof.Gen.Reference3Ideal.Read
public import proofs.«01_k».proof.Defs

@[expose] public section
set_option maxRecDepth 16384
noncomputable section
namespace Cert.Ffn
open Idealize.ShloMosaic Idealize.ShloMosaic.TcCoe Idealize.SL.Sem Cert.Rows
open Cert.Kernel3Ideal Cert.Kernel3Ideal.Gen Cert.Kernel3Ideal.Hand

/-- One row of the result from the whole arrays. -/
def result (x : Vec Ideal S16384x1024 .f32) (g : Vec Ideal S1x1024 .f32) (w : Vec Ideal S1024x5632 .f32) (v : Vec Ideal S2816x1024 .f32) (r : Fin 16384) (c : Fin 1024) : EReal :=
  ffnRow (fun d => x (ix2 r d)) (fun d => g (ix2 0 d)) (fun d n => w (ix2 d n)) (fun j c => v (ix2 j c)) c

/-- Which block each window is at, at every grid point. -/
theorem point0 : ∀ t : Fin grid0.N, win0_0.index t 0 = t.val ∧ win0_0.index t 1 = 0 := by decide +kernel
theorem point2 : ∀ t : Fin grid0.N, win0_2.index t 0 = 0 ∧ win0_2.index t 1 = 0 := by decide +kernel
theorem point3 : ∀ t : Fin grid0.N, win0_3.index t 0 = 0 ∧ win0_3.index t 1 = 0 := by decide +kernel
theorem point4 : ∀ t : Fin grid0.N, win0_4.index t 0 = t.val ∧ win0_4.index t 1 = 0 := by decide +kernel

variable (m : (ℓ : Loc nD τ sig) → Buf (Elt Ideal) ℓ)

/-- The row tile, read off the argument. -/
theorem block0 (c : Dev nD) (t : Fin cfg0.N) (a : Fin 512) (d : Fin 1024) :
    iblk m c 0 t (ix2 a d) = m ((c : Thread nD τ).loc main_arg0) (ix2 (⟨512 * t.val + a, by have := t.isLt; have : cfg0.N = 32 := N_0; omega⟩ : Fin 16384) d) := by
  show m ((c : Thread nD τ).loc main_arg0) _ = _
  congr 1
  funext k
  have h := point0 t
  fin_cases k
  · ext
    show win0_0.index t 0 * 512 + 1 * a.val = 512 * t.val + a
    rw [h.1]; ring
  · ext
    show win0_0.index t 1 * 1024 + 1 * d.val = d
    rw [h.2]; ring

/-- The gain, read off the argument. -/
theorem block2 (c : Dev nD) (t : Fin cfg0.N) (d : Fin 1024) :
    iblk m c 2 t (ix2 0 d) = m ((c : Thread nD τ).loc main_arg1) (ix2 0 d) := by
  show m ((c : Thread nD τ).loc main_arg1) _ = _
  congr 1
  funext k
  have h := point2 t
  fin_cases k
  · ext
    show win0_2.index t 0 * 1 + 1 * 0 = 0
    rw [h.1]
  · ext
    show win0_2.index t 1 * 1024 + 1 * d.val = d
    rw [h.2]; ring

/-- The whole result array. -/
def whole (c : Dev nD) : Buf (Elt Ideal) ((c : Thread nD τ).loc main_v0) := fun i =>
  result (m ((c : Thread nD τ).loc main_arg0)) (m ((c : Thread nD τ).loc main_arg1)) (m ((c : Thread nD τ).loc main_arg2))
    (m ((c : Thread nD τ).loc main_arg3)) (i 0) (i 1)

/-- What a grid point leaves, position by position. -/
theorem outAt_apply (c : Dev nD) (t : Fin cfg0.N) (a : Fin 512) (d : Fin 1024) :
    outAt m c t (ix2 a d) = result (m ((c : Thread nD τ).loc main_arg0)) (m ((c : Thread nD τ).loc main_arg1)) (m ((c : Thread nD τ).loc main_arg2))
      (m ((c : Thread nD τ).loc main_arg3)) (⟨512 * t.val + a, by have := t.isLt; have : cfg0.N = 32 := N_0; omega⟩ : Fin 16384) d := by
  have hgu : gu m c = gu0 (F := Ideal) (m ((c : Thread nD τ).loc main_arg2)) := rfl
  have hdn : dn m c = dn0 (F := Ideal) (m ((c : Thread nD τ).loc main_arg3)) := rfl
  unfold outAt
  rw [hgu, hdn, tile_apply]
  unfold result
  simp only [block0 m c t, block2 m c t]

/-- What a grid point writes back is its block of the whole result. -/
theorem flushed (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  have hN : cfg0.N = 32 := N_0
  have ht := t.isLt
  funext y
  obtain ⟨a, d, rfl⟩ : ∃ (a : Fin 512) (d : Fin 1024), y = ix2 a d := ⟨y 0, y 1, by funext k; fin_cases k <;> rfl⟩
  have h0 : ((cfg0.win 4).blk t).view.emb (ix2 a d) 0 = (⟨512 * t.val + a, by omega⟩ : Fin 16384) := by
    ext
    show win0_4.index t 0 * 512 + 1 * a.val = 512 * t.val + a
    rw [(point4 t).1]; ring
  have h1 : ((cfg0.win 4).blk t).view.emb (ix2 a d) 1 = d := by
    ext
    show win0_4.index t 1 * 1024 + 1 * d.val = d
    rw [(point4 t).2]; ring
  show outAt m c t (ix2 a d) = whole m c (((cfg0.win 4).blk t).view.emb (ix2 a d))
  unfold whole
  rw [h0, h1]
  exact outAt_apply m c t a d

/-- So the result array ends at the whole result. -/
theorem final (c : Dev nD) : (dats m 0 c).arrAt 4 cfg0.N = whole m c :=
  (dats m 0 c).arrAt_eq_of_cover 4 (whole m c) (fun t _ => flushed m c t) fun i => by
    have hN : cfg0.N = 32 := N_0
    have h0 : (i 0 : ℕ) < 16384 := (i 0).isLt
    have h1 : (i 1 : ℕ) < 1024 := (i 1).isLt
    let t : Fin cfg0.N := ⟨(i 0).val / 512, by omega⟩
    refine ⟨t, (by decide +kernel : ∀ t : Fin grid0.N, win0_4.flush t = true) _, ?_⟩
    show i ∈ ((View.whole main_v0).slice (win0_4.rect t)).set
    rw [View.set_slice_whole, Rect.mem_set_unit]
    intro k
    fin_cases k
    · show win0_4.index t 0 * 512 ≤ (i 0).val ∧ (i 0).val < win0_4.index t 0 * 512 + 512
      rw [(point4 t).1]
      show (i 0).val / 512 * 512 ≤ _ ∧ _ < (i 0).val / 512 * 512 + 512
      omega
    · show win0_4.index t 1 * 1024 ≤ (i 1).val ∧ (i 1).val < win0_4.index t 1 * 1024 + 1024
      rw [(point4 t).2]
      omega

section
open Cert.Reference3Ideal.Read
variable (x : Vec Ideal S16384x1024 .f32) (g : Vec Ideal S1x1024 .f32) (w : Vec Ideal S1024x5632 .f32) (v : Vec Ideal S2816x1024 .f32)

/-- The reference's normalised row. -/
theorem ref_norm (r : Fin 16384) (d : Fin 1024) :
    val_main_v11 (F := Ideal) x g (ix2 r d) = rms (fun d => x (ix2 r d)) (fun d => g (ix2 0 d)) d := by
  pointwise [val_main_v11, val_main_v10, val_main_v9, val_main_v8, val_main_v7, val_main_v6, val_main_cst_1, val_main_v5, val_main_v4, val_main_cst_0, val_main_v3, val_main_v2, val_main_cst, val_main_v1, val_main_v0]
  rfl

/-- The reference's first product. -/
theorem ref_wide (r : Fin 16384) (n : Fin 5632) :
    val_main_v12 (F := Ideal) x g w (ix2 r n) = rowMul (rms (fun d => x (ix2 r d)) (fun d => g (ix2 0 d))) (fun d n => w (ix2 d n)) n := by
  have h : rms (fun d => x (ix2 r d)) (fun d => g (ix2 0 d)) = fun d => val_main_v11 (F := Ideal) x g (ix2 r d) := funext fun d => (ref_norm x g r d).symm
  rw [h]
  unfold val_main_v12 rowMul
  generalize val_main_v11 (F := Ideal) x g = y
  pointwise

/-- The reference's hidden layer. -/
theorem ref_hidden (r : Fin 16384) (j : Fin 2816) :
    val_main_v16 (F := Ideal) x g w (ix2 r j) = gated (rms (fun d => x (ix2 r d)) (fun d => g (ix2 0 d))) (fun d n => w (ix2 d n)) j := by
  unfold gated
  rw [← ref_wide x g w r, ← ref_wide x g w r]
  unfold val_main_v16 val_main_v15 val_main_call0_v5 val_main_call0_v4 val_main_call0_cst_0 val_main_call0_v3 val_main_call0_v2 val_main_call0_cst val_main_call0_v1 val_main_call0_v0 val_main_v14 val_main_v13
  generalize val_main_v12 (F := Ideal) x g w = y
  pointwise
  unfold silu Ideal.logistic
  rfl

/-- The reference's rows before any closing norm. -/
theorem ref_sum (r : Fin 16384) (c : Fin 1024) :
    val_main_v20 (F := Ideal) x g w v (ix2 r c) = ffnRow (fun d => x (ix2 r d)) (fun d => g (ix2 0 d)) (fun d n => w (ix2 d n)) (fun j c => v (ix2 j c)) c := by
  unfold ffnRow
  have h : gated (rms (fun d => x (ix2 r d)) (fun d => g (ix2 0 d))) (fun d n => w (ix2 d n)) = fun j => val_main_v16 (F := Ideal) x g w (ix2 r j) := funext fun j => (ref_hidden x g w r j).symm
  rw [h]
  unfold val_main_v20 val_main_v19 val_main_v18 val_main_cst_2 val_main_v17 rowMul
  generalize val_main_v16 (F := Ideal) x g w = y
  pointwise

/-- The reference, row by row. -/
theorem ref_result (i : S16384x1024.Idx) :
    val_main_v20 (F := Ideal) x g w v i = result x g w v (i 0) (i 1) := by
  obtain ⟨r, d, rfl⟩ : ∃ (r : Fin 16384) (d : Fin 1024), i = ix2 r d := ⟨i 0, i 1, by funext k; fin_cases k <;> rfl⟩
  unfold result
  exact ref_sum x g w v r d
end

/-- The value claim of this call. -/
theorem algebraic : Cert.algebraic_Kernel3Ideal_Reference3Ideal := by
  intro m ρ m' ρ' _ hagree
  refine ⟨fun c => whole m c, ?_, ?_⟩
  · exact (θ_run Cert.Kernel3Ideal.defs _ _).mono
      (fun _ h c => ⟨((h.1 c).1 4).trans (final m c), ((h.1 c).1 0).trans (((dats m 0 c).arrAt_in 0 rfl _).trans (A_eq m c 0)),
        ((h.1 c).1 2).trans (((dats m 0 c).arrAt_in 2 rfl _).trans (A_eq m c 2)),
        (h.1 c).2 main_arg2 (Pipeline.mem_restRefs_of main_arg2 (by decide) (by decide)),
        (h.1 c).2 main_arg3 (Pipeline.mem_restRefs_of main_arg3 (by decide) (by decide)),
        ((h.1 c).1 3).trans (((dats m 0 c).arrAt_in 3 rfl _).trans (A_eq m c 3))⟩) (run_main (F := Ideal) m ρ)
  · refine (θ_run Cert.Reference3Ideal.defs _ _).mono (fun _ h c => ⟨(h c).1.trans ?_, (h c).2⟩)
      (Cert.Reference3Ideal.Value.run (F := Ideal) m' ρ')
    rw [Cert.Reference3Ideal.Read.val_main_v20_eq, (hagree c).1, (hagree c).2.1, (hagree c).2.2.1, (hagree c).2.2.2.1]
    funext i
    exact ref_result _ _ _ _ i

end Cert.Ffn
end
-- ==== Proof.FinalIdealFirst.lean ====
/- One grid point of the feed-forward call with the closing norm: the first, which brings the weights in. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gate and up weights, whole. -/
abbrev hbGu : Memref sig .tc .hbm S1024x5632 .f32 := Memref.whole main_arg2
/-- The down weights, whole. -/
abbrev hbDn : Memref sig .tc .hbm S2816x1024 .f32 := Memref.whole main_arg3
/-- The scratch holding the gate and up weights by chunks. -/
abbrev scGu : Memref sig .tc .vmem S22x1024x256 .f32 := Memref.whole cc0_scratch0
/-- The scratch holding the down weights by chunks. -/
abbrev scDn : Memref sig .tc .vmem S4x2816x256 .f32 := Memref.whole cc0_scratch1
/-- The contents of a buffer. -/
abbrev Cont (c : Dev nD) {sp : Space} {S : Shape} {e : EltTy} (M : Memref sig .tc sp S e) : Type := Buf (Elt F) (M.view.loc (c : Thread nD τ))
/-- A buffer held whole at contents. -/
abbrev wholeAt (c : Dev nD) {sp : Space} {S : Shape} {e : EltTy} (M : Memref sig .tc sp S e) (f : Cont (F := F) c M) : sProp 𝕄 :=
  M.view.loc (c : Thread nD τ) ↦{fullShare} f

set_option sl_exec.dmaWindow true in
set_option sl_exec.dmaWindowSet true in
set_option sl_exec.rejoinFuel 60 in
set_option maxHeartbeats 40000000 in
/-- The first step's run. -/
noncomputable def runA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg6 : Memref sig .tc .vmem S1x1024 .f32) (harg6 : arg6.IsWhole) (arg7 : Memref sig .tc .vmem S512x1024 .f32) (harg7 : arg7.IsWhole) (arg10 : Memref sig .tc .vmem S512x2816 .bf16) (harg10 : arg10.IsWhole) (arg11 : Memref sig .tc .vmem S2x512x1024 .bf16) (harg11 : arg11.IsWhole) (arg12 : Memref sig .tc .vmem S2x512x256 .bf16) (harg12 : arg12.IsWhole)
    (hc1 : k0_cond1 i = 1#1) (hc2 : ¬ k0_cond2 i = 1#1)
    (x0 x1 : Vec F S512x1024 .f32) (x2 x3 : Vec F S1x1024 .f32)
    (g4 : Buf (Elt F) (hbGu.view.loc (c : Thread nD τ)))
    (g5 : Buf (Elt F) (hbDn.view.loc (c : Thread nD τ)))
    (g8 : Buf (Elt F) (scGu.view.loc (c : Thread nD τ)))
    (g9 : Buf (Elt F) (scDn.view.loc (c : Thread nD τ)))
    (g11 : Buf (Elt F) (arg11.view.loc (c : Thread nD τ))) (g12 : Buf (Elt F) (arg12.view.loc (c : Thread nD τ))) :
    Σ' (L7 : List (View.Piece (Elt F) S512x1024 .f32)), Σ' (L10 : List (View.Piece (Elt F) S512x2816 .bf16)),
    Σ' (X8 : Buf (Elt F) (scGu.view.loc (c : Thread nD τ))),
    Σ' (X9 : Buf (Elt F) (scDn.view.loc (c : Thread nD τ))),
    Σ' (X11 : Buf (Elt F) (arg11.view.loc (c : Thread nD τ))), { X12 : Buf (Elt F) (arg12.view.loc (c : Thread nD τ)) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ wholeAt c scGu g8 ∗ wholeAt c scDn g9 ∗ (∃ d, owns (c : Thread nD τ) arg10 fullShare d) ∗ (arg11.view.loc (c : Thread nD τ) ↦[arg11.view.set]{fullShare} g11) ∗ (arg12.view.loc (c : Thread nD τ) ↦[arg12.view.set]{fullShare} g12) ∗ wholeAt c hbGu g4 ∗ wholeAt c hbDn g5 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ (∃ f, arg7.view.loc (c : Thread nD τ) ↦[arg7.view.set]{fullShare} arg7.view.writes (Elt F) f L7) ∗ wholeAt c scGu X8 ∗ wholeAt c scDn X9 ∗ (∃ f, arg10.view.loc (c : Thread nD τ) ↦[arg10.view.set]{fullShare} arg10.view.writes (Elt F) f L10) ∗ (arg11.view.loc (c : Thread nD τ) ↦[arg11.view.set]{fullShare} X11) ∗ (arg12.view.loc (c : Thread nD τ) ↦[arg12.view.set]{fullShare} X12) ∗ wholeAt c hbGu g4 ∗ wholeAt c hbDn g5 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ (∃ W', owes (c : Thread nD τ) 0 W')) -∗ K ⟨⟩))
          ⊢ wp frame (wpE (defs₀ (F := F)) Variants.none c none) Set.univ (cc0_ffn_final i arg1 harg1 arg2 harg2 arg3 harg3 hbGu (Memref.isWhole_whole _) hbDn (Memref.isWhole_whole _) arg6 harg6 arg7 harg7 scGu (Memref.isWhole_whole _) scDn (Memref.isWhole_whole _) arg10 harg10 arg11 harg11 arg12 harg12 cc0_scratch5) K } := by
  refine ⟨?_, ?_, ?_, ?_, ?_, ?_, fun W K => ?run⟩
  case run =>
    simp only [cc0_ffn_final_eq_skeleton]; unfold cc0_ffn_final_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%d7, %f7, -, H7⟩, H8, H9, ⟨%d10, %f10, -, H10⟩, H11, H12, H4, H5, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, HW, Hk⟩
    obtain rfl := harg1.eq_unread hf0; obtain rfl := harg2.eq_unread hf1; obtain rfl := harg3.eq_unread hf2; obtain rfl := harg6.eq_unread hf3
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H7]; · iexists _; iexact H7
    isplitl [H8]; · iexact H8
    isplitl [H9]; · iexact H9
    isplitl [H10]; · iexists _; iexact H10
    isplitl [H11]; · iexact H11
    isplitl [H12]; · iexact H12
    isplitl [H4]; · iexact H4
    isplitl [H5]; · iexact H5
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    iexists _; iexact HW

end Cert.Kernel4Ideal.Hand

end
-- ==== Proof.FinalIdealLater.lean ====
/- One grid point of the feed-forward call with the closing norm: any later one. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A later step's run. On whole memrefs, the windows at `x0` (this tile), `x1` (the next tile), `x2`, `x3` (the two
    gains) and the scratch at `s8`, `s9` (the weights' chunks), `s11`, `s12` (what the step before left), the body
    runs to the continuation with its result written in the pieces `L7`, the activations in the pieces `L10`, and
    the two carried buffers at the contents `X11` and `X12`. -/
noncomputable def runB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .hbm S1024x5632 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S22x1024x256 .f32) (harg8 : arg8.IsWhole) (arg9 : Memref sig .tc .vmem S4x2816x256 .f32) (harg9 : arg9.IsWhole) (arg10 : Memref sig .tc .vmem S512x2816 .bf16) (harg10 : arg10.IsWhole) (arg11 : Memref sig .tc .vmem S2x512x1024 .bf16) (harg11 : arg11.IsWhole) (arg12 : Memref sig .tc .vmem S2x512x256 .bf16) (harg12 : arg12.IsWhole) (arg13 : DmaSems sig S26)
    (hc1 : ¬ k0_cond1 i = 1#1) (hc2 : k0_cond2 i = 1#1)
    (x0 x1 : Vec F S512x1024 .f32) (x2 x3 : Vec F S1x1024 .f32) (s8 : Vec F S22x1024x256 .f32) (s9 : Vec F S4x2816x256 .f32)
    (s11 : Vec F S2x512x1024 .bf16) (s12 : Vec F S2x512x256 .bf16) :
    Σ' (L7 : List (View.Piece (Elt F) S512x1024 .f32)), Σ' (L10 : List (View.Piece (Elt F) S512x2816 .bf16)),
    Σ' (X11 : Buf (Elt F) (arg11.view.loc (c : Thread nD τ))), { X12 : Buf (Elt F) (arg12.view.loc (c : Thread nD τ)) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ owns (c : Thread nD τ) arg8 fullShare s8 ∗ owns (c : Thread nD τ) arg9 fullShare s9 ∗ (∃ d, owns (c : Thread nD τ) arg10 fullShare d) ∗ owns (c : Thread nD τ) arg11 fullShare s11 ∗ owns (c : Thread nD τ) arg12 fullShare s12
            ∗ (iprop(owns (c : Thread nD τ) arg1 fullShare x0 ∗ owns (c : Thread nD τ) arg2 fullShare x1 ∗ owns (c : Thread nD τ) arg3 fullShare x2 ∗ owns (c : Thread nD τ) arg6 fullShare x3 ∗ (∃ f, arg7.view.loc (c : Thread nD τ) ↦[arg7.view.set]{fullShare} arg7.view.writes (Elt F) f L7) ∗ owns (c : Thread nD τ) arg8 fullShare s8 ∗ owns (c : Thread nD τ) arg9 fullShare s9 ∗ (∃ f, arg10.view.loc (c : Thread nD τ) ↦[arg10.view.set]{fullShare} arg10.view.writes (Elt F) f L10) ∗ (arg11.view.loc (c : Thread nD τ) ↦[arg11.view.set]{fullShare} X11) ∗ (arg12.view.loc (c : Thread nD τ) ↦[arg12.view.set]{fullShare} X12)) -∗ K ⟨⟩))
          ⊢ wp frame (wpE (defs₀ (F := F)) Variants.none c none) E (cc0_ffn_final i arg1 harg1 arg2 harg2 arg3 harg3 arg4 harg4 arg5 harg5 arg6 harg6 arg7 harg7 arg8 harg8 arg9 harg9 arg10 harg10 arg11 harg11 arg12 harg12 arg13) K } := by
  refine ⟨?_, ?_, ?_, ?_, fun E K => ?run⟩
  case run =>
    simp only [cc0_ffn_final_eq_skeleton]; unfold cc0_ffn_final_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, ⟨%d10, %f10, -, H10⟩, ⟨%f11, %hf11, H11⟩, ⟨%f12, %hf12, H12⟩, Hk⟩
    obtain rfl := harg1.eq_unread hf0; obtain rfl := harg2.eq_unread hf1; obtain rfl := harg3.eq_unread hf2; obtain rfl := harg6.eq_unread hf3; obtain rfl := harg8.eq_unread hf8; obtain rfl := harg9.eq_unread hf9; obtain rfl := harg11.eq_unread hf11; obtain rfl := harg12.eq_unread hf12
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexact H11
    iexact H12

end Cert.Kernel4Ideal.Hand

end
-- ==== Proof.FinalIdealTile.lean ====
/- What a step of the feed-forward call leaves, in plain terms. -/
module

public import proofs.«01_k».proof.Proof.FinalIdealFirst
public import proofs.«01_k».proof.Proof.FinalIdealLater
public import Idealize.ShloMosaic.Lib.WholeRead
public import Idealize.ShloMosaic.Lib.ViewIndex
public import Idealize.ShloMosaic.Lib.WritesUnit
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- An entry of a rank-2 array. -/
abbrev at2 {a b : ℕ} (i : Fin a) (j : Fin b) : (⟨2, ![a, b]⟩ : Shape).Idx := Idealize.ShloMosaic.ix2 i j
/-- An entry of a rank-3 array. -/
abbrev at3 {a b d : ℕ} (i : Fin a) (j : Fin b) (k : Fin d) : (⟨3, ![a, b, d]⟩ : Shape).Idx := Idealize.ShloMosaic.ix3 i j k

/-- The gate and up weights cut into 22 groups of 256 columns. -/
def gu0 (w : Vec F S1024x5632 .f32) : Vec F S22x1024x256 .f32 := fun y =>
  w (at2 (y 1) ⟨256 * (y 0).val + (y 2).val, by have h0 : (y 0).val < 22 := (y 0).isLt; have h2 : (y 2).val < 256 := (y 2).isLt; omega⟩)

/-- The down weights cut into 4 groups of 256 columns. -/
def dn0 (w : Vec F S2816x1024 .f32) : Vec F S4x2816x256 .f32 := fun y =>
  w (at2 (y 1) ⟨256 * (y 0).val + (y 2).val, by have h0 : (y 0).val < 4 := (y 0).isLt; have h2 : (y 2).val < 256 := (y 2).isLt; omega⟩)

/-- The `k`-th group of the gate and up weights. -/
def slab (s : Vec F S22x1024x256 .f32) (k : ℕ) : Vec F S1x1024x256 .f32 := fun y =>
  s (at3 ⟨k % 22, Nat.mod_lt _ (by decide)⟩ (y 1) (y 2))

/-- The `k`-th group of the down weights. -/
def slabD (s : Vec F S4x2816x256 .f32) (k : ℕ) : Vec F S1x2816x256 .f32 := fun y =>
  s (at3 ⟨k % 4, Nat.mod_lt _ (by decide)⟩ (y 1) (y 2))

/-- The normalised block of rows. -/
def hid (x : Vec F S512x1024 .f32) (g : Vec F S1x1024 .f32) : FVec F S512x1024 .bf16 := k0_pay47 x g

/-- One group of hidden columns: gate times its logistic times up. -/
def act (h : FVec F S512x1024 .bf16) (a b : Vec F S1x1024x256 .f32) : FVec F S512x256 .bf16 := k0_pay43 h a b

/-- The hidden block: its groups of 256 columns side by side. -/
def mid (h : FVec F S512x1024 .bf16) (g : Vec F S22x1024x256 .f32) : Vec F S512x2816 .bf16 := fun y =>
  act h (slab g ((y 1).val / 256)) (slab g (11 + (y 1).val / 256)) (at2 (y 0) ⟨(y 1).val % 256, Nat.mod_lt _ (by decide)⟩)

/-- The result block from the hidden block. -/
def tile (x : Vec F S512x1024 .f32) (x3 : Vec F S1x1024 .f32) (m : Vec F S512x2816 .bf16) (d : Vec F S4x2816x256 .f32) : Vec F S512x1024 .f32 :=
  k0_pay4 (k0_pay46 x (k0_pay44 m (slabD d 0)) m (k0_pay45 (slabD d 1)) (constant S512x256 .f32 0x00000000#32) m (slabD d 2) m (slabD d 3)) x3

/-- A load of one group from the scratch of gate and up weights. -/
theorem readAt_slab {M : Memref sig .tc .vmem S22x1024x256 .f32} (f : M.view.ty.Contents (Elt F)) (k : ℕ) (hk : k < 22)
    (inb : ∀ a, (![k, 0, 0] : Fin 3 → ℕ) a + S1x1024x256.size a ≤ S22x1024x256.size a) :
    View.readAt (Elt F) M.view (Rect.unit (s := S22x1024x256) ![k, 0, 0] S1x1024x256.size inb).toLoadRect f = slab (View.read (Elt F) M.view f) k := by
  funext y
  show View.read (Elt F) M.view f _ = View.read (Elt F) M.view f _
  congr 1
  funext a
  apply Fin.ext
  have h0 : (y 0).val = 0 := by have h0 : (y 0).val < 1 := (y 0).isLt; omega
  fin_cases a
  · show k + 1 * (y 0).val = k % 22
    rw [h0, Nat.mod_eq_of_lt hk]
    omega
  · show 0 + 1 * (y 1).val = (y 1).val
    omega
  · show 0 + 1 * (y 2).val = (y 2).val
    omega

/-- A load of one group from the scratch of down weights. -/
theorem readAt_slabD {M : Memref sig .tc .vmem S4x2816x256 .f32} (f : M.view.ty.Contents (Elt F)) (k : ℕ) (hk : k < 4)
    (inb : ∀ a, (![k, 0, 0] : Fin 3 → ℕ) a + S1x2816x256.size a ≤ S4x2816x256.size a) :
    View.readAt (Elt F) M.view (Rect.unit (s := S4x2816x256) ![k, 0, 0] S1x2816x256.size inb).toLoadRect f = slabD (View.read (Elt F) M.view f) k := by
  funext y
  show View.read (Elt F) M.view f _ = View.read (Elt F) M.view f _
  congr 1
  funext a
  apply Fin.ext
  have h0 : (y 0).val = 0 := by have h0 : (y 0).val < 1 := (y 0).isLt; omega
  fin_cases a
  · show k + 1 * (y 0).val = k % 4
    rw [h0, Nat.mod_eq_of_lt hk]
    omega
  · show 0 + 1 * (y 1).val = (y 1).val
    omega
  · show 0 + 1 * (y 2).val = (y 2).val
    omega

/-- What the scratch of gate and up weights reads after a transfer into its `k`-th group. -/
theorem peel {M : Memref sig .tc .vmem S22x1024x256 .f32} (k : ℕ)
    (inb : ∀ a, (![k, 0, 0] : Fin 3 → ℕ) a + S1x1024x256.size a ≤ S22x1024x256.size a)
    (hs : ∀ a, (Rect.unit (s := S22x1024x256) ![k, 0, 0] S1x1024x256.size inb).stride a = 1) (hq : S1x1024x256.Squeezes S1024x256)
    (f : M.view.ty.Contents (Elt F)) (w : S1024x256.Idx → Elt F .f32) (y : S22x1024x256.Idx) :
    View.read (Elt F) M.view (View.write (Elt F) ((M.slice (Rect.unit (s := S22x1024x256) ![k, 0, 0] S1x1024x256.size inb) hs).squeeze S1024x256 hq).view f w Finset.univ) y
      = if (y 0).val = k then w (at2 (y 1) (y 2)) else View.read (Elt F) M.view f y := by
  refine (congrFun (congrArg (View.read (Elt F) M.view) (View.write_reshape_univ (M.view.slice (Rect.unit (s := S22x1024x256) ![k, 0, 0] S1x1024x256.size inb)) hq.numel_eq f w : View.write (Elt F) ((M.slice (Rect.unit (s := S22x1024x256) ![k, 0, 0] S1x1024x256.size inb) hs).squeeze S1024x256 hq).view f w Finset.univ = _)) y).trans ?_
  have e := View.read_writes_cons_unit M.view f inb (fun x => w ((Shape.reshapeEquiv hq.numel_eq).symm x)) [] y rfl
  refine (Eq.trans ?_ e).trans ?_
  · rfl
  by_cases h : (y 0).val = k
  · rw [if_pos h, dif_pos]
    · congr 1
      rw [Equiv.symm_apply_eq]
      refine Eq.trans ?_ (shapeCast_dropUnit_apply (α := S1x1024x256.Idx) ![1024, 256] id shapeCasts_S1x1024x256_S1024x256 (at2 (y 1) (y 2))).symm
      funext a
      apply Fin.ext
      fin_cases a
      · show (y 0).val - k = 0
        omega
      · show (y 1).val - 0 = (y 1).val
        omega
      · show (y 2).val - 0 = (y 2).val
        omega
    · intro a
      fin_cases a
      · exact ⟨h.symm.le, by show (y 0).val < k + 1; omega⟩
      · exact ⟨Nat.zero_le _, by show (y 1).val < 0 + 1024; have h1 : (y 1).val < 1024 := (y 1).isLt; omega⟩
      · exact ⟨Nat.zero_le _, by show (y 2).val < 0 + 256; have h1 : (y 2).val < 256 := (y 2).isLt; omega⟩
  · rw [if_neg h, dif_neg]
    · rfl
    · intro hh
      have h0 := hh 0
      apply h
      have h1 : k ≤ (y 0).val := h0.1
      have h2 : (y 0).val < k + 1 := h0.2
      omega
/-- What the scratch of down weights reads after a transfer into its `k`-th group. -/
theorem peelD {M : Memref sig .tc .vmem S4x2816x256 .f32} (k : ℕ)
    (inb : ∀ a, (![k, 0, 0] : Fin 3 → ℕ) a + S1x2816x256.size a ≤ S4x2816x256.size a)
    (hs : ∀ a, (Rect.unit (s := S4x2816x256) ![k, 0, 0] S1x2816x256.size inb).stride a = 1) (hq : S1x2816x256.Squeezes S2816x256)
    (f : M.view.ty.Contents (Elt F)) (w : S2816x256.Idx → Elt F .f32) (y : S4x2816x256.Idx) :
    View.read (Elt F) M.view (View.write (Elt F) ((M.slice (Rect.unit (s := S4x2816x256) ![k, 0, 0] S1x2816x256.size inb) hs).squeeze S2816x256 hq).view f w Finset.univ) y
      = if (y 0).val = k then w (at2 (y 1) (y 2)) else View.read (Elt F) M.view f y := by
  refine (congrFun (congrArg (View.read (Elt F) M.view) (View.write_reshape_univ (M.view.slice (Rect.unit (s := S4x2816x256) ![k, 0, 0] S1x2816x256.size inb)) hq.numel_eq f w : View.write (Elt F) ((M.slice (Rect.unit (s := S4x2816x256) ![k, 0, 0] S1x2816x256.size inb) hs).squeeze S2816x256 hq).view f w Finset.univ = _)) y).trans ?_
  have e := View.read_writes_cons_unit M.view f inb (fun x => w ((Shape.reshapeEquiv hq.numel_eq).symm x)) [] y rfl
  refine (Eq.trans ?_ e).trans ?_
  · rfl
  by_cases h : (y 0).val = k
  · rw [if_pos h, dif_pos]
    · congr 1
      rw [Equiv.symm_apply_eq]
      refine Eq.trans ?_ (shapeCast_dropUnit_apply (α := S1x2816x256.Idx) ![2816, 256] id shapeCasts_S1x2816x256_S2816x256 (at2 (y 1) (y 2))).symm
      funext a
      apply Fin.ext
      fin_cases a
      · show (y 0).val - k = 0
        omega
      · show (y 1).val - 0 = (y 1).val
        omega
      · show (y 2).val - 0 = (y 2).val
        omega
    · intro a
      fin_cases a
      · exact ⟨h.symm.le, by show (y 0).val < k + 1; omega⟩
      · exact ⟨Nat.zero_le _, by show (y 1).val < 0 + 2816; have h1 : (y 1).val < 2816 := (y 1).isLt; omega⟩
      · exact ⟨Nat.zero_le _, by show (y 2).val < 0 + 256; have h1 : (y 2).val < 256 := (y 2).isLt; omega⟩
  · rw [if_neg h, dif_neg]
    · rfl
    · intro hh
      have h0 := hh 0
      apply h
      have h1 : k ≤ (y 0).val := h0.1
      have h2 : (y 0).val < k + 1 := h0.2
      omega

/-- The same at a place told by its coordinates. -/
theorem peel3 {M : Memref sig .tc .vmem S22x1024x256 .f32} (k : ℕ)
    (inb : ∀ a, (![k, 0, 0] : Fin 3 → ℕ) a + S1x1024x256.size a ≤ S22x1024x256.size a)
    (hs : ∀ a, (Rect.unit (s := S22x1024x256) ![k, 0, 0] S1x1024x256.size inb).stride a = 1) (hq : S1x1024x256.Squeezes S1024x256)
    (f : M.view.ty.Contents (Elt F)) (w : S1024x256.Idx → Elt F .f32) (j : Fin 22) (a : Fin 1024) (b : Fin 256) :
    View.read (Elt F) M.view (View.write (Elt F) ((M.slice (Rect.unit (s := S22x1024x256) ![k, 0, 0] S1x1024x256.size inb) hs).squeeze S1024x256 hq).view f w Finset.univ) (at3 j a b)
      = if j.val = k then w (at2 a b) else View.read (Elt F) M.view f (at3 j a b) := peel k inb hs hq f w (at3 j a b)

/-- And so for the down weights, at a place told by its coordinates. -/
theorem peelD3 {M : Memref sig .tc .vmem S4x2816x256 .f32} (k : ℕ)
    (inb : ∀ a, (![k, 0, 0] : Fin 3 → ℕ) a + S1x2816x256.size a ≤ S4x2816x256.size a)
    (hs : ∀ a, (Rect.unit (s := S4x2816x256) ![k, 0, 0] S1x2816x256.size inb).stride a = 1) (hq : S1x2816x256.Squeezes S2816x256)
    (f : M.view.ty.Contents (Elt F)) (w : S2816x256.Idx → Elt F .f32) (j : Fin 4) (a : Fin 2816) (b : Fin 256) :
    View.read (Elt F) M.view (View.write (Elt F) ((M.slice (Rect.unit (s := S4x2816x256) ![k, 0, 0] S1x2816x256.size inb) hs).squeeze S2816x256 hq).view f w Finset.univ) (at3 j a b)
      = if j.val = k then w (at2 a b) else View.read (Elt F) M.view f (at3 j a b) := peelD k inb hs hq f w (at3 j a b)

/-- A part of the gate and up weights the transfers read. -/
theorem part_gu (c : Dev nD) (g4 : Buf (Elt F) (hbGu.view.loc (c : Thread nD τ))) (o : ℕ)
    (inb : ∀ a, (![0, o] : Fin 2 → ℕ) a + S1024x256.size a ≤ S1024x5632.size a)
    (hs : ∀ a, (Rect.unit (s := S1024x5632) ![0, o] S1024x256.size inb).stride a = 1) (a : Fin 1024) (b : Fin 256) (h : o + b.val < 5632) :
    View.read (Elt F) (hbGu.slice (Rect.unit (s := S1024x5632) ![0, o] S1024x256.size inb) hs).view g4 (at2 a b)
      = View.read (Elt F) hbGu.view g4 (at2 a ⟨o + b.val, h⟩) := by
  show View.read (Elt F) hbGu.view g4 _ = _
  congr 1
  funext d
  apply Fin.ext
  fin_cases d
  · show 0 + 1 * a.val = a.val
    omega
  · show o + 1 * b.val = o + b.val
    omega

/-- A part of the down weights the transfers read. -/
theorem part_dn (c : Dev nD) (g5 : Buf (Elt F) (hbDn.view.loc (c : Thread nD τ))) (o : ℕ)
    (inb : ∀ a, (![0, o] : Fin 2 → ℕ) a + S2816x256.size a ≤ S2816x1024.size a)
    (hs : ∀ a, (Rect.unit (s := S2816x1024) ![0, o] S2816x256.size inb).stride a = 1) (a : Fin 2816) (b : Fin 256) (h : o + b.val < 1024) :
    View.read (Elt F) (hbDn.slice (Rect.unit (s := S2816x1024) ![0, o] S2816x256.size inb) hs).view g5 (at2 a b)
      = View.read (Elt F) hbDn.view g5 (at2 a ⟨o + b.val, h⟩) := by
  show View.read (Elt F) hbDn.view g5 _ = _
  congr 1
  funext d
  apply Fin.ext
  fin_cases d
  · show 0 + 1 * a.val = a.val
    omega
  · show o + 1 * b.val = o + b.val
    omega

/-- The scratch of gate and up weights after the first step's transfers. -/
def nestGu (c : Dev nD) (g4 : Buf (Elt F) (hbGu.view.loc (c : Thread nD τ))) (g8 : Buf (Elt F) (scGu.view.loc (c : Thread nD τ))) :
    Buf (Elt F) (scGu.view.loc (c : Thread nD τ)) :=
  View.write (Elt F) ((scGu.slice (Rect.unit (s := S22x1024x256) ![21, 0, 0] S1x1024x256.size inb_S22x1024x256_S1x1024x256_21_0_0) (fun _ => rfl)).squeeze S1024x256 squeezes_S1x1024x256_S1024x256).view
    (View.write (Elt F) ((scGu.slice (Rect.unit (s := S22x1024x256) ![10, 0, 0] S1x1024x256.size inb_S22x1024x256_S1x1024x256_10_0_0) (fun _ => rfl)).squeeze S1024x256 squeezes_S1x1024x256_S1024x256).view
    (View.write (Elt F) ((scGu.slice (Rect.unit (s := S22x1024x256) ![20, 0, 0] S1x1024x256.size inb_S22x1024x256_S1x1024x256_20_0_0) (fun _ => rfl)).squeeze S1024x256 squeezes_S1x1024x256_S1024x256).view
    (View.write (Elt F) ((scGu.slice (Rect.unit (s := S22x1024x256) ![9, 0, 0] S1x1024x256.size inb_S22x1024x256_S1x1024x256_9_0_0) (fun _ => rfl)).squeeze S1024x256 squeezes_S1x1024x256_S1024x256).view
    (View.write (Elt F) ((scGu.slice (Rect.unit (s := S22x1024x256) ![19, 0, 0] S1x1024x256.size inb_S22x1024x256_S1x1024x256_19_0_0) (fun _ => rfl)).squeeze S1024x256 squeezes_S1x1024x256_S1024x256).view
    (View.write (Elt F) ((scGu.slice (Rect.unit (s := S22x1024x256) ![8, 0, 0] S1x1024x256.size inb_S22x1024x256_S1x1024x256_8_0_0) (fun _ => rfl)).squeeze S1024x256 squeezes_S1x1024x256_S1024x256).view
    (View.write (Elt F) ((scGu.slice (Rect.unit (s := S22x1024x256) ![18, 0, 0] S1x1024x256.size inb_S22x1024x256_S1x1024x256_18_0_0) (fun _ => rfl)).squeeze S1024x256 squeezes_S1x1024x256_S1024x256).view
    (View.write (Elt F) ((scGu.slice (Rect.unit (s := S22x1024x256) ![7, 0, 0] S1x1024x256.size inb_S22x1024x256_S1x1024x256_7_0_0) (fun _ => rfl)).squeeze S1024x256 squeezes_S1x1024x256_S1024x256).view
    (View.write (Elt F) ((scGu.slice (Rect.unit (s := S22x1024x256) ![17, 0, 0] S1x1024x256.size inb_S22x1024x256_S1x1024x256_17_0_0) (fun _ => rfl)).squeeze S1024x256 squeezes_S1x1024x256_S1024x256).view
    (View.write (Elt F) ((scGu.slice (Rect.unit (s := S22x1024x256) ![6, 0, 0] S1x1024x256.size inb_S22x1024x256_S1x1024x256_6_0_0) (fun _ => rfl)).squeeze S1024x256 squeezes_S1x1024x256_S1024x256).view
    (View.write (Elt F) ((scGu.slice (Rect.unit (s := S22x1024x256) ![16, 0, 0] S1x1024x256.size inb_S22x1024x256_S1x1024x256_16_0_0) (fun _ => rfl)).squeeze S1024x256 squeezes_S1x1024x256_S1024x256).view
    (View.write (Elt F) ((scGu.slice (Rect.unit (s := S22x1024x256) ![5, 0, 0] S1x1024x256.size inb_S22x1024x256_S1x1024x256_5_0_0) (fun _ => rfl)).squeeze S1024x256 squeezes_S1x1024x256_S1024x256).view
    (View.write (Elt F) ((scGu.slice (Rect.unit (s := S22x1024x256) ![15, 0, 0] S1x1024x256.size inb_S22x1024x256_S1x1024x256_15_0_0) (fun _ => rfl)).squeeze S1024x256 squeezes_S1x1024x256_S1024x256).view
    (View.write (Elt F) ((scGu.slice (Rect.unit (s := S22x1024x256) ![4, 0, 0] S1x1024x256.size inb_S22x1024x256_S1x1024x256_4_0_0) (fun _ => rfl)).squeeze S1024x256 squeezes_S1x1024x256_S1024x256).view
    (View.write (Elt F) ((scGu.slice (Rect.unit (s := S22x1024x256) ![14, 0, 0] S1x1024x256.size inb_S22x1024x256_S1x1024x256_14_0_0) (fun _ => rfl)).squeeze S1024x256 squeezes_S1x1024x256_S1024x256).view
    (View.write (Elt F) ((scGu.slice (Rect.unit (s := S22x1024x256) ![3, 0, 0] S1x1024x256.size inb_S22x1024x256_S1x1024x256_3_0_0) (fun _ => rfl)).squeeze S1024x256 squeezes_S1x1024x256_S1024x256).view
    (View.write (Elt F) ((scGu.slice (Rect.unit (s := S22x1024x256) ![13, 0, 0] S1x1024x256.size inb_S22x1024x256_S1x1024x256_13_0_0) (fun _ => rfl)).squeeze S1024x256 squeezes_S1x1024x256_S1024x256).view
    (View.write (Elt F) ((scGu.slice (Rect.unit (s := S22x1024x256) ![2, 0, 0] S1x1024x256.size inb_S22x1024x256_S1x1024x256_2_0_0) (fun _ => rfl)).squeeze S1024x256 squeezes_S1x1024x256_S1024x256).view
    (View.write (Elt F) ((scGu.slice (Rect.unit (s := S22x1024x256) ![12, 0, 0] S1x1024x256.size inb_S22x1024x256_S1x1024x256_12_0_0) (fun _ => rfl)).squeeze S1024x256 squeezes_S1x1024x256_S1024x256).view
    (View.write (Elt F) ((scGu.slice (Rect.unit (s := S22x1024x256) ![1, 0, 0] S1x1024x256.size inb_S22x1024x256_S1x1024x256_1_0_0) (fun _ => rfl)).squeeze S1024x256 squeezes_S1x1024x256_S1024x256).view
    (View.write (Elt F) ((scGu.slice (Rect.unit (s := S22x1024x256) ![11, 0, 0] S1x1024x256.size inb_S22x1024x256_S1x1024x256_11_0_0) (fun _ => rfl)).squeeze S1024x256 squeezes_S1x1024x256_S1024x256).view
    (View.write (Elt F) ((scGu.slice (Rect.unit (s := S22x1024x256) ![0, 0, 0] S1x1024x256.size inb_S22x1024x256_S1x1024x256_0_0_0) (fun _ => rfl)).squeeze S1024x256 squeezes_S1x1024x256_S1024x256).view
    (g8) (runA.sl.dma0 c g4) Finset.univ) (runA.sl.dma0_1 c g4) Finset.univ) (runA.sl.dma0_2 c g4) Finset.univ) (runA.sl.dma0_3 c g4) Finset.univ) (runA.sl.dma0_4 c g4) Finset.univ) (runA.sl.dma0_5 c g4) Finset.univ) (runA.sl.dma0_6 c g4) Finset.univ) (runA.sl.dma0_7 c g4) Finset.univ) (runA.sl.dma0_8 c g4) Finset.univ) (runA.sl.dma0_9 c g4) Finset.univ) (runA.sl.dma0_10 c g4) Finset.univ) (runA.sl.dma0_11 c g4) Finset.univ) (runA.sl.dma0_12 c g4) Finset.univ) (runA.sl.dma0_13 c g4) Finset.univ) (runA.sl.dma0_14 c g4) Finset.univ) (runA.sl.dma0_15 c g4) Finset.univ) (runA.sl.dma0_16 c g4) Finset.univ) (runA.sl.dma0_17 c g4) Finset.univ) (runA.sl.dma0_18 c g4) Finset.univ) (runA.sl.dma0_19 c g4) Finset.univ) (runA.sl.dma0_20 c g4) Finset.univ) (runA.sl.dma0_21 c g4) Finset.univ

/-- The scratch of down weights after the first step's transfers. -/
def nestDn (c : Dev nD) (g5 : Buf (Elt F) (hbDn.view.loc (c : Thread nD τ))) (g9 : Buf (Elt F) (scDn.view.loc (c : Thread nD τ))) :
    Buf (Elt F) (scDn.view.loc (c : Thread nD τ)) :=
  View.write (Elt F) ((scDn.slice (Rect.unit (s := S4x2816x256) ![3, 0, 0] S1x2816x256.size inb_S4x2816x256_S1x2816x256_3_0_0) (fun _ => rfl)).squeeze S2816x256 squeezes_S1x2816x256_S2816x256).view
    (View.write (Elt F) ((scDn.slice (Rect.unit (s := S4x2816x256) ![2, 0, 0] S1x2816x256.size inb_S4x2816x256_S1x2816x256_2_0_0) (fun _ => rfl)).squeeze S2816x256 squeezes_S1x2816x256_S2816x256).view
    (View.write (Elt F) ((scDn.slice (Rect.unit (s := S4x2816x256) ![1, 0, 0] S1x2816x256.size inb_S4x2816x256_S1x2816x256_1_0_0) (fun _ => rfl)).squeeze S2816x256 squeezes_S1x2816x256_S2816x256).view
    (View.write (Elt F) ((scDn.slice (Rect.unit (s := S4x2816x256) ![0, 0, 0] S1x2816x256.size inb_S4x2816x256_S1x2816x256_0_0_0) (fun _ => rfl)).squeeze S2816x256 squeezes_S1x2816x256_S2816x256).view
    (g9) (runA.sl.dma0_22 c g5) Finset.univ) (runA.sl.dma0_23 c g5) Finset.univ) (runA.sl.dma0_24 c g5) Finset.univ) (runA.sl.dma0_25 c g5) Finset.univ

/-- The transfers fill the scratch with the weights, group by group. -/
theorem read_nestGu (c : Dev nD) (g4 : Buf (Elt F) (hbGu.view.loc (c : Thread nD τ))) (g8 : Buf (Elt F) (scGu.view.loc (c : Thread nD τ))) :
    View.read (Elt F) scGu.view (nestGu c g4 g8) = gu0 (View.read (Elt F) hbGu.view g4) := by
  funext y
  obtain ⟨k, a, b, rfl⟩ : ∃ (k : Fin 22) (a : Fin 1024) (b : Fin 256), y = at3 k a b := ⟨y 0, y 1, y 2, by funext d; fin_cases d <;> rfl⟩
  unfold nestGu
  iterate 22 rw [peel3 (M := scGu)]
  show _ = View.read (Elt F) hbGu.view g4 (at2 a ⟨256 * k.val + b.val, _⟩)
  have hb : b.val < 256 := b.isLt
  fin_cases k
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 0 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 256 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 512 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 768 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 1024 _ _ a b (by omega)
  · rw [if_neg (by decide), if_neg (by decide), if_neg (by decide), if_neg (by decide), if_neg (by decide), if_neg (by decide), if_neg (by decide), if_neg (by decide), if_neg (by decide), if_neg (by decide), if_neg (by decide), if_pos rfl]
    exact part_gu c g4 1280 _ _ a b (by omega)
  · rw [if_neg (by decide), if_neg (by decide), if_neg (by decide), if_neg (by decide), if_neg (by decide), if_neg (by decide), if_neg (by decide), if_neg (by decide), if_neg (by decide), if_pos rfl]
    exact part_gu c g4 1536 _ _ a b (by omega)
  · rw [if_neg (by decide), if_neg (by decide), if_neg (by decide), if_neg (by decide), if_neg (by decide), if_neg (by decide), if_neg (by decide), if_pos rfl]
    exact part_gu c g4 1792 _ _ a b (by omega)
  · rw [if_neg (by decide), if_neg (by decide), if_neg (by decide), if_neg (by decide), if_neg (by decide), if_pos rfl]
    exact part_gu c g4 2048 _ _ a b (by omega)
  · rw [if_neg (by decide), if_neg (by decide), if_neg (by decide), if_pos rfl]
    exact part_gu c g4 2304 _ _ a b (by omega)
  · rw [if_neg (by decide), if_pos rfl]
    exact part_gu c g4 2560 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 2816 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 3072 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 3328 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 3584 _ _ a b (by omega)
  · rw [if_neg (by decide), if_neg (by decide), if_neg (by decide), if_neg (by decide), if_neg (by decide), if_neg (by decide), if_neg (by decide), if_neg (by decide), if_neg (by decide), if_neg (by decide), if_neg (by decide), if_neg (by decide), if_pos rfl]
    exact part_gu c g4 3840 _ _ a b (by omega)
  · rw [if_neg (by decide), if_neg (by decide), if_neg (by decide), if_neg (by decide), if_neg (by decide), if_neg (by decide), if_neg (by decide), if_neg (by decide), if_neg (by decide), if_neg (by decide), if_pos rfl]
    exact part_gu c g4 4096 _ _ a b (by omega)
  · rw [if_neg (by decide), if_neg (by decide), if_neg (by decide), if_neg (by decide), if_neg (by decide), if_neg (by decide), if_neg (by decide), if_neg (by decide), if_pos rfl]
    exact part_gu c g4 4352 _ _ a b (by omega)
  · rw [if_neg (by decide), if_neg (by decide), if_neg (by decide), if_neg (by decide), if_neg (by decide), if_neg (by decide), if_pos rfl]
    exact part_gu c g4 4608 _ _ a b (by omega)
  · rw [if_neg (by decide), if_neg (by decide), if_neg (by decide), if_neg (by decide), if_pos rfl]
    exact part_gu c g4 4864 _ _ a b (by omega)
  · rw [if_neg (by decide), if_neg (by decide), if_pos rfl]
    exact part_gu c g4 5120 _ _ a b (by omega)
  · rw [if_pos rfl]
    exact part_gu c g4 5376 _ _ a b (by omega)

/-- The transfers fill the scratch with the down weights, group by group. -/
theorem read_nestDn (c : Dev nD) (g5 : Buf (Elt F) (hbDn.view.loc (c : Thread nD τ))) (g9 : Buf (Elt F) (scDn.view.loc (c : Thread nD τ))) :
    View.read (Elt F) scDn.view (nestDn c g5 g9) = dn0 (View.read (Elt F) hbDn.view g5) := by
  funext y
  obtain ⟨k, a, b, rfl⟩ : ∃ (k : Fin 4) (a : Fin 2816) (b : Fin 256), y = at3 k a b := ⟨y 0, y 1, y 2, by funext d; fin_cases d <;> rfl⟩
  unfold nestDn
  iterate 4 rw [peelD3 (M := scDn)]
  show _ = View.read (Elt F) hbDn.view g5 (at2 a ⟨256 * k.val + b.val, _⟩)
  have hb : b.val < 256 := b.isLt
  fin_cases k
  · rw [if_neg (by decide), if_neg (by decide), if_neg (by decide), if_pos rfl]
    exact part_dn c g5 0 _ _ a b (by omega)
  · rw [if_neg (by decide), if_neg (by decide), if_pos rfl]
    exact part_dn c g5 256 _ _ a b (by omega)
  · rw [if_neg (by decide), if_pos rfl]
    exact part_dn c g5 512 _ _ a b (by omega)
  · rw [if_pos rfl]
    exact part_dn c g5 768 _ _ a b (by omega)

end Cert.Kernel4Ideal.Hand

end
-- ==== Proof.FinalIdealVals.lean ====
/- What the loads and stores of a step of the feed-forward call hold. -/
module

public import proofs.«01_k».proof.Proof.FinalIdealTile

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A load of all of a whole two-axis buffer reads its contents. -/
theorem load_all {a b : ℕ} {e : EltTy} {M : Memref sig .tc .vmem ⟨2, ![a, b]⟩ e} (h : M.IsWhole)
    (inb : ∀ d, (![0, 0] : Fin 2 → ℕ) d + (⟨2, ![a, b]⟩ : Shape).size d ≤ (⟨2, ![a, b]⟩ : Shape).size d) (X : Vec F ⟨2, ![a, b]⟩ e) :
    View.readAt (Elt F) M.view (Rect.unit (s := ⟨2, ![a, b]⟩) ![0, 0] (⟨2, ![a, b]⟩ : Shape).size inb).toLoadRect (h.unread X) = X := by
  funext y
  refine (h.readAt_unread X _ y).trans ?_
  congr 1
  funext d
  apply Fin.ext
  fin_cases d
  · show 0 + 1 * (y 0).val = (y 0).val
    omega
  · show 0 + 1 * (y 1).val = (y 1).val
    omega

/-- One piece of the hidden block. -/
theorem mid_piece (h : FVec F S512x1024 .bf16) (g : Vec F S22x1024x256 .f32) (k o : ℕ) (hk : o = 256 * k)
    (inb : ∀ d, (![0, o] : Fin 2 → ℕ) d + S512x256.size d ≤ S512x2816.size d) (x : (Rect.unit (s := S512x2816) ![0, o] S512x256.size inb).shape.Idx) :
    act h (slab g k) (slab g (11 + k)) x = mid h g ((Rect.unit (s := S512x2816) ![0, o] S512x256.size inb).emb x) := by
  subst hk
  have hx : (x 1).val < 256 := (x 1).isLt
  have e0 : (((Rect.unit (s := S512x2816) ![0, 256 * k] S512x256.size inb).emb x) 0).val = (x 0).val := by
    show 0 + 1 * (x 0).val = (x 0).val
    omega
  have e1 : (((Rect.unit (s := S512x2816) ![0, 256 * k] S512x256.size inb).emb x) 1).val = 256 * k + (x 1).val := by
    show 256 * k + 1 * (x 1).val = 256 * k + (x 1).val
    omega
  have hd : (((Rect.unit (s := S512x2816) ![0, 256 * k] S512x256.size inb).emb x) 1).val / 256 = k := by rw [e1]; omega
  unfold mid
  rw [hd]
  congr 1
  funext d
  apply Fin.ext
  fin_cases d
  · exact e0.symm
  · show (x 1).val = (((Rect.unit (s := S512x2816) ![0, 256 * k] S512x256.size inb).emb x) 1).val % 256
    rw [e1]
    omega

/-- The eleven pieces of the hidden block. -/
def midPieces (h : FVec F S512x1024 .bf16) (g : Vec F S22x1024x256 .f32) : List (View.Piece (Elt F) S512x2816 .bf16) :=
  [⟨Rect.unit (s := S512x2816) ![0, 2560] S512x256.size inb_S512x2816_S512x256_0_2560, act h (slab g 10) (slab g 21)⟩,
    ⟨Rect.unit (s := S512x2816) ![0, 2304] S512x256.size inb_S512x2816_S512x256_0_2304, act h (slab g 9) (slab g 20)⟩,
    ⟨Rect.unit (s := S512x2816) ![0, 2048] S512x256.size inb_S512x2816_S512x256_0_2048, act h (slab g 8) (slab g 19)⟩,
    ⟨Rect.unit (s := S512x2816) ![0, 1792] S512x256.size inb_S512x2816_S512x256_0_1792, act h (slab g 7) (slab g 18)⟩,
    ⟨Rect.unit (s := S512x2816) ![0, 1536] S512x256.size inb_S512x2816_S512x256_0_1536, act h (slab g 6) (slab g 17)⟩,
    ⟨Rect.unit (s := S512x2816) ![0, 1280] S512x256.size inb_S512x2816_S512x256_0_1280, act h (slab g 5) (slab g 16)⟩,
    ⟨Rect.unit (s := S512x2816) ![0, 1024] S512x256.size inb_S512x2816_S512x256_0_1024, act h (slab g 4) (slab g 15)⟩,
    ⟨Rect.unit (s := S512x2816) ![0, 768] S512x256.size inb_S512x2816_S512x256_0_768, act h (slab g 3) (slab g 14)⟩,
    ⟨Rect.unit (s := S512x2816) ![0, 512] S512x256.size inb_S512x2816_S512x256_0_512, act h (slab g 2) (slab g 13)⟩,
    ⟨Rect.unit (s := S512x2816) ![0, 256] S512x256.size inb_S512x2816_S512x256_0_256, act h (slab g 1) (slab g 12)⟩,
    ⟨Rect.unit (s := S512x2816) ![0, 0] S512x256.size inb_S512x2816_S512x256_0_0, act h (slab g 0) (slab g 11)⟩]

/-- The eleven pieces cover the hidden block, and it reads as `mid`. -/
theorem load_mid (h : FVec F S512x1024 .bf16) (g : Vec F S22x1024x256 .f32) {M : Memref sig .tc .vmem S512x2816 .bf16}
    (inb : ∀ d, (![0, 0] : Fin 2 → ℕ) d + S512x2816.size d ≤ S512x2816.size d) :
    M.view.readCov (midPieces h g) (Rect.unit (s := S512x2816) ![0, 0] S512x2816.size inb).toLoadRect = mid h g := by
  have hcov : ∀ y : S512x2816.Idx, ∃ p ∈ midPieces h g, y ∈ p.1.set :=
    View.cover_of_tiledL (midPieces h g) S512x256.size (by sl_kernel_rfl)
  refine (View.readCov_eq_canon M.view (midPieces h g) _ fun j => hcov _).trans ?_
  funext y
  refine (View.canon_apply_of_pieces (mid h g) (midPieces h g) ?_ _ (hcov _)).trans ?_
  · unfold midPieces
    simp only [List.forall_mem_cons, List.not_mem_nil, false_imp_iff, implies_true, and_true]
    exact ⟨fun x => mid_piece h g 10 2560 rfl _ x, fun x => mid_piece h g 9 2304 rfl _ x, fun x => mid_piece h g 8 2048 rfl _ x, fun x => mid_piece h g 7 1792 rfl _ x, fun x => mid_piece h g 6 1536 rfl _ x, fun x => mid_piece h g 5 1280 rfl _ x, fun x => mid_piece h g 4 1024 rfl _ x, fun x => mid_piece h g 3 768 rfl _ x, fun x => mid_piece h g 2 512 rfl _ x, fun x => mid_piece h g 1 256 rfl _ x, fun x => mid_piece h g 0 0 rfl _ x⟩
  · congr 1
    funext d
    apply Fin.ext
    fin_cases d
    · show 0 + 1 * (y 0).val = (y 0).val
      omega
    · show 0 + 1 * (y 1).val = (y 1).val
      omega

theorem ldA_182 (c : Dev nD) (g4 : Buf (Elt F) (hbGu.view.loc (c : Thread nD τ))) (g8 : Buf (Elt F) (scGu.view.loc (c : Thread nD τ))) :
    runA.sl.v182 c g4 g8 = slab (gu0 (View.read (Elt F) hbGu.view g4)) 0 :=
  (readAt_slab (M := scGu) (nestGu c g4 g8) 0 (by decide) _).trans (congrArg (fun s => slab s 0) (read_nestGu c g4 g8))

theorem ldA_186 (c : Dev nD) (g4 : Buf (Elt F) (hbGu.view.loc (c : Thread nD τ))) (g8 : Buf (Elt F) (scGu.view.loc (c : Thread nD τ))) :
    runA.sl.v186 c g4 g8 = slab (gu0 (View.read (Elt F) hbGu.view g4)) 11 :=
  (readAt_slab (M := scGu) (nestGu c g4 g8) 11 (by decide) _).trans (congrArg (fun s => slab s 11) (read_nestGu c g4 g8))

theorem ldA_207 (c : Dev nD) (g4 : Buf (Elt F) (hbGu.view.loc (c : Thread nD τ))) (g8 : Buf (Elt F) (scGu.view.loc (c : Thread nD τ))) :
    runA.sl.v207 c g4 g8 = slab (gu0 (View.read (Elt F) hbGu.view g4)) 1 :=
  (readAt_slab (M := scGu) (nestGu c g4 g8) 1 (by decide) _).trans (congrArg (fun s => slab s 1) (read_nestGu c g4 g8))

theorem ldA_211 (c : Dev nD) (g4 : Buf (Elt F) (hbGu.view.loc (c : Thread nD τ))) (g8 : Buf (Elt F) (scGu.view.loc (c : Thread nD τ))) :
    runA.sl.v211 c g4 g8 = slab (gu0 (View.read (Elt F) hbGu.view g4)) 12 :=
  (readAt_slab (M := scGu) (nestGu c g4 g8) 12 (by decide) _).trans (congrArg (fun s => slab s 12) (read_nestGu c g4 g8))

theorem ldA_232 (c : Dev nD) (g4 : Buf (Elt F) (hbGu.view.loc (c : Thread nD τ))) (g8 : Buf (Elt F) (scGu.view.loc (c : Thread nD τ))) :
    runA.sl.v232 c g4 g8 = slab (gu0 (View.read (Elt F) hbGu.view g4)) 2 :=
  (readAt_slab (M := scGu) (nestGu c g4 g8) 2 (by decide) _).trans (congrArg (fun s => slab s 2) (read_nestGu c g4 g8))

theorem ldA_236 (c : Dev nD) (g4 : Buf (Elt F) (hbGu.view.loc (c : Thread nD τ))) (g8 : Buf (Elt F) (scGu.view.loc (c : Thread nD τ))) :
    runA.sl.v236 c g4 g8 = slab (gu0 (View.read (Elt F) hbGu.view g4)) 13 :=
  (readAt_slab (M := scGu) (nestGu c g4 g8) 13 (by decide) _).trans (congrArg (fun s => slab s 13) (read_nestGu c g4 g8))

theorem ldA_257 (c : Dev nD) (g4 : Buf (Elt F) (hbGu.view.loc (c : Thread nD τ))) (g8 : Buf (Elt F) (scGu.view.loc (c : Thread nD τ))) :
    runA.sl.v257 c g4 g8 = slab (gu0 (View.read (Elt F) hbGu.view g4)) 3 :=
  (readAt_slab (M := scGu) (nestGu c g4 g8) 3 (by decide) _).trans (congrArg (fun s => slab s 3) (read_nestGu c g4 g8))

theorem ldA_261 (c : Dev nD) (g4 : Buf (Elt F) (hbGu.view.loc (c : Thread nD τ))) (g8 : Buf (Elt F) (scGu.view.loc (c : Thread nD τ))) :
    runA.sl.v261 c g4 g8 = slab (gu0 (View.read (Elt F) hbGu.view g4)) 14 :=
  (readAt_slab (M := scGu) (nestGu c g4 g8) 14 (by decide) _).trans (congrArg (fun s => slab s 14) (read_nestGu c g4 g8))

theorem ldA_282 (c : Dev nD) (g4 : Buf (Elt F) (hbGu.view.loc (c : Thread nD τ))) (g8 : Buf (Elt F) (scGu.view.loc (c : Thread nD τ))) :
    runA.sl.v282 c g4 g8 = slab (gu0 (View.read (Elt F) hbGu.view g4)) 4 :=
  (readAt_slab (M := scGu) (nestGu c g4 g8) 4 (by decide) _).trans (congrArg (fun s => slab s 4) (read_nestGu c g4 g8))

theorem ldA_286 (c : Dev nD) (g4 : Buf (Elt F) (hbGu.view.loc (c : Thread nD τ))) (g8 : Buf (Elt F) (scGu.view.loc (c : Thread nD τ))) :
    runA.sl.v286 c g4 g8 = slab (gu0 (View.read (Elt F) hbGu.view g4)) 15 :=
  (readAt_slab (M := scGu) (nestGu c g4 g8) 15 (by decide) _).trans (congrArg (fun s => slab s 15) (read_nestGu c g4 g8))

theorem ldA_307 (c : Dev nD) (g4 : Buf (Elt F) (hbGu.view.loc (c : Thread nD τ))) (g8 : Buf (Elt F) (scGu.view.loc (c : Thread nD τ))) :
    runA.sl.v307 c g4 g8 = slab (gu0 (View.read (Elt F) hbGu.view g4)) 5 :=
  (readAt_slab (M := scGu) (nestGu c g4 g8) 5 (by decide) _).trans (congrArg (fun s => slab s 5) (read_nestGu c g4 g8))

theorem ldA_311 (c : Dev nD) (g4 : Buf (Elt F) (hbGu.view.loc (c : Thread nD τ))) (g8 : Buf (Elt F) (scGu.view.loc (c : Thread nD τ))) :
    runA.sl.v311 c g4 g8 = slab (gu0 (View.read (Elt F) hbGu.view g4)) 16 :=
  (readAt_slab (M := scGu) (nestGu c g4 g8) 16 (by decide) _).trans (congrArg (fun s => slab s 16) (read_nestGu c g4 g8))

theorem ldA_332 (c : Dev nD) (g4 : Buf (Elt F) (hbGu.view.loc (c : Thread nD τ))) (g8 : Buf (Elt F) (scGu.view.loc (c : Thread nD τ))) :
    runA.sl.v332 c g4 g8 = slab (gu0 (View.read (Elt F) hbGu.view g4)) 6 :=
  (readAt_slab (M := scGu) (nestGu c g4 g8) 6 (by decide) _).trans (congrArg (fun s => slab s 6) (read_nestGu c g4 g8))

theorem ldA_336 (c : Dev nD) (g4 : Buf (Elt F) (hbGu.view.loc (c : Thread nD τ))) (g8 : Buf (Elt F) (scGu.view.loc (c : Thread nD τ))) :
    runA.sl.v336 c g4 g8 = slab (gu0 (View.read (Elt F) hbGu.view g4)) 17 :=
  (readAt_slab (M := scGu) (nestGu c g4 g8) 17 (by decide) _).trans (congrArg (fun s => slab s 17) (read_nestGu c g4 g8))

theorem ldA_357 (c : Dev nD) (g4 : Buf (Elt F) (hbGu.view.loc (c : Thread nD τ))) (g8 : Buf (Elt F) (scGu.view.loc (c : Thread nD τ))) :
    runA.sl.v357 c g4 g8 = slab (gu0 (View.read (Elt F) hbGu.view g4)) 7 :=
  (readAt_slab (M := scGu) (nestGu c g4 g8) 7 (by decide) _).trans (congrArg (fun s => slab s 7) (read_nestGu c g4 g8))

theorem ldA_361 (c : Dev nD) (g4 : Buf (Elt F) (hbGu.view.loc (c : Thread nD τ))) (g8 : Buf (Elt F) (scGu.view.loc (c : Thread nD τ))) :
    runA.sl.v361 c g4 g8 = slab (gu0 (View.read (Elt F) hbGu.view g4)) 18 :=
  (readAt_slab (M := scGu) (nestGu c g4 g8) 18 (by decide) _).trans (congrArg (fun s => slab s 18) (read_nestGu c g4 g8))

theorem ldA_382 (c : Dev nD) (g4 : Buf (Elt F) (hbGu.view.loc (c : Thread nD τ))) (g8 : Buf (Elt F) (scGu.view.loc (c : Thread nD τ))) :
    runA.sl.v382 c g4 g8 = slab (gu0 (View.read (Elt F) hbGu.view g4)) 8 :=
  (readAt_slab (M := scGu) (nestGu c g4 g8) 8 (by decide) _).trans (congrArg (fun s => slab s 8) (read_nestGu c g4 g8))

theorem ldA_386 (c : Dev nD) (g4 : Buf (Elt F) (hbGu.view.loc (c : Thread nD τ))) (g8 : Buf (Elt F) (scGu.view.loc (c : Thread nD τ))) :
    runA.sl.v386 c g4 g8 = slab (gu0 (View.read (Elt F) hbGu.view g4)) 19 :=
  (readAt_slab (M := scGu) (nestGu c g4 g8) 19 (by decide) _).trans (congrArg (fun s => slab s 19) (read_nestGu c g4 g8))

theorem ldA_407 (c : Dev nD) (g4 : Buf (Elt F) (hbGu.view.loc (c : Thread nD τ))) (g8 : Buf (Elt F) (scGu.view.loc (c : Thread nD τ))) :
    runA.sl.v407 c g4 g8 = slab (gu0 (View.read (Elt F) hbGu.view g4)) 9 :=
  (readAt_slab (M := scGu) (nestGu c g4 g8) 9 (by decide) _).trans (congrArg (fun s => slab s 9) (read_nestGu c g4 g8))

theorem ldA_411 (c : Dev nD) (g4 : Buf (Elt F) (hbGu.view.loc (c : Thread nD τ))) (g8 : Buf (Elt F) (scGu.view.loc (c : Thread nD τ))) :
    runA.sl.v411 c g4 g8 = slab (gu0 (View.read (Elt F) hbGu.view g4)) 20 :=
  (readAt_slab (M := scGu) (nestGu c g4 g8) 20 (by decide) _).trans (congrArg (fun s => slab s 20) (read_nestGu c g4 g8))

theorem ldA_432 (c : Dev nD) (g4 : Buf (Elt F) (hbGu.view.loc (c : Thread nD τ))) (g8 : Buf (Elt F) (scGu.view.loc (c : Thread nD τ))) :
    runA.sl.v432 c g4 g8 = slab (gu0 (View.read (Elt F) hbGu.view g4)) 10 :=
  (readAt_slab (M := scGu) (nestGu c g4 g8) 10 (by decide) _).trans (congrArg (fun s => slab s 10) (read_nestGu c g4 g8))

theorem ldA_436 (c : Dev nD) (g4 : Buf (Elt F) (hbGu.view.loc (c : Thread nD τ))) (g8 : Buf (Elt F) (scGu.view.loc (c : Thread nD τ))) :
    runA.sl.v436 c g4 g8 = slab (gu0 (View.read (Elt F) hbGu.view g4)) 21 :=
  (readAt_slab (M := scGu) (nestGu c g4 g8) 21 (by decide) _).trans (congrArg (fun s => slab s 21) (read_nestGu c g4 g8))

theorem ldA_515 (c : Dev nD) (g4 : Buf (Elt F) (hbGu.view.loc (c : Thread nD τ))) (g8 : Buf (Elt F) (scGu.view.loc (c : Thread nD τ))) :
    runA.sl.v515 c g4 g8 = slab (gu0 (View.read (Elt F) hbGu.view g4)) 11 :=
  (readAt_slab (M := scGu) (nestGu c g4 g8) 11 (by decide) _).trans (congrArg (fun s => slab s 11) (read_nestGu c g4 g8))

theorem ldA_469 (c : Dev nD) (g5 : Buf (Elt F) (hbDn.view.loc (c : Thread nD τ))) (g9 : Buf (Elt F) (scDn.view.loc (c : Thread nD τ))) :
    runA.sl.v469 c g5 g9 = slabD (dn0 (View.read (Elt F) hbDn.view g5)) 0 :=
  (readAt_slabD (M := scDn) (nestDn c g5 g9) 0 (by decide) _).trans (congrArg (fun s => slabD s 0) (read_nestDn c g5 g9))

theorem ldA_474 (c : Dev nD) (g5 : Buf (Elt F) (hbDn.view.loc (c : Thread nD τ))) (g9 : Buf (Elt F) (scDn.view.loc (c : Thread nD τ))) :
    runA.sl.v474 c g5 g9 = slabD (dn0 (View.read (Elt F) hbDn.view g5)) 1 :=
  (readAt_slabD (M := scDn) (nestDn c g5 g9) 1 (by decide) _).trans (congrArg (fun s => slabD s 1) (read_nestDn c g5 g9))

theorem ldA_479 (c : Dev nD) (g5 : Buf (Elt F) (hbDn.view.loc (c : Thread nD τ))) (g9 : Buf (Elt F) (scDn.view.loc (c : Thread nD τ))) :
    runA.sl.v479 c g5 g9 = slabD (dn0 (View.read (Elt F) hbDn.view g5)) 2 :=
  (readAt_slabD (M := scDn) (nestDn c g5 g9) 2 (by decide) _).trans (congrArg (fun s => slabD s 2) (read_nestDn c g5 g9))

theorem ldA_484 (c : Dev nD) (g5 : Buf (Elt F) (hbDn.view.loc (c : Thread nD τ))) (g9 : Buf (Elt F) (scDn.view.loc (c : Thread nD τ))) :
    runA.sl.v484 c g5 g9 = slabD (dn0 (View.read (Elt F) hbDn.view g5)) 3 :=
  (readAt_slabD (M := scDn) (nestDn c g5 g9) 3 (by decide) _).trans (congrArg (fun s => slabD s 3) (read_nestDn c g5 g9))

/-- The first step's normalised rows. -/
theorem hidA (c : Dev nD) (arg1 : Memref sig .tc .vmem S512x1024 .f32) (harg1 : arg1.IsWhole) (arg3 : Memref sig .tc .vmem S1x1024 .f32) (harg3 : arg3.IsWhole) (x0 : Vec F S512x1024 .f32) (x2 : Vec F S1x1024 .f32) : runA.sl.r c arg1 harg1 arg3 harg3 x0 x2 = hid x0 x2 := by
  unfold runA.sl.r
  rw [load_all harg1 _ x0, load_all harg3 _ x2]
  rfl

/-- The first step's hidden pieces. -/
theorem piecesA (c : Dev nD) (arg1 : Memref sig .tc .vmem S512x1024 .f32) (harg1 : arg1.IsWhole) (arg3 : Memref sig .tc .vmem S1x1024 .f32) (harg3 : arg3.IsWhole) (x0 : Vec F S512x1024 .f32) (x2 : Vec F S1x1024 .f32) (g4 : Buf (Elt F) (hbGu.view.loc (c : Thread nD τ))) (g8 : Buf (Elt F) (scGu.view.loc (c : Thread nD τ))) :
    runA.sl.H10_11 c arg1 harg1 arg3 harg3 x0 x2 g4 g8 = midPieces (hid x0 x2) (gu0 (View.read (Elt F) hbGu.view g4)) := by
  unfold runA.sl.H10_11 runA.sl.r_1 runA.sl.r_2 runA.sl.r_3 runA.sl.r_4
  simp only [hidA, ldA_182, ldA_186, ldA_207, ldA_211, ldA_232, ldA_236, ldA_257, ldA_261, ldA_282, ldA_286, ldA_307, ldA_311, ldA_332, ldA_336, ldA_357, ldA_361, ldA_382, ldA_386, ldA_407, ldA_411, ldA_432, ldA_436]
  rfl

/-- The first step's hidden block. -/
theorem midA (c : Dev nD) (arg1 : Memref sig .tc .vmem S512x1024 .f32) (harg1 : arg1.IsWhole) (arg3 : Memref sig .tc .vmem S1x1024 .f32) (harg3 : arg3.IsWhole) (arg10 : Memref sig .tc .vmem S512x2816 .bf16) (x0 : Vec F S512x1024 .f32) (x2 : Vec F S1x1024 .f32) (g4 : Buf (Elt F) (hbGu.view.loc (c : Thread nD τ))) (g8 : Buf (Elt F) (scGu.view.loc (c : Thread nD τ))) :
    runA.sl.v468 c arg1 harg1 arg3 harg3 arg10 x0 x2 g4 g8 = mid (hid x0 x2) (gu0 (View.read (Elt F) hbGu.view g4)) := by
  unfold runA.sl.v468
  rw [piecesA]
  exact load_mid _ _ _

end Cert.Kernel4Ideal.Hand

end
-- ==== Proof.FinalIdealStep.lean ====
/- The two kinds of step of the feed-forward call, in plain terms. -/
module

public import proofs.«01_k».proof.Proof.FinalIdealVals
public import Idealize.ShloMosaic.Lib.VecWindow

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slot of the parity of `k` in the buffer of normalised rows. -/
def slotH (s : Vec F S2x512x1024 .bf16) (k : ℕ) : Vec F S1x512x1024 .bf16 := fun y => s (at3 ⟨k % 2, Nat.mod_lt _ (by decide)⟩ (y 1) (y 2))

/-- The slot of the parity of `k` in the buffer of first activations. -/
def slotA (s : Vec F S2x512x256 .bf16) (k : ℕ) : Vec F S1x512x256 .bf16 := fun y => s (at3 ⟨k % 2, Nat.mod_lt _ (by decide)⟩ (y 1) (y 2))

/-- A store of a slot leaves it in that slot. -/
theorem storeH {M : Memref sig .tc .vmem S2x512x1024 .bf16} (f : M.view.ty.Contents (Elt F)) {off : Fin 3 → ℕ} (k : ℕ) (hoff : off = ![k % 2, 0, 0])
    (inb : ∀ a, off a + S1x512x1024.size a ≤ S2x512x1024.size a) (w : Vec F S1x512x1024 .bf16) :
    slotH (View.read (Elt F) M.view (M.view.writes (Elt F) f [⟨Rect.unit (s := S2x512x1024) off S1x512x1024.size inb, w⟩])) k = w := by
  funext y
  refine View.read_writes_cons_unit_of_mem M.view f inb w [] _ y hoff fun a => ?_
  have h0 : (y 0).val = 0 := by have h0 : (y 0).val < 1 := (y 0).isLt; omega
  fin_cases a
  · show k % 2 = k % 2 + (y 0).val
    omega
  · show (y 1).val = 0 + (y 1).val
    omega
  · show (y 2).val = 0 + (y 2).val
    omega

/-- A load of a slot reads it. -/
theorem loadH {M : Memref sig .tc .vmem S2x512x1024 .bf16} (h : M.IsWhole) (s : Vec F S2x512x1024 .bf16) {off : Fin 3 → ℕ} (k : ℕ) (hoff : off = ![k % 2, 0, 0])
    (inb : ∀ a, off a + S1x512x1024.size a ≤ S2x512x1024.size a) :
    View.readAt (Elt F) M.view (Rect.unit (s := S2x512x1024) off S1x512x1024.size inb).toLoadRect (h.unread s) = slotH s k := by
  subst hoff
  funext y
  refine (h.readAt_unread s _ y).trans ?_
  unfold slotH
  congr 1
  funext a
  apply Fin.ext
  have h0 : (y 0).val = 0 := by have h0 : (y 0).val < 1 := (y 0).isLt; omega
  fin_cases a
  · show k % 2 + 1 * (y 0).val = k % 2
    omega
  · show 0 + 1 * (y 1).val = (y 1).val
    omega
  · show 0 + 1 * (y 2).val = (y 2).val
    omega

/-- A store of a slot leaves it in that slot. -/
theorem storeA {M : Memref sig .tc .vmem S2x512x256 .bf16} (f : M.view.ty.Contents (Elt F)) {off : Fin 3 → ℕ} (k : ℕ) (hoff : off = ![k % 2, 0, 0])
    (inb : ∀ a, off a + S1x512x256.size a ≤ S2x512x256.size a) (w : Vec F S1x512x256 .bf16) :
    slotA (View.read (Elt F) M.view (M.view.writes (Elt F) f [⟨Rect.unit (s := S2x512x256) off S1x512x256.size inb, w⟩])) k = w := by
  funext y
  refine View.read_writes_cons_unit_of_mem M.view f inb w [] _ y hoff fun a => ?_
  have h0 : (y 0).val = 0 := by have h0 : (y 0).val < 1 := (y 0).isLt; omega
  fin_cases a
  · show k % 2 = k % 2 + (y 0).val
    omega
  · show (y 1).val = 0 + (y 1).val
    omega
  · show (y 2).val = 0 + (y 2).val
    omega

/-- A load of a slot reads it. -/
theorem loadA {M : Memref sig .tc .vmem S2x512x256 .bf16} (h : M.IsWhole) (s : Vec F S2x512x256 .bf16) {off : Fin 3 → ℕ} (k : ℕ) (hoff : off = ![k % 2, 0, 0])
    (inb : ∀ a, off a + S1x512x256.size a ≤ S2x512x256.size a) :
    View.readAt (Elt F) M.view (Rect.unit (s := S2x512x256) off S1x512x256.size inb).toLoadRect (h.unread s) = slotA s k := by
  subst hoff
  funext y
  refine (h.readAt_unread s _ y).trans ?_
  unfold slotA
  congr 1
  funext a
  apply Fin.ext
  have h0 : (y 0).val = 0 := by have h0 : (y 0).val < 1 := (y 0).isLt; omega
  fin_cases a
  · show k % 2 + 1 * (y 0).val = k % 2
    omega
  · show 0 + 1 * (y 1).val = (y 1).val
    omega
  · show 0 + 1 * (y 2).val = (y 2).val
    omega

/-- A later step's load of one group of the gate and up weights. -/
theorem ld8 {M : Memref sig .tc .vmem S22x1024x256 .f32} (h : M.IsWhole) (s : Vec F S22x1024x256 .f32) (k : ℕ)
    (inb : ∀ a, (![k, 0, 0] : Fin 3 → ℕ) a + S1x1024x256.size a ≤ S22x1024x256.size a) :
    View.readAt (Elt F) M.view (Rect.unit (s := S22x1024x256) ![k, 0, 0] S1x1024x256.size inb).toLoadRect (h.unread s) = slab s k :=
  (readAt_slab (h.unread s) k (by have h0 : k + 1 ≤ 22 := inb 0; omega) inb).trans (congrArg (fun s => slab s k) (h.read_unread s))

/-- A later step's load of one group of the down weights. -/
theorem ld9 {M : Memref sig .tc .vmem S4x2816x256 .f32} (h : M.IsWhole) (s : Vec F S4x2816x256 .f32) (k : ℕ)
    (inb : ∀ a, (![k, 0, 0] : Fin 3 → ℕ) a + S1x2816x256.size a ≤ S4x2816x256.size a) :
    View.readAt (Elt F) M.view (Rect.unit (s := S4x2816x256) ![k, 0, 0] S1x2816x256.size inb).toLoadRect (h.unread s) = slabD s k :=
  (readAt_slabD (h.unread s) k (by have h0 : k + 1 ≤ 4 := inb 0; omega) inb).trans (congrArg (fun s => slabD s k) (h.read_unread s))

/-- Carried normalised rows read back. -/
theorem cast_hid (x : Vec F S512x1024 .f32) (g : Vec F S1x1024 .f32) : k0_pay27 (k0_pay48 x g) = hid x g := by
  unfold k0_pay27 k0_pay48
  exact shapeCast_shapeCast _ _ _

/-- Carried activations read back. -/
theorem cast_act (h : FVec F S512x1024 .bf16) (a b : Vec F S1x1024x256 .f32) : k0_pay28 (k0_pay3 h a b) = act h a b := by
  unfold k0_pay28 k0_pay3 act k0_pay43
  dsimp only
  rw [shapeCast_shapeCast (s := S512x256) (t := S1x512x256)]

set_option maxHeartbeats 4000000 in
/-- The first step, in plain terms. -/
theorem stepA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg6 : Memref sig .tc .vmem S1x1024 .f32) (harg6 : arg6.IsWhole) (arg7 : Memref sig .tc .vmem S512x1024 .f32) (harg7 : arg7.IsWhole) (arg10 : Memref sig .tc .vmem S512x2816 .bf16) (harg10 : arg10.IsWhole) (arg11 : Memref sig .tc .vmem S2x512x1024 .bf16) (harg11 : arg11.IsWhole) (arg12 : Memref sig .tc .vmem S2x512x256 .bf16) (harg12 : arg12.IsWhole)
    (hc1 : k0_cond1 i = 1#1) (hc2 : ¬ k0_cond2 i = 1#1) (ho1 : k0_off1 i = ![((i 0).val + 1) % 2, 0, 0]) (ho2 : k0_off2 i = ![((i 0).val + 1) % 2, 0, 0])
    (x0 x1 : Vec F S512x1024 .f32) (x2 x3 : Vec F S1x1024 .f32)
    (g4 : Buf (Elt F) (hbGu.view.loc (c : Thread nD τ))) (g5 : Buf (Elt F) (hbDn.view.loc (c : Thread nD τ)))
    (g8 : Buf (Elt F) (scGu.view.loc (c : Thread nD τ))) (g9 : Buf (Elt F) (scDn.view.loc (c : Thread nD τ)))
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ wholeAt c scGu g8 ∗ wholeAt c scDn g9 ∗ (∃ d, owns (c : Thread nD τ) arg10 fullShare d) ∗ (∃ f, arg11.view.loc (c : Thread nD τ) ↦[arg11.view.set]{fullShare} f) ∗ (∃ f, arg12.view.loc (c : Thread nD τ) ↦[arg12.view.set]{fullShare} f) ∗ wholeAt c hbGu g4 ∗ wholeAt c hbDn g5 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ owes (c : Thread nD τ) 0 W ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare (tile x0 x3 (mid (hid x0 x2) (gu0 (View.read (Elt F) hbGu.view g4))) (dn0 (View.read (Elt F) hbDn.view g5))) ∗ owns (c : Thread nD τ) scGu fullShare (gu0 (View.read (Elt F) hbGu.view g4)) ∗ owns (c : Thread nD τ) scDn fullShare (dn0 (View.read (Elt F) hbDn.view g5)) ∗ (∃ d, owns (c : Thread nD τ) arg10 fullShare d) ∗ (∃ s, ⌜slotH s ((i 0).val + 1) = k0_pay48 x1 x2⌝ ∗ owns (c : Thread nD τ) arg11 fullShare s) ∗ (∃ s, ⌜slotA s ((i 0).val + 1) = k0_pay3 (hid x1 x2) (slab (gu0 (View.read (Elt F) hbGu.view g4)) 0) (slab (gu0 (View.read (Elt F) hbGu.view g4)) 11)⌝ ∗ owns (c : Thread nD τ) arg12 fullShare s) ∗ wholeAt c hbGu g4 ∗ wholeAt c hbDn g5 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ (∃ W', owes (c : Thread nD τ) 0 W')) -∗ K ⟨⟩))
      ⊢ wp frame (wpE (defs₀ (F := F)) Variants.none c none) Set.univ (cc0_ffn_final i arg1 harg1 arg2 harg2 arg3 harg3 hbGu (Memref.isWhole_whole _) hbDn (Memref.isWhole_whole _) arg6 harg6 arg7 harg7 scGu (Memref.isWhole_whole _) scDn (Memref.isWhole_whole _) arg10 harg10 arg11 harg11 arg12 harg12 cc0_scratch5) K := by
  iintro ⟨H0, H1, H2, H3, H7, H8, H9, H10, ⟨%f11, H11⟩, ⟨%f12, H12⟩, H4, H5, S8, S9, S10, S11, S12, S13, S14, S15, S16, S17, S18, S19, S20, S21, S22, S23, S24, S25, S26, S27, S28, S29, S30, S31, S32, S33, HW, Hk⟩
  have eL7 : (runA c i arg1 harg1 arg2 harg2 arg3 harg3 arg6 harg6 arg7 harg7 arg10 harg10 arg11 harg11 arg12 harg12 hc1 hc2 x0 x1 x2 x3 g4 g5 g8 g9 f11 f12).1
      = [⟨Rect.unit (s := S512x1024) ![0, 0] S512x1024.size inb_S512x1024_S512x1024_0_0, tile x0 x3 (mid (hid x0 x2) (gu0 (View.read (Elt F) hbGu.view g4))) (dn0 (View.read (Elt F) hbDn.view g5))⟩] := by
    unfold runA
    dsimp only
    unfold runA.sl.r_8 runA.sl.r_5 runA.sl.r_6 runA.sl.r_7
    simp only [midA, ldA_469, ldA_474, ldA_479, ldA_484, load_all harg1, load_all harg6]
    rfl
  have eX8 : (runA c i arg1 harg1 arg2 harg2 arg3 harg3 arg6 harg6 arg7 harg7 arg10 harg10 arg11 harg11 arg12 harg12 hc1 hc2 x0 x1 x2 x3 g4 g5 g8 g9 f11 f12).2.2.1 = (gu0 (View.read (Elt F) hbGu.view g4)) := (View.read_whole (Val := Elt F) cc0_scratch0 _).symm.trans (read_nestGu c g4 g8)
  have eX9 : (runA c i arg1 harg1 arg2 harg2 arg3 harg3 arg6 harg6 arg7 harg7 arg10 harg10 arg11 harg11 arg12 harg12 hc1 hc2 x0 x1 x2 x3 g4 g5 g8 g9 f11 f12).2.2.2.1 = (dn0 (View.read (Elt F) hbDn.view g5)) := (View.read_whole (Val := Elt F) cc0_scratch1 _).symm.trans (read_nestDn c g5 g9)
  have eX11 : slotH (View.read (Elt F) arg11.view (runA c i arg1 harg1 arg2 harg2 arg3 harg3 arg6 harg6 arg7 harg7 arg10 harg10 arg11 harg11 arg12 harg12 hc1 hc2 x0 x1 x2 x3 g4 g5 g8 g9 f11 f12).2.2.2.2.1) ((i 0).val + 1) = k0_pay48 x1 x2 := by
    unfold runA
    dsimp only
    refine (storeH f11 _ ho1 _ _).trans ?_
    rw [load_all harg2 _ x1, load_all harg3 _ x2]
    rfl
  have eX12 : slotA (View.read (Elt F) arg12.view (runA c i arg1 harg1 arg2 harg2 arg3 harg3 arg6 harg6 arg7 harg7 arg10 harg10 arg11 harg11 arg12 harg12 hc1 hc2 x0 x1 x2 x3 g4 g5 g8 g9 f11 f12).2.2.2.2.2.1) ((i 0).val + 1) = k0_pay3 (hid x1 x2) (slab (gu0 (View.read (Elt F) hbGu.view g4)) 0) (slab (gu0 (View.read (Elt F) hbGu.view g4)) 11) := by
    unfold runA
    dsimp only
    refine (storeA f12 _ ho2 _ _).trans ?_
    unfold runA.sl.r_9 runA.sl.r_10
    rw [load_all harg2 _ x1, load_all harg3 _ x2, ldA_182, ldA_515]
    rfl
  iapply ((runA c i arg1 harg1 arg2 harg2 arg3 harg3 arg6 harg6 arg7 harg7 arg10 harg10 arg11 harg11 arg12 harg12 hc1 hc2 x0 x1 x2 x3 g4 g5 g8 g9 f11 f12).2.2.2.2.2.2 W K)
  isplitl [H0]; · iexact H0
  isplitl [H1]; · iexact H1
  isplitl [H2]; · iexact H2
  isplitl [H3]; · iexact H3
  isplitl [H7]; · iexact H7
  isplitl [H8]; · iexact H8
  isplitl [H9]; · iexact H9
  isplitl [H10]; · iexact H10
  isplitl [H11]; · iexact H11
  isplitl [H12]; · iexact H12
  isplitl [H4]; · iexact H4
  isplitl [H5]; · iexact H5
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [HW]; · iexact HW
  iintro ⟨H0, H1, H2, H3, ⟨%e7, H7⟩, H8, H9, ⟨%e10, H10⟩, H11, H12, H4, H5, S8, S9, S10, S11, S12, S13, S14, S15, S16, S17, S18, S19, S20, S21, S22, S23, S24, S25, S26, S27, S28, S29, S30, S31, S32, S33, HW⟩
  iapply Hk
  isplitl [H0]; · iexact H0
  isplitl [H1]; · iexact H1
  isplitl [H2]; · iexact H2
  isplitl [H3]; · iexact H3
  isplitl [H7]
  · unfold owns; iexists _; isplitr
    swap; · iexact H7
    ipureintro
    rw [eL7]
    exact View.read_writes_full _ _ _ _ _
  isplitl [H8]
  · rw [eX8]
    rw [show owns (c : Thread nD τ) scGu fullShare (gu0 (View.read (Elt F) hbGu.view g4)) = _ from owns_whole (c : Thread nD τ) cc0_scratch0 fullShare _]
    iexact H8
  isplitl [H9]
  · rw [eX9]
    rw [show owns (c : Thread nD τ) scDn fullShare (dn0 (View.read (Elt F) hbDn.view g5)) = _ from owns_whole (c : Thread nD τ) cc0_scratch1 fullShare _]
    iexact H9
  isplitl [H10]
  · iexists _
    iapply (owns_intro (c : Thread nD τ) arg10 fullShare _); iexact H10
  isplitl [H11]
  · iexists _; isplitr; · ipureintro; exact eX11
    iapply (owns_intro (c : Thread nD τ) arg11 fullShare _); iexact H11
  isplitl [H12]
  · iexists _; isplitr; · ipureintro; exact eX12
    iapply (owns_intro (c : Thread nD τ) arg12 fullShare _); iexact H12
  isplitl [H4]; · iexact H4
  isplitl [H5]; · iexact H5
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  iexact HW

/-- A later step's hidden pieces. -/
theorem piecesB (c : Dev nD) (i : grid0.Coords) (arg8 : Memref sig .tc .vmem S22x1024x256 .f32) (harg8 : arg8.IsWhole) (arg11 : Memref sig .tc .vmem S2x512x1024 .bf16) (harg11 : arg11.IsWhole) (arg12 : Memref sig .tc .vmem S2x512x256 .bf16) (harg12 : arg12.IsWhole)
    (hc2 : k0_cond2 i = 1#1) (ho3 : k0_off3 i = ![(i 0).val % 2, 0, 0]) (ho4 : k0_off4 i = ![(i 0).val % 2, 0, 0])
    (x0 : Vec F S512x1024 .f32) (x2 : Vec F S1x1024 .f32) (s8 : Vec F S22x1024x256 .f32) (s11 : Vec F S2x512x1024 .bf16) (s12 : Vec F S2x512x256 .bf16)
    (h11 : slotH s11 (i 0).val = k0_pay48 x0 x2) (h12 : slotA s12 (i 0).val = k0_pay3 (hid x0 x2) (slab s8 0) (slab s8 11)) :
    runB.sl.H10_11 c i arg8 harg8 arg11 harg11 arg12 harg12 hc2 s8 s11 s12 = midPieces (hid x0 x2) s8 := by
  unfold runB.sl.H10_11 runB.sl.r_1 runB.sl.r_2 runB.sl.r_3 runB.sl.r_4 runB.sl.r_5 runB.sl.r
  simp only [loadH harg11 s11 _ ho3, loadA harg12 s12 _ ho4, h11, h12, cast_act, ld8 harg8 s8]
  rw [← cast_hid x0 x2]
  rfl

/-- A later step's hidden rows. -/
theorem midB (c : Dev nD) (i : grid0.Coords) (arg8 : Memref sig .tc .vmem S22x1024x256 .f32) (harg8 : arg8.IsWhole) (arg10 : Memref sig .tc .vmem S512x2816 .bf16) (arg11 : Memref sig .tc .vmem S2x512x1024 .bf16) (harg11 : arg11.IsWhole) (arg12 : Memref sig .tc .vmem S2x512x256 .bf16) (harg12 : arg12.IsWhole)
    (hc2 : k0_cond2 i = 1#1) (ho3 : k0_off3 i = ![(i 0).val % 2, 0, 0]) (ho4 : k0_off4 i = ![(i 0).val % 2, 0, 0])
    (x0 : Vec F S512x1024 .f32) (x2 : Vec F S1x1024 .f32) (s8 : Vec F S22x1024x256 .f32) (s11 : Vec F S2x512x1024 .bf16) (s12 : Vec F S2x512x256 .bf16)
    (h11 : slotH s11 (i 0).val = k0_pay48 x0 x2) (h12 : slotA s12 (i 0).val = k0_pay3 (hid x0 x2) (slab s8 0) (slab s8 11)) :
    runB.sl.v187 c i arg8 harg8 arg10 arg11 harg11 arg12 harg12 hc2 s8 s11 s12 = mid (hid x0 x2) s8 := by
  unfold runB.sl.v187
  rw [piecesB c i arg8 harg8 arg11 harg11 arg12 harg12 hc2 ho3 ho4 x0 x2 s8 s11 s12 h11 h12]
  exact load_mid _ _ _

set_option maxHeartbeats 4000000 in
/-- A later step, in plain terms. -/
theorem stepB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .hbm S1024x5632 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S22x1024x256 .f32) (harg8 : arg8.IsWhole) (arg9 : Memref sig .tc .vmem S4x2816x256 .f32) (harg9 : arg9.IsWhole) (arg10 : Memref sig .tc .vmem S512x2816 .bf16) (harg10 : arg10.IsWhole) (arg11 : Memref sig .tc .vmem S2x512x1024 .bf16) (harg11 : arg11.IsWhole) (arg12 : Memref sig .tc .vmem S2x512x256 .bf16) (harg12 : arg12.IsWhole) (arg13 : DmaSems sig S26)
    (hc1 : ¬ k0_cond1 i = 1#1) (hc2 : k0_cond2 i = 1#1) (ho3 : k0_off3 i = ![(i 0).val % 2, 0, 0]) (ho4 : k0_off4 i = ![(i 0).val % 2, 0, 0])
    (ho5 : k0_off5 i = ![((i 0).val + 1) % 2, 0, 0]) (ho6 : k0_off6 i = ![((i 0).val + 1) % 2, 0, 0])
    (x0 x1 : Vec F S512x1024 .f32) (x2 x3 : Vec F S1x1024 .f32) (s8 : Vec F S22x1024x256 .f32) (s9 : Vec F S4x2816x256 .f32)
    (s11 : Vec F S2x512x1024 .bf16) (s12 : Vec F S2x512x256 .bf16)
    (h11 : slotH s11 (i 0).val = k0_pay48 x0 x2) (h12 : slotA s12 (i 0).val = k0_pay3 (hid x0 x2) (slab s8 0) (slab s8 11))
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ owns (c : Thread nD τ) arg8 fullShare s8 ∗ owns (c : Thread nD τ) arg9 fullShare s9 ∗ (∃ d, owns (c : Thread nD τ) arg10 fullShare d) ∗ owns (c : Thread nD τ) arg11 fullShare s11 ∗ owns (c : Thread nD τ) arg12 fullShare s12 ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare (tile x0 x3 (mid (hid x0 x2) s8) s9) ∗ owns (c : Thread nD τ) arg8 fullShare s8 ∗ owns (c : Thread nD τ) arg9 fullShare s9 ∗ (∃ d, owns (c : Thread nD τ) arg10 fullShare d) ∗ (∃ s, ⌜slotH s ((i 0).val + 1) = k0_pay48 x1 x2⌝ ∗ owns (c : Thread nD τ) arg11 fullShare s) ∗ (∃ s, ⌜slotA s ((i 0).val + 1) = k0_pay3 (hid x1 x2) (slab s8 0) (slab s8 11)⌝ ∗ owns (c : Thread nD τ) arg12 fullShare s)) -∗ K ⟨⟩))
      ⊢ wp frame (wpE (defs₀ (F := F)) Variants.none c none) E (cc0_ffn_final i arg1 harg1 arg2 harg2 arg3 harg3 arg4 harg4 arg5 harg5 arg6 harg6 arg7 harg7 arg8 harg8 arg9 harg9 arg10 harg10 arg11 harg11 arg12 harg12 arg13) K := by
  iintro ⟨H0, H1, H2, H3, H7, H8, H9, H10, H11, H12, Hk⟩
  have eL7 : (runB c i arg1 harg1 arg2 harg2 arg3 harg3 arg4 harg4 arg5 harg5 arg6 harg6 arg7 harg7 arg8 harg8 arg9 harg9 arg10 harg10 arg11 harg11 arg12 harg12 arg13 hc1 hc2 x0 x1 x2 x3 s8 s9 s11 s12).1
      = [⟨Rect.unit (s := S512x1024) ![0, 0] S512x1024.size inb_S512x1024_S512x1024_0_0, tile x0 x3 (mid (hid x0 x2) s8) s9⟩] := by
    unfold runB
    dsimp only
    unfold runB.sl.r_9 runB.sl.r_6 runB.sl.r_7 runB.sl.r_8
    simp only [midB c i arg8 harg8 arg10 arg11 harg11 arg12 harg12 hc2 ho3 ho4 x0 x2 s8 s11 s12 h11 h12, ld9 harg9 s9, load_all harg1, load_all harg6]
    rfl
  have eX11 : slotH (View.read (Elt F) arg11.view (runB c i arg1 harg1 arg2 harg2 arg3 harg3 arg4 harg4 arg5 harg5 arg6 harg6 arg7 harg7 arg8 harg8 arg9 harg9 arg10 harg10 arg11 harg11 arg12 harg12 arg13 hc1 hc2 x0 x1 x2 x3 s8 s9 s11 s12).2.2.1) ((i 0).val + 1) = k0_pay48 x1 x2 := by
    unfold runB
    dsimp only
    refine (storeH (harg11.unread s11) _ ho5 _ _).trans ?_
    rw [load_all harg2 _ x1, load_all harg3 _ x2]
  have eX12 : slotA (View.read (Elt F) arg12.view (runB c i arg1 harg1 arg2 harg2 arg3 harg3 arg4 harg4 arg5 harg5 arg6 harg6 arg7 harg7 arg8 harg8 arg9 harg9 arg10 harg10 arg11 harg11 arg12 harg12 arg13 hc1 hc2 x0 x1 x2 x3 s8 s9 s11 s12).2.2.2.1) ((i 0).val + 1) = k0_pay3 (hid x1 x2) (slab s8 0) (slab s8 11) := by
    unfold runB
    dsimp only
    refine (storeA (harg12.unread s12) _ ho6 _ _).trans ?_
    unfold runB.sl.r_10
    rw [load_all harg2 _ x1, load_all harg3 _ x2, ld8 harg8 s8, ld8 harg8 s8]
    rfl
  iapply ((runB c i arg1 harg1 arg2 harg2 arg3 harg3 arg4 harg4 arg5 harg5 arg6 harg6 arg7 harg7 arg8 harg8 arg9 harg9 arg10 harg10 arg11 harg11 arg12 harg12 arg13 hc1 hc2 x0 x1 x2 x3 s8 s9 s11 s12).2.2.2.2 E K)
  isplitl [H0]; · iexact H0
  isplitl [H1]; · iexact H1
  isplitl [H2]; · iexact H2
  isplitl [H3]; · iexact H3
  isplitl [H7]; · iexact H7
  isplitl [H8]; · iexact H8
  isplitl [H9]; · iexact H9
  isplitl [H10]; · iexact H10
  isplitl [H11]; · iexact H11
  isplitl [H12]; · iexact H12
  iintro ⟨H0, H1, H2, H3, ⟨%e7, H7⟩, H8, H9, ⟨%e10, H10⟩, H11, H12⟩
  iapply Hk
  isplitl [H0]; · iexact H0
  isplitl [H1]; · iexact H1
  isplitl [H2]; · iexact H2
  isplitl [H3]; · iexact H3
  isplitl [H7]
  · unfold owns; iexists _; isplitr
    swap; · iexact H7
    ipureintro
    rw [eL7]
    exact View.read_writes_full _ _ _ _ _
  isplitl [H8]; · iexact H8
  isplitl [H9]; · iexact H9
  isplitl [H10]
  · iexists _
    iapply (owns_intro (c : Thread nD τ) arg10 fullShare _); iexact H10
  isplitl [H11]
  · iexists _; isplitr; · ipureintro; exact eX11
    iapply (owns_intro (c : Thread nD τ) arg11 fullShare _); iexact H11
  iexists _; isplitr; · ipureintro; exact eX12
  iapply (owns_intro (c : Thread nD τ) arg12 fullShare _); iexact H12

end Cert.Kernel4Ideal.Hand

end
-- ==== Proof.FinalIdealFrame.lean ====
/- The feed-forward call with the closing norm terminates, faults nowhere and leaves its arguments; and what each point leaves in the result. -/
module

public import proofs.«01_k».proof.Proof.FinalIdealStep
public import proofs.«01_k».proof.Proof.Gen.Kernel4Ideal.Launch
public import proofs.«01_k».proof.Proof.Gen.Kernel4Ideal.Points
public import Idealize.ShloMosaic.Lib.Pipeline.FrameBody
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The scratch for a tile's hidden rows. -/
abbrev scMid : Memref sig .tc .vmem S512x2816 .bf16 := Memref.whole cc0_scratch2
/-- The scratch for two tiles' normalised rows. -/
abbrev scRow : Memref sig .tc .vmem S2x512x1024 .bf16 := Memref.whole cc0_scratch3
/-- The scratch for two tiles' first activations. -/
abbrev scAct : Memref sig .tc .vmem S2x512x256 .bf16 := Memref.whole cc0_scratch4

local notation "𝕄" => MT nD τ sig Unit (Elt F) ℕ (Pipeline.UD sig nD τ) ℕ

variable (m : (ℓ : Loc nD τ sig) → Buf (Elt F) ℓ) (ρ : Dev nD → PrngReg)

/-- Core `c`'s buffers when the call is entered: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The grid -/

/-- The grid's one coordinate is the point. -/
theorem coord0 : ∀ t : Fin grid0.N, ((grid0.coords t) 0).val = t.val := by decide +kernel
/-- The first point is the one that fills the scratch. -/
theorem cond1 : ∀ t : Fin grid0.N, k0_cond1 (grid0.coords t) = 1#1 ↔ t.val = 0 := by decide +kernel
/-- Every other point reads what the point before left. -/
theorem cond2 : ∀ t : Fin grid0.N, k0_cond2 (grid0.coords t) = 1#1 ↔ t.val ≠ 0 := by decide +kernel
/-- Where each point leaves the next tile's rows, and where it finds its own. -/
theorem slots : ∀ t : Fin grid0.N, k0_off1 (grid0.coords t) = ![(((grid0.coords t) 0).val + 1) % 2, 0, 0] ∧ k0_off2 (grid0.coords t) = ![(((grid0.coords t) 0).val + 1) % 2, 0, 0]
    ∧ k0_off3 (grid0.coords t) = ![((grid0.coords t) 0).val % 2, 0, 0] ∧ k0_off4 (grid0.coords t) = ![((grid0.coords t) 0).val % 2, 0, 0]
    ∧ k0_off5 (grid0.coords t) = ![(((grid0.coords t) 0).val + 1) % 2, 0, 0] ∧ k0_off6 (grid0.coords t) = ![(((grid0.coords t) 0).val + 1) % 2, 0, 0] := by decide +kernel
/-- The tile a point looks ahead to is the next point's. -/
theorem ahead : ∀ t : Fin grid0.N, t.val ≠ 0 → win0_1.index ⟨t.val - 1, by have := t.isLt; omega⟩ = win0_0.index t := by decide +kernel

/-- So the block a point looks ahead to is the next point's own. -/
theorem iblk_ahead (c : Dev nD) (t : Fin cfg0.N) (hz : t.val ≠ 0) :
    (iblk m c 1 ⟨t.val - 1, by have := t.isLt; omega⟩ : Vec F S512x1024 .f32) = iblk m c 0 t := by
  funext y
  show V m c main_arg0 _ = V m c main_arg0 _
  congr 1
  funext a
  have h := congrFun (ahead t hz) a
  fin_cases a
  · ext
    show win0_1.index _ 0 * 512 + 1 * (y 0).val = win0_0.index t 0 * 512 + 1 * (y 0).val
    rw [show win0_1.index _ 0 = win0_0.index t 0 from h]
  · ext
    show win0_1.index _ 1 * 1024 + 1 * (y 1).val = win0_0.index t 1 * 1024 + 1 * (y 1).val
    rw [show win0_1.index _ 1 = win0_0.index t 1 from h]

/-- The gain's block is the same at every point. -/
theorem iblk_gain (c : Dev nD) (t t' : Fin cfg0.N) : (iblk m c 2 t : Vec F S1x1024 .f32) = iblk m c 2 t' := rfl

/-! ## The launch's invariant and the one carried from point to point -/

/-- The body's own completion counters. -/
abbrev osem0 : Fin 26 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 26 → SemLoc sig) j
theorem ownSemFacts0 : Pipeline.OwnSemFacts spec0 osem0 := by decide +kernel
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2, 3, 4, 5, 6, 7, 8, 9, 10, 11, 12, 13, 14, 15, 16, 17, 18, 19, 20, 21, 22, 23, 24, 25] (by decide) (by decide)]; rfl

/-- The arrays the body's own copies read. -/
def H0 : Finset (Ref sig .tc) := {main_arg2, main_arg3}
theorem H0_sub : H0 ⊆ Pipeline.restRefs sig spec0 := by decide
theorem hbm_list (c : Dev nD) :
    (bigSep H0 (fun b => ((c : Thread nD τ).loc b) ↦{fullShare} V m c b) : sProp 𝕄)
      = iprop(wholeAt c hbGu (V m c main_arg2) ∗ wholeAt c hbDn (V m c main_arg3)) := by
  rw [BI.bigSep_eq_bigSepL_of_eq [main_arg2, main_arg3] (by decide) (by decide)]; rfl

/-- What the launch hands the first point, and takes back after the last. -/
theorem launch_list (c : Dev nD) :
    (Pipeline.ΦD osem0 spec0 H0 (V m) c : sProp 𝕄)
      = iprop(iprop((∃ f, wholeAt c scGu f) ∗ (∃ f, wholeAt c scDn f) ∗ (∃ f, wholeAt c scMid f) ∗ (∃ f, wholeAt c scRow f) ∗ (∃ f, wholeAt c scAct f))
          ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(wholeAt c hbGu (V m c main_arg2) ∗ wholeAt c hbDn (V m c main_arg3))) := by
  rw [Pipeline.ΦD_eq, scopedRest0_eq, ownSems0_list, hbm_list]

/-- The scratch's gate and up weights. -/
def gu (c : Dev nD) : Vec F S22x1024x256 .f32 := gu0 (View.read (Elt F) hbGu.view (V m c main_arg2))
/-- The scratch's down weights. -/
def dn (c : Dev nD) : Vec F S4x2816x256 .f32 := dn0 (View.read (Elt F) hbDn.view (V m c main_arg3))

/-- What is carried into the point of parity `k`, whose rows are `x` and whose gain is `g`. -/
def carried (c : Dev nD) (k : ℕ) (x : Vec F S512x1024 .f32) (g : Vec F S1x1024 .f32) : sProp 𝕄 :=
  iprop(iprop(owns (c : Thread nD τ) scGu fullShare (gu m c) ∗ owns (c : Thread nD τ) scDn fullShare (dn m c) ∗ (∃ d, owns (c : Thread nD τ) scMid fullShare d)
        ∗ (∃ s, ⌜slotH s k = k0_pay48 x g⌝ ∗ owns (c : Thread nD τ) scRow fullShare s)
        ∗ (∃ s, ⌜slotA s k = k0_pay3 (hid x g) (slab (gu m c) 0) (slab (gu m c) 11)⌝ ∗ owns (c : Thread nD τ) scAct fullShare s))
      ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(wholeAt c hbGu (V m c main_arg2) ∗ wholeAt c hbDn (V m c main_arg3)))

/-- The invariant before position `n`. -/
def PhiS (c : Dev nD) : (n : ℕ) → n ≤ cfg0.N → sProp 𝕄
  | 0, _ => Pipeline.ΦD osem0 spec0 H0 (V m) c
  | n + 1, hn => carried m c (n + 1) (iblk m c 1 ⟨n, hn⟩) (iblk m c 2 ⟨n, hn⟩)

theorem PhiS_zero (c : Dev nD) (n : ℕ) (h : n ≤ cfg0.N) (hz : n = 0) : PhiS m c n h = Pipeline.ΦD osem0 spec0 H0 (V m) c := by
  subst hz; rfl

/-- After a point: the next tile's rows. -/
theorem PhiS_after (c : Dev nD) (t : Fin cfg0.N) :
    PhiS m c (t.val + 1) t.isLt = carried m c (((grid0.coords t) 0).val + 1) (iblk m c 1 t) (iblk m c 2 t) := by
  rw [coord0 t]; rfl

/-- Before a point that is not the first: its own rows. -/
theorem PhiS_before (c : Dev nD) (t : Fin cfg0.N) (hz : t.val ≠ 0) :
    PhiS m c t.val (Nat.le_of_lt t.isLt) = carried m c (((grid0.coords t) 0).val) (iblk m c 0 t) (iblk m c 2 t) := by
  rw [coord0 t, ← iblk_ahead m c t hz]
  obtain ⟨n, hn⟩ := t
  cases n with
  | zero => exact absurd rfl hz
  | succ n => rfl

/-- A buffer held whole at some contents, as the body holds it. -/
theorem to_owns (c : Dev nD) (b : Ref sig .tc) :
    iprop(∃ f, ((c : Thread nD τ).loc b) ↦{fullShare} f) ⊢ (iprop(∃ d, owns (c : Thread nD τ) (Memref.whole b) fullShare d) : sProp 𝕄) := by
  iintro ⟨%f, H⟩; iexists f; rw [owns_whole]; iexact H
theorem of_owns (c : Dev nD) (b : Ref sig .tc) :
    iprop(∃ d, owns (c : Thread nD τ) (Memref.whole b) fullShare d) ⊢ (iprop(∃ f, ((c : Thread nD τ).loc b) ↦{fullShare} f) : sProp 𝕄) := by
  simp only [owns_whole]; exact .rfl
theorem to_part (c : Dev nD) (b : Ref sig .tc) :
    iprop(∃ f, ((c : Thread nD τ).loc b) ↦{fullShare} f)
      ⊢ (iprop(∃ f, (Memref.whole b).view.loc (c : Thread nD τ) ↦[(Memref.whole b).view.set]{fullShare} f) : sProp 𝕄) := by
  refine (to_owns c b).trans ?_
  unfold owns
  iintro ⟨%d, ⟨%f, -, H⟩⟩
  iexists f; iexact H

/-! ## The proof data and the body at every point -/

/-- What a point leaves in the result's block. -/
def outAt (c : Dev nD) (t : Fin cfg0.N) : Vec F S512x1024 .f32 :=
  tile (iblk m c 0 t) (iblk m c 3 t) (mid (hid (iblk m c 0 t) (iblk m c 2 t)) (gu m c)) (dn m c)

/-- The proof data of the call on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
/-- Window 0's buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1's buffer holds its block at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2's buffer holds its block at every point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3's buffer holds its block at every point. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4]
  rw [show (dats m 0 c).Φ t.succ = PhiS m c (t.val + 1) t.isLt from rfl, PhiS_after, PhiS_castSucc]
  unfold Dat.owesAt Pipeline.owesWithin
  rw [show (dats m 0 c).owed t.castSucc = 0 from rfl, show (dats m 0 c).owed t.succ = 0 from rfl]
  obtain ⟨ho1, ho2, ho3, ho4, ho5, ho6⟩ := slots t
  by_cases hz : t.val = 0
  · rw [PhiS_zero m c _ _ hz, launch_list]
    unfold outAt carried gu dn
    iintro ⟨⟨⟨⟨%g8, HS0⟩, ⟨%g9, HS1⟩, HS2, HS3, HS4⟩, Hg, ⟨Q8, Q9, Q10, Q11, Q12, Q13, Q14, Q15, Q16, Q17, Q18, Q19, Q20, Q21, Q22, Q23, Q24, Q25, Q26, Q27, Q28, Q29, Q30, Q31, Q32, Q33⟩, ⟨Hh0, Hh1⟩⟩, ⟨%W, -, HW⟩, ⟨%d0, H0⟩, ⟨%d1, H1⟩, ⟨%d2, H2⟩, ⟨%d3, H3⟩, ⟨%d4, H4⟩⟩
    iapply (stepA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) scMid (Memref.isWhole_whole _) scRow (Memref.isWhole_whole _) scAct (Memref.isWhole_whole _) ((cond1 t).mpr hz) (fun h => (cond2 t).mp h hz) ho1 ho2 (iblk m c 0 t) (iblk m c 1 t) (iblk m c 2 t) (iblk m c 3 t) (V m c main_arg2) (V m c main_arg3) g8 g9 W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iapply (to_owns c cc0_scratch2); iexact HS2
    isplitl [HS3]; · iapply (to_part c cc0_scratch3); iexact HS3
    isplitl [HS4]; · iapply (to_part c cc0_scratch4); iexact HS4
    isplitl [Hh0]; · iexact Hh0
    isplitl [Hh1]; · iexact Hh1
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [HW]; · iexact HW
    iintro ⟨H0, H1, H2, H3, H4, HS0, HS1, HS2, HS3, HS4, Hh0, Hh1, Q8, Q9, Q10, Q11, Q12, Q13, Q14, Q15, Q16, Q17, Q18, Q19, Q20, Q21, Q22, Q23, Q24, Q25, Q26, Q27, Q28, Q29, Q30, Q31, Q32, Q33, ⟨%W2, HW⟩⟩
    isplitl [HS0 HS1 HS2 HS3 HS4 Hg Hh0 Hh1 Q8 Q9 Q10 Q11 Q12 Q13 Q14 Q15 Q16 Q17 Q18 Q19 Q20 Q21 Q22 Q23 Q24 Q25 Q26 Q27 Q28 Q29 Q30 Q31 Q32 Q33]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Q8 Q9 Q10 Q11 Q12 Q13 Q14 Q15 Q16 Q17 Q18 Q19 Q20 Q21 Q22 Q23 Q24 Q25 Q26 Q27 Q28 Q29 Q30 Q31 Q32 Q33]
      · isplitl [Q8]; · iexact Q8
        isplitl [Q9]; · iexact Q9
        isplitl [Q10]; · iexact Q10
        isplitl [Q11]; · iexact Q11
        isplitl [Q12]; · iexact Q12
        isplitl [Q13]; · iexact Q13
        isplitl [Q14]; · iexact Q14
        isplitl [Q15]; · iexact Q15
        isplitl [Q16]; · iexact Q16
        isplitl [Q17]; · iexact Q17
        isplitl [Q18]; · iexact Q18
        isplitl [Q19]; · iexact Q19
        isplitl [Q20]; · iexact Q20
        isplitl [Q21]; · iexact Q21
        isplitl [Q22]; · iexact Q22
        isplitl [Q23]; · iexact Q23
        isplitl [Q24]; · iexact Q24
        isplitl [Q25]; · iexact Q25
        isplitl [Q26]; · iexact Q26
        isplitl [Q27]; · iexact Q27
        isplitl [Q28]; · iexact Q28
        isplitl [Q29]; · iexact Q29
        isplitl [Q30]; · iexact Q30
        isplitl [Q31]; · iexact Q31
        isplitl [Q32]; · iexact Q32
        iexact Q33
      isplitl [Hh0]; · iexact Hh0
      iexact Hh1
    isplitl [HW]
    · iexists W2; isplitr; · ipureintro; exact fun _ _ => Or.inl trivial
      iexact HW
    isplitl [H0]; · iexact H0
    isplitl [H1]; · iexact H1
    isplitl [H2]; · iexact H2
    isplitl [H3]; · iexact H3
    iexact H4
  · rw [PhiS_before m c t hz]
    unfold carried outAt
    iintro ⟨⟨⟨HS0, HS1, HS2, ⟨%s11, %h11, HS3⟩, ⟨%s12, %h12, HS4⟩⟩, Hrest⟩, Ho, ⟨%d0, H0⟩, ⟨%d1, H1⟩, ⟨%d2, H2⟩, ⟨%d3, H3⟩, ⟨%d4, H4⟩⟩
    iapply (stepB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) hbGu (Memref.isWhole_whole _) hbDn (Memref.isWhole_whole _) (st0_3 t) (hstage0_3 ((cfg0.slots t 3).cast nbuf0_3)) (st0_4 t) (hstage0_4 ((cfg0.slots t 4).cast nbuf0_4)) scGu (Memref.isWhole_whole _) scDn (Memref.isWhole_whole _) scMid (Memref.isWhole_whole _) scRow (Memref.isWhole_whole _) scAct (Memref.isWhole_whole _) cc0_scratch5 (fun h => hz ((cond1 t).mp h)) ((cond2 t).mpr hz) ho3 ho4 ho5 ho6 (iblk m c 0 t) (iblk m c 1 t) (iblk m c 2 t) (iblk m c 3 t) (gu m c) (dn m c) s11 s12 h11 h12 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, HS4⟩
    isplitl [HS0 HS1 HS2 HS3 HS4 Hrest]
    · isplitl [HS0 HS1 HS2 HS3 HS4]
      · isplitl [HS0]; · iexact HS0
        isplitl [HS1]; · iexact HS1
        isplitl [HS2]; · iexact HS2
        isplitl [HS3]; · iexact HS3
        iexact HS4
      iexact Hrest
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The result is stored at every point. -/
theorem stores : ∀ t : Fin cfg0.N, cfg0.idle 4 (cfg0.grid.coords t) = false :=
  (by decide +kernel : ∀ t : Fin grid0.N, (!(k0_cond1 (grid0.coords t) == 1#1) && !(k0_cond2 (grid0.coords t) == 1#1)) = false)

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [stores t]
  exact .rfl

/-- What the last point leaves is what the launch takes back. -/
theorem give_back (c : Dev nD) (k : ℕ) (x : Vec F S512x1024 .f32) (g : Vec F S1x1024 .f32) :
    carried m c k x g ⊢ (Pipeline.ΦD osem0 spec0 H0 (V m) c : sProp 𝕄) := by
  rw [launch_list]
  unfold carried
  iintro ⟨⟨HS0, HS1, HS2, ⟨%s11, -, HS3⟩, ⟨%s12, -, HS4⟩⟩, Hrest⟩
  isplitl [HS0 HS1 HS2 HS3 HS4]
  · isplitl [HS0]; · iapply (of_owns c cc0_scratch0); iexists _; iexact HS0
    isplitl [HS1]; · iapply (of_owns c cc0_scratch1); iexists _; iexact HS1
    isplitl [HS2]; · iapply (of_owns c cc0_scratch2); iexact HS2
    isplitl [HS3]; · iapply (of_owns c cc0_scratch3); iexists _; iexact HS3
    iapply (of_owns c cc0_scratch4); iexists _; iexact HS4
  iexact Hrest

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := fun _ => .rfl) (hout := fun c => give_back m c _ _ _)

/-- The frame: the call terminates without fault, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (A_eq m c 0)),
      ((h.1 c).1 2).trans (((dats m 0 c).arrAt_in 2 rfl _).trans (A_eq m c 2)),
      (h.1 c).2 main_arg2 (Pipeline.mem_restRefs_of main_arg2 (by decide) (by decide)),
      (h.1 c).2 main_arg3 (Pipeline.mem_restRefs_of main_arg3 (by decide) (by decide)),
      ((h.1 c).1 3).trans (((dats m 0 c).arrAt_in 3 rfl _).trans (A_eq m c 3))⟩, h.2⟩) (run_main m ρ)

end Cert.Kernel4Ideal.Hand

end
-- ==== Proof.FinalIdealRows.lean ====
/- What one step of the feed-forward call leaves, read element by element over the extended reals. -/
module

public import proofs.«01_k».proof.Proof.Swiglu
public import proofs.«01_k».proof.Proof.FinalIdealTile

@[expose] public section
set_option maxRecDepth 16384
noncomputable section
namespace Cert.Kernel4Ideal.Hand
open Idealize.ShloMosaic Cert.Rows
open Cert.Kernel4Ideal Cert.Kernel4Ideal.Gen

/-- The block of rows, normalised. -/
theorem hid_apply (x : Vec Ideal S512x1024 .f32) (g : Vec Ideal S1x1024 .f32) (r : Fin 512) (d : Fin 1024) :
    hid x g (ix2 r d) = rms (fun d => x (ix2 r d)) (fun d => g (ix2 0 d)) d := by
  pointwise [hid, k0_pay47]
  rfl

/-- One group of hidden columns. -/
theorem act_apply (h : FVec Ideal S512x1024 .bf16) (a b : Vec Ideal S1x1024x256 .f32) (r : Fin 512) (q : Fin 256) :
    act h a b (ix2 r q) = silu (∑ k, h (ix2 r k) * a (ix3 0 k q)) * ∑ k, h (ix2 r k) * b (ix3 0 k q) := by
  pointwise [act, k0_pay43]
  rfl

/-- The hidden block from the weights as they are given. -/
theorem mid_apply (h : FVec Ideal S512x1024 .bf16) (w : Vec Ideal S1024x5632 .f32) (r : Fin 512) (j : Fin 2816) :
    mid h (gu0 w) (ix2 r j) = gated (fun d => h (ix2 r d)) (fun d n => w (ix2 d n)) j := by
  have hj : j.val < 2816 := j.isLt
  have e (k o : ℕ) (hk : k < 22) (ho : o = 256 * k + j.val % 256) (ho' : o < 5632) (d : Fin 1024) :
      slab (gu0 w) k (ix3 0 d (⟨j.val % 256, Nat.mod_lt _ (by decide)⟩ : Fin 256)) = w (ix2 d ⟨o, ho'⟩) := by
    subst ho
    unfold slab gu0
    refine congrArg w (congrArg (ix2 d) (Fin.ext ?_))
    show 256 * (k % 22) + j.val % 256 = 256 * k + j.val % 256
    rw [Nat.mod_eq_of_lt hk]
  show act h (slab (gu0 w) (j.val / 256)) (slab (gu0 w) (11 + j.val / 256)) (ix2 r (⟨j.val % 256, Nat.mod_lt _ (by decide)⟩ : Fin 256)) = _
  rw [act_apply]
  unfold gated rowMul
  simp only [e (j.val / 256) j.val (by omega) (by omega) (by omega), e (11 + j.val / 256) (2816 + j.val) (by omega) (by omega) (by omega)]

/-- A group of the down weights from the weights as they are given. -/
theorem slabD_apply (v : Vec Ideal S2816x1024 .f32) (k : ℕ) (hk : k < 4) (j : Fin 2816) (q : Fin 256) (o : ℕ) (ho : o = 256 * k + q) (ho' : o < 1024) :
    slabD (dn0 v) k (ix3 0 j q) = v (ix2 j ⟨o, ho'⟩) := by
  subst ho
  unfold slabD dn0
  refine congrArg v (congrArg (ix2 j) (Fin.ext ?_))
  show 256 * (k % 4) + q.val = 256 * k + q.val
  rw [Nat.mod_eq_of_lt hk]

/-- The four column groups of the second product laid side by side, with the residual. -/
theorem down_apply (x : Vec Ideal S512x1024 .f32) (m : Vec Ideal S512x2816 .bf16) (v : Vec Ideal S2816x1024 .f32) (r : Fin 512) (k : Fin 4) (q : Fin 256) :
    k0_pay46 x (k0_pay44 m (slabD (dn0 v) 0)) m (k0_pay45 (slabD (dn0 v) 1)) (constant S512x256 .f32 0x00000000#32) m (slabD (dn0 v) 2) m (slabD (dn0 v) 3) (ix2 r ⟨256 * k + q, by omega⟩)
      = x (ix2 r ⟨256 * k + q, by omega⟩) + half * rowMul (fun j => m (ix2 r j)) (fun j c => v (ix2 j c)) ⟨256 * k + q, by omega⟩ := by
  have h0 (j : Fin 2816) (q : Fin 256) := slabD_apply v 0 (by omega) j q q.val (by omega) (by omega)
  have h1 (j : Fin 2816) (q : Fin 256) := slabD_apply v 1 (by omega) j q (256 + q.val) (by omega) (by omega)
  have h2 (j : Fin 2816) (q : Fin 256) := slabD_apply v 2 (by omega) j q (512 + q.val) (by omega) (by omega)
  have h3 (j : Fin 2816) (q : Fin 256) := slabD_apply v 3 (by omega) j q (768 + q.val) (by omega) (by omega)
  generalize slabD (dn0 v) 0 = v0, slabD (dn0 v) 1 = v1, slabD (dn0 v) 2 = v2, slabD (dn0 v) 3 = v3 at *
  obtain ⟨k, hk⟩ := k
  interval_cases k
  all_goals
    pointwise [k0_pay46, k0_pay44, k0_pay45]
    unfold rowMul
  · simp only [h0]
  · simp only [h1]
  · rw [dif_neg (by omega), dif_neg (by omega), dif_pos (by omega)]
    simp only [show 512 + q.val - 256 - 256 = q.val by omega, Fin.eta, h2]
  · rw [dif_neg (by omega), dif_neg (by omega), dif_neg (by omega)]
    simp only [show 768 + q.val - 256 - 256 - 256 = q.val by omega, Fin.eta, h3]

/-- The residual and the second product at any position. -/
theorem sum_apply (x : Vec Ideal S512x1024 .f32) (m : Vec Ideal S512x2816 .bf16) (v : Vec Ideal S2816x1024 .f32) (r : Fin 512) (c : Fin 1024) :
    k0_pay46 x (k0_pay44 m (slabD (dn0 v) 0)) m (k0_pay45 (slabD (dn0 v) 1)) (constant S512x256 .f32 0x00000000#32) m (slabD (dn0 v) 2) m (slabD (dn0 v) 3) (ix2 r c)
      = x (ix2 r c) + half * rowMul (fun j => m (ix2 r j)) (fun j c => v (ix2 j c)) c := by
  have hc : c = ⟨256 * (⟨c.val / 256, by omega⟩ : Fin 4).val + (⟨c.val % 256, by omega⟩ : Fin 256).val, by show 256 * (c.val / 256) + c.val % 256 < 1024; omega⟩ := by
    ext
    show c.val = 256 * (c.val / 256) + c.val % 256
    omega
  rw [hc]
  exact down_apply x m v r ⟨c.val / 256, by omega⟩ ⟨c.val % 256, by omega⟩

/-- The closing norm of a block. -/
theorem norm_apply (y : FVec Ideal S512x1024 .f32) (g : Vec Ideal S1x1024 .f32) (r : Fin 512) (d : Fin 1024) :
    k0_pay4 y g (ix2 r d) = rms (fun d => y (ix2 r d)) (fun d => g (ix2 0 d)) d := by
  pointwise [k0_pay4]
  rfl

/-- What a step leaves, from the arrays as they are given. -/
theorem tile_apply (x : Vec Ideal S512x1024 .f32) (g g3 : Vec Ideal S1x1024 .f32) (w : Vec Ideal S1024x5632 .f32) (v : Vec Ideal S2816x1024 .f32) (r : Fin 512) (c : Fin 1024) :
    tile x g3 (mid (hid x g) (gu0 w)) (dn0 v) (ix2 r c) = rms (ffnRow (fun d => x (ix2 r d)) (fun d => g (ix2 0 d)) (fun d n => w (ix2 d n)) (fun j c => v (ix2 j c))) (fun d => g3 (ix2 0 d)) c := by
  unfold tile
  rw [norm_apply]
  refine congrFun (congrFun (congrArg rms (funext fun c => ?_)) _) _
  rw [sum_apply]
  have hm : (fun j : Fin 2816 => mid (hid x g) (gu0 w) (ix2 r j)) = gated (rms (fun d => x (ix2 r d)) (fun d => g (ix2 0 d))) (fun d n => w (ix2 d n)) := by
    funext j
    rw [mid_apply]
    simp only [hid_apply]
  rw [hm]
  rfl

end Cert.Kernel4Ideal.Hand
end
-- ==== Proof.FinalIdealValue.lean ====
/- The closing feed-forward call, the one whose result is normalised once more, as a whole: each grid point writes its tile of 512 rows, the tiles cover the result, and the
   array they leave is the reference's. -/
module

public import proofs.«01_k».proof.Proof.FinalIdealRows
public import proofs.«01_k».proof.Proof.FinalIdealFrame
public import proofs.«01_k».proof.Proof.Gen.Reference4Ideal.Run
public import proofs.«01_k».proof.Proof.Gen.Reference4Ideal.Read
public import proofs.«01_k».proof.Defs

@[expose] public section
set_option maxRecDepth 16384
noncomputable section
namespace Cert.FfnFinal
open Idealize.ShloMosaic Idealize.ShloMosaic.TcCoe Idealize.SL.Sem Cert.Rows
open Cert.Kernel4Ideal Cert.Kernel4Ideal.Gen Cert.Kernel4Ideal.Hand

/-- One row of the result from the whole arrays. -/
def result (x : Vec Ideal S16384x1024 .f32) (g : Vec Ideal S1x1024 .f32) (w : Vec Ideal S1024x5632 .f32) (v : Vec Ideal S2816x1024 .f32) (g3 : Vec Ideal S1x1024 .f32) (r : Fin 16384) (c : Fin 1024) : EReal :=
  rms (ffnRow (fun d => x (ix2 r d)) (fun d => g (ix2 0 d)) (fun d n => w (ix2 d n)) (fun j c => v (ix2 j c))) (fun d => g3 (ix2 0 d)) c

/-- Which block each window is at, at every grid point. -/
theorem point0 : ∀ t : Fin grid0.N, win0_0.index t 0 = t.val ∧ win0_0.index t 1 = 0 := by decide +kernel
theorem point2 : ∀ t : Fin grid0.N, win0_2.index t 0 = 0 ∧ win0_2.index t 1 = 0 := by decide +kernel
theorem point3 : ∀ t : Fin grid0.N, win0_3.index t 0 = 0 ∧ win0_3.index t 1 = 0 := by decide +kernel
theorem point4 : ∀ t : Fin grid0.N, win0_4.index t 0 = t.val ∧ win0_4.index t 1 = 0 := by decide +kernel

variable (m : (ℓ : Loc nD τ sig) → Buf (Elt Ideal) ℓ)

/-- The row tile, read off the argument. -/
theorem block0 (c : Dev nD) (t : Fin cfg0.N) (a : Fin 512) (d : Fin 1024) :
    iblk m c 0 t (ix2 a d) = m ((c : Thread nD τ).loc main_arg0) (ix2 (⟨512 * t.val + a, by have := t.isLt; have : cfg0.N = 32 := N_0; omega⟩ : Fin 16384) d) := by
  show m ((c : Thread nD τ).loc main_arg0) _ = _
  congr 1
  funext k
  have h := point0 t
  fin_cases k
  · ext
    show win0_0.index t 0 * 512 + 1 * a.val = 512 * t.val + a
    rw [h.1]; ring
  · ext
    show win0_0.index t 1 * 1024 + 1 * d.val = d
    rw [h.2]; ring

/-- The gain, read off the argument. -/
theorem block2 (c : Dev nD) (t : Fin cfg0.N) (d : Fin 1024) :
    iblk m c 2 t (ix2 0 d) = m ((c : Thread nD τ).loc main_arg1) (ix2 0 d) := by
  show m ((c : Thread nD τ).loc main_arg1) _ = _
  congr 1
  funext k
  have h := point2 t
  fin_cases k
  · ext
    show win0_2.index t 0 * 1 + 1 * 0 = 0
    rw [h.1]
  · ext
    show win0_2.index t 1 * 1024 + 1 * d.val = d
    rw [h.2]; ring

/-- The closing gain, read off the argument. -/
theorem block3 (c : Dev nD) (t : Fin cfg0.N) (d : Fin 1024) :
    iblk m c 3 t (ix2 0 d) = m ((c : Thread nD τ).loc main_arg4) (ix2 0 d) := by
  show m ((c : Thread nD τ).loc main_arg4) _ = _
  congr 1
  funext k
  have h := point3 t
  fin_cases k
  · ext
    show win0_3.index t 0 * 1 + 1 * 0 = 0
    rw [h.1]
  · ext
    show win0_3.index t 1 * 1024 + 1 * d.val = d
    rw [h.2]; ring

/-- The whole result array. -/
def whole (c : Dev nD) : Buf (Elt Ideal) ((c : Thread nD τ).loc main_v0) := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a grid point leaves, position by position. -/
theorem outAt_apply (c : Dev nD) (t : Fin cfg0.N) (a : Fin 512) (d : Fin 1024) :
    outAt m c t (ix2 a d) = result (m ((c : Thread nD τ).loc main_arg0)) (m ((c : Thread nD τ).loc main_arg1)) (m ((c : Thread nD τ).loc main_arg2))
      (m ((c : Thread nD τ).loc main_arg3)) (m ((c : Thread nD τ).loc main_arg4)) (⟨512 * t.val + a, by have := t.isLt; have : cfg0.N = 32 := N_0; omega⟩ : Fin 16384) d := by
  have hgu : gu m c = gu0 (F := Ideal) (m ((c : Thread nD τ).loc main_arg2)) := rfl
  have hdn : dn m c = dn0 (F := Ideal) (m ((c : Thread nD τ).loc main_arg3)) := rfl
  unfold outAt
  rw [hgu, hdn, tile_apply]
  unfold result
  simp only [block0 m c t, block2 m c t, block3 m c t]

/-- What a grid point writes back is its block of the whole result. -/
theorem flushed (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  have hN : cfg0.N = 32 := N_0
  have ht := t.isLt
  funext y
  obtain ⟨a, d, rfl⟩ : ∃ (a : Fin 512) (d : Fin 1024), y = ix2 a d := ⟨y 0, y 1, by funext k; fin_cases k <;> rfl⟩
  have h0 : ((cfg0.win 4).blk t).view.emb (ix2 a d) 0 = (⟨512 * t.val + a, by omega⟩ : Fin 16384) := by
    ext
    show win0_4.index t 0 * 512 + 1 * a.val = 512 * t.val + a
    rw [(point4 t).1]; ring
  have h1 : ((cfg0.win 4).blk t).view.emb (ix2 a d) 1 = d := by
    ext
    show win0_4.index t 1 * 1024 + 1 * d.val = d
    rw [(point4 t).2]; ring
  show outAt m c t (ix2 a d) = whole m c (((cfg0.win 4).blk t).view.emb (ix2 a d))
  unfold whole
  rw [h0, h1]
  exact outAt_apply m c t a d

/-- So the result array ends at the whole result. -/
theorem final (c : Dev nD) : (dats m 0 c).arrAt 4 cfg0.N = whole m c :=
  (dats m 0 c).arrAt_eq_of_cover 4 (whole m c) (fun t _ => flushed m c t) fun i => by
    have hN : cfg0.N = 32 := N_0
    have h0 : (i 0 : ℕ) < 16384 := (i 0).isLt
    have h1 : (i 1 : ℕ) < 1024 := (i 1).isLt
    let t : Fin cfg0.N := ⟨(i 0).val / 512, by omega⟩
    refine ⟨t, (by decide +kernel : ∀ t : Fin grid0.N, win0_4.flush t = true) _, ?_⟩
    show i ∈ ((View.whole main_v0).slice (win0_4.rect t)).set
    rw [View.set_slice_whole, Rect.mem_set_unit]
    intro k
    fin_cases k
    · show win0_4.index t 0 * 512 ≤ (i 0).val ∧ (i 0).val < win0_4.index t 0 * 512 + 512
      rw [(point4 t).1]
      show (i 0).val / 512 * 512 ≤ _ ∧ _ < (i 0).val / 512 * 512 + 512
      omega
    · show win0_4.index t 1 * 1024 ≤ (i 1).val ∧ (i 1).val < win0_4.index t 1 * 1024 + 1024
      rw [(point4 t).2]
      omega

section
open Cert.Reference4Ideal.Read
variable (x : Vec Ideal S16384x1024 .f32) (g : Vec Ideal S1x1024 .f32) (w : Vec Ideal S1024x5632 .f32) (v : Vec Ideal S2816x1024 .f32) (g3 : Vec Ideal S1x1024 .f32)

/-- The reference's normalised row. -/
theorem ref_norm (r : Fin 16384) (d : Fin 1024) :
    val_main_v11 (F := Ideal) x g (ix2 r d) = rms (fun d => x (ix2 r d)) (fun d => g (ix2 0 d)) d := by
  pointwise [val_main_v11, val_main_v10, val_main_v9, val_main_v8, val_main_v7, val_main_v6, val_main_cst_1, val_main_v5, val_main_v4, val_main_cst_0, val_main_v3, val_main_v2, val_main_cst, val_main_v1, val_main_v0]
  rfl

/-- The reference's first product. -/
theorem ref_wide (r : Fin 16384) (n : Fin 5632) :
    val_main_v12 (F := Ideal) x g w (ix2 r n) = rowMul (rms (fun d => x (ix2 r d)) (fun d => g (ix2 0 d))) (fun d n => w (ix2 d n)) n := by
  have h : rms (fun d => x (ix2 r d)) (fun d => g (ix2 0 d)) = fun d => val_main_v11 (F := Ideal) x g (ix2 r d) := funext fun d => (ref_norm x g r d).symm
  rw [h]
  unfold val_main_v12 rowMul
  generalize val_main_v11 (F := Ideal) x g = y
  pointwise

/-- The reference's hidden layer. -/
theorem ref_hidden (r : Fin 16384) (j : Fin 2816) :
    val_main_v16 (F := Ideal) x g w (ix2 r j) = gated (rms (fun d => x (ix2 r d)) (fun d => g (ix2 0 d))) (fun d n => w (ix2 d n)) j := by
  unfold gated
  rw [← ref_wide x g w r, ← ref_wide x g w r]
  unfold val_main_v16 val_main_v15 val_main_call0_v5 val_main_call0_v4 val_main_call0_cst_0 val_main_call0_v3 val_main_call0_v2 val_main_call0_cst val_main_call0_v1 val_main_call0_v0 val_main_v14 val_main_v13
  generalize val_main_v12 (F := Ideal) x g w = y
  pointwise
  unfold silu Ideal.logistic
  rfl

/-- The reference's rows before any closing norm. -/
theorem ref_sum (r : Fin 16384) (c : Fin 1024) :
    val_main_v20 (F := Ideal) x g w v (ix2 r c) = ffnRow (fun d => x (ix2 r d)) (fun d => g (ix2 0 d)) (fun d n => w (ix2 d n)) (fun j c => v (ix2 j c)) c := by
  unfold ffnRow
  have h : gated (rms (fun d => x (ix2 r d)) (fun d => g (ix2 0 d))) (fun d n => w (ix2 d n)) = fun j => val_main_v16 (F := Ideal) x g w (ix2 r j) := funext fun j => (ref_hidden x g w r j).symm
  rw [h]
  unfold val_main_v20 val_main_v19 val_main_v18 val_main_cst_2 val_main_v17 rowMul
  generalize val_main_v16 (F := Ideal) x g w = y
  pointwise

/-- The reference's closing norm. -/
theorem ref_close (r : Fin 16384) (c : Fin 1024) :
    val_main_v32 (F := Ideal) x g w v g3 (ix2 r c) = rms (fun c => val_main_v20 (F := Ideal) x g w v (ix2 r c)) (fun d => g3 (ix2 0 d)) c := by
  unfold val_main_v32 val_main_v31 val_main_v30 val_main_v29 val_main_v28 val_main_v27 val_main_v26 val_main_cst_5 val_main_v25 val_main_v24 val_main_cst_4 val_main_v23 val_main_v22 val_main_cst_3 val_main_v21
  generalize val_main_v20 (F := Ideal) x g w v = y
  pointwise
  rfl

/-- The reference, row by row. -/
theorem ref_result (i : S16384x1024.Idx) :
    val_main_v32 (F := Ideal) x g w v g3 i = result x g w v g3 (i 0) (i 1) := by
  obtain ⟨r, d, rfl⟩ : ∃ (r : Fin 16384) (d : Fin 1024), i = ix2 r d := ⟨i 0, i 1, by funext k; fin_cases k <;> rfl⟩
  unfold result
  rw [ref_close]; simp only [ref_sum]; rfl
end

/-- The value claim of this call. -/
theorem algebraic : Cert.algebraic_Kernel4Ideal_Reference4Ideal := by
  intro m ρ m' ρ' _ hagree
  refine ⟨fun c => whole m c, ?_, ?_⟩
  · exact (θ_run Cert.Kernel4Ideal.defs _ _).mono
      (fun _ h c => ⟨((h.1 c).1 4).trans (final m c), ((h.1 c).1 0).trans (((dats m 0 c).arrAt_in 0 rfl _).trans (A_eq m c 0)),
        ((h.1 c).1 2).trans (((dats m 0 c).arrAt_in 2 rfl _).trans (A_eq m c 2)),
        (h.1 c).2 main_arg2 (Pipeline.mem_restRefs_of main_arg2 (by decide) (by decide)),
        (h.1 c).2 main_arg3 (Pipeline.mem_restRefs_of main_arg3 (by decide) (by decide)),
        ((h.1 c).1 3).trans (((dats m 0 c).arrAt_in 3 rfl _).trans (A_eq m c 3))⟩) (run_main (F := Ideal) m ρ)
  · refine (θ_run Cert.Reference4Ideal.defs _ _).mono (fun _ h c => ⟨(h c).1.trans ?_, (h c).2⟩)
      (Cert.Reference4Ideal.Value.run (F := Ideal) m' ρ')
    rw [Cert.Reference4Ideal.Read.val_main_v32_eq, (hagree c).1, (hagree c).2.1, (hagree c).2.2.1, (hagree c).2.2.2.1, (hagree c).2.2.2.2]
    funext i
    exact ref_result _ _ _ _ _ i

end Cert.FfnFinal
end
-- ==== Proof.Keeps.lean ====
/- Programs that keep an assertion: what holds before a load, a store or a branch holds after it. -/
module

public import Idealize.ShloMosaic.Lib.Pipeline.FrameBody
public import Idealize.ShloMosaic.Lib.Tactic

@[expose] public section

noncomputable section

namespace Cert.Keeps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels} (defs : Defs nD τ sig Val Λ) (c : Thread nD τ)

local notation "𝕄" => MT nD τ sig Unit Val ℕ (UR sig nD τ) ℕ

/-- The program `p`, run where `P` holds, faults nowhere and ends where `P` holds. -/
class keeps {α : Type} (P : sProp 𝕄) (p : Prog (TpuEff nD τ sig Val Λ c.2) α) : Prop where
  run : P ⊢ wp frame (wpE defs Variants.none c none) Set.univ p (fun _ => P)

/-- `P` holds the buffer `m`, to be read. -/
class Has (P : sProp 𝕄) {cs : CoreSpace} {s : Shape} {e : EltTy} (m : Memref sig c.2.kind cs s e) : Prop where
  run : P ⊢ iprop(∃ d : s.Idx → Val e, owns c m fullShare d ∗ (owns c m fullShare d -∗ P))

/-- `P` holds the buffer `m` at any contents, to be written. -/
class Owns (P : sProp 𝕄) {cs : CoreSpace} {s : Shape} {e : EltTy} (m : Memref sig c.2.kind cs s e) : Prop where
  run : P ⊢ iprop((∃ d : s.Idx → Val e, owns c m fullShare d) ∗ ((∃ d : s.Idx → Val e, owns c m fullShare d) -∗ P))

variable {defs c}
variable {P Q : sProp (MT nD τ sig Unit Val ℕ (UR sig nD τ) ℕ)} {α β : Type} {cs : CoreSpace} {s : Shape} {e : EltTy} {m : Memref sig c.2.kind cs s e}

/-- A conjunction holds what either side holds. -/
instance Has.left (d : s.Idx → Val e) : Has c iprop(owns c m fullShare d ∗ Q) m := by
  constructor
  iintro ⟨H, HQ⟩
  iexists d
  isplitl [H]; · iexact H
  iintro H
  isplitl [H]; · iexact H
  iexact HQ

instance Has.right [h : Has c Q m] : Has c iprop(P ∗ Q) m := by
  constructor
  iintro ⟨HP, HQ⟩
  ihave HQ := h.run $$ HQ
  icases HQ with ⟨%d, H, HQ⟩
  iexists d
  isplitl [H]; · iexact H
  iintro H
  isplitl [HP]; · iexact HP
  iapply HQ; iexact H

instance Owns.left : Owns c iprop((∃ d : s.Idx → Val e, owns c m fullShare d) ∗ Q) m := by
  constructor
  iintro ⟨H, HQ⟩
  isplitl [H]; · iexact H
  iintro H
  isplitl [H]; · iexact H
  iexact HQ

instance Owns.right [h : Owns c Q m] : Owns c iprop(P ∗ Q) m := by
  constructor
  iintro ⟨HP, HQ⟩
  ihave HQ := h.run $$ HQ
  icases HQ with ⟨H, HQ⟩
  isplitl [H]; · iexact H
  iintro H
  isplitl [HP]; · iexact HP
  iapply HQ; iexact H

/-- What may be written may be read. -/
instance Owns.has [h : Owns c P m] : Has c P m := by
  constructor
  iintro HP
  ihave HP := h.run $$ HP
  icases HP with ⟨⟨%d, H⟩, HP⟩
  iexists d
  isplitl [H]; · iexact H
  iintro H
  iapply HP; iexists d; iexact H

/-- A value returned. -/
instance ret (a : α) : keeps defs c P (pure a) := by
  constructor
  rw [wp_pure]
  exact fupd_intro

/-- One program after another. -/
instance seq {p : Prog (TpuEff nD τ sig Val Λ c.2) α} {k : α → Prog (TpuEff nD τ sig Val Λ c.2) β}
    [hp : keeps defs c P p] [hk : ∀ a, keeps defs c P (k a)] : keeps defs c P (p >>= k) := by
  constructor
  rw [wp_bind]
  exact hp.run.trans (wp_mono frame _ _ fun a => (hk a).run)

theorem next {p : Prog (TpuEff nD τ sig Val Λ c.2) α} {k : α → Prog (TpuEff nD τ sig Val Λ c.2) β}
    (hp : keeps defs c P p) (hk : ∀ a, keeps defs c P (k a)) : keeps defs c P (p >>= k) := seq

/-- A branch. -/
instance branch {b : Prop} [Decidable b] {p q : Prog (TpuEff nD τ sig Val Λ c.2) α}
    [hp : keeps defs c P p] [hq : keeps defs c P q] : keeps (α := no_index _) defs c P (no_index (if b then p else q)) := by
  split <;> assumption

/-- A branch that knows its condition. -/
instance branch_dep {b : Prop} [Decidable b] {p : b → Prog (TpuEff nD τ sig Val Λ c.2) α} {q : ¬ b → Prog (TpuEff nD τ sig Val Λ c.2) α}
    [hp : ∀ h, keeps defs c P (p h)] [hq : ∀ h, keeps defs c P (q h)] : keeps (α := no_index _) defs c P (no_index (if h : b then p h else q h)) := by
  split
  · exact hp _
  · exact hq _

/-- A load. -/
instance load [h : Has c P m] {r : LoadRect s} {hl : m.view.LoadsAt r} : keeps (α := no_index _) defs c P (no_index (Prog.lift (.load m r hl))) := by
  constructor
  refine h.run.trans ?_
  unfold owns
  iintro ⟨%d, ⟨%f, %hf, H⟩, HP⟩
  iapply (wp_load Variants.none c none Set.univ (hl := hl) (k := .ret) (m.view.setOn_subset_set r.set)) $$ H
  iintro H
  iapply (le_wp_ret (Fr := frame)); iapply HP
  iexists f
  isplitr; · ipureintro; exact hf
  iexact H

/-- A store. -/
instance store [h : Owns c P m] {r : Rect s} {w : r.shape.Idx → Val e} {Mk : Finset r.shape.Idx} {hx : (m.access r).Stores Mk}
    {hm : Mk = Finset.univ ∨ ∀ a, r.stride a = 1} : keeps (α := no_index _) defs c P (no_index (Prog.lift (.store m r w Mk hx hm))) := by
  constructor
  refine h.run.trans ?_
  unfold owns
  iintro ⟨⟨%d, %f, -, H⟩, HP⟩
  iapply (wp_store Variants.none c none Set.univ (hx := hx) (hm := hm) (k := .ret) (m.setOn_access_subset r Mk)) $$ H
  iintro H
  iapply (le_wp_ret (Fr := frame)); iapply HP
  iexists _
  iexists _
  isplitr
  swap; · iexact H
  ipureintro; rfl

/-- A load of one word of scalar memory. -/
theorem word {m : Memref sig c.2.kind .smem s e} (h : Has c P m) {r : Rect s} {h1 : r.shape.numel = 1} {hp : e.packing = 1} :
    keeps (α := no_index _) defs c P (no_index (smemLoad m r h1 hp)) := by
  constructor
  refine h.run.trans ?_
  unfold owns
  iintro ⟨%d, ⟨%f, %hf, H⟩, HP⟩
  unfold smemLoad
  iapply (wp_smemLoadElt Variants.none c none Set.univ (k := .ret) (m.view.set_slice_subset r)) $$ H
  iintro H
  iapply (le_wp_ret (Fr := frame)); iapply HP
  iexists f
  isplitr; · ipureintro; exact hf
  iexact H

end Cert.Keeps

end
-- ==== Proof.MixIdealBody.lean ====
/- The mixing kernel's body faults nowhere where its buffers are held, and holds them after. -/
module

public import proofs.«01_k».proof.Proof.Keeps
public import proofs.«01_k».proof.Proof.Gen.Kernel5Ideal.Frame

@[expose] public section

set_option maxRecDepth 65536

noncomputable section

namespace Cert.Kernel5Ideal.Hand

open Cert.Kernel5Ideal Cert.Kernel5Ideal.Gen Cert.Keeps
open Idealize.ShloMosaic Idealize.ShloMosaic.TcCoe
open Idealize.SL Idealize.SL.RA Idealize.SL.BI Idealize.SL.Sem
open Idealize.ShloMosaic.Rounds

variable {F : FTy → Type} [FloatOps F]

variable {c : Dev nD} {P : sProp (MT nD τ sig Unit (Elt F) ℕ (UR sig nD τ) ℕ)}

set_option maxHeartbeats 0 in
/-- The body, with eleven blocks to read, the result's block and eleven scratches to write: a load, a store or a branch at a time. -/
theorem body (i : grid0.Coords) (arg1 : Memref sig .tc .vmem S512x1024 .f32) (harg1 : arg1.IsWhole) (arg2 : Memref sig .tc .vmem S1x4x128 .i32) (harg2 : arg2.IsWhole) (arg3 : Memref sig .tc .vmem S1x4x256 .i32) (harg3 : arg3.IsWhole) (arg4 : Memref sig .tc .vmem S1x4x128 .i32) (harg4 : arg4.IsWhole) (arg5 : Memref sig .tc .vmem S1x4x256 .i32) (harg5 : arg5.IsWhole) (arg6 : Memref sig .tc .vmem S16x32 .f32) (harg6 : arg6.IsWhole) (arg7 : Memref sig .tc .smem S16 .f32) (harg7 : arg7.IsWhole) (arg8 : Memref sig .tc .vmem S1x1024 .f32) (harg8 : arg8.IsWhole) (arg9 : Memref sig .tc .vmem S1024x6656 .f32) (harg9 : arg9.IsWhole) (arg10 : Memref sig .tc .vmem S3x1024 .f32) (harg10 : arg10.IsWhole) (arg11 : Memref sig .tc .vmem S1024x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S4x640x128 .bf16) (harg14 : arg14.IsWhole) (arg15 : Memref sig .tc .vmem S4x640x128 .bf16) (harg15 : arg15.IsWhole) (arg16 : Memref sig .tc .vmem S4x5x128x128 .bf16) (harg16 : arg16.IsWhole) (arg17 : Memref sig .tc .vmem S4x5x128x128 .bf16) (harg17 : arg17.IsWhole) (arg18 : Memref sig .tc .vmem S520x1024 .f32) (harg18 : arg18.IsWhole) (arg19 : Memref sig .tc .vmem S512x1024 .bf16) (harg19 : arg19.IsWhole) (arg20 : Memref sig .tc .vmem S5x256x128 .i32) (harg20 : arg20.IsWhole) (arg21 : Memref sig .tc .vmem S4x256x128 .i32) (harg21 : arg21.IsWhole) (arg22 : Memref sig .tc .vmem S5x16x256x128 .f32) (harg22 : arg22.IsWhole) (arg23 : Memref sig .tc .vmem S16x128 .f32) (harg23 : arg23.IsWhole)
    [r1 : Has (c : Thread nD τ) P arg1] [r2 : Has (c : Thread nD τ) P arg2] [r3 : Has (c : Thread nD τ) P arg3] [r4 : Has (c : Thread nD τ) P arg4] [r5 : Has (c : Thread nD τ) P arg5] [r6 : Has (c : Thread nD τ) P arg6] [r7 : Has (c : Thread nD τ) P arg7] [r8 : Has (c : Thread nD τ) P arg8] [r9 : Has (c : Thread nD τ) P arg9] [r10 : Has (c : Thread nD τ) P arg10] [r11 : Has (c : Thread nD τ) P arg11] [r12 : Owns (c : Thread nD τ) P arg12] [r13 : Owns (c : Thread nD τ) P arg13] [r14 : Owns (c : Thread nD τ) P arg14] [r15 : Owns (c : Thread nD τ) P arg15] [r16 : Owns (c : Thread nD τ) P arg16] [r17 : Owns (c : Thread nD τ) P arg17] [r18 : Owns (c : Thread nD τ) P arg18] [r19 : Owns (c : Thread nD τ) P arg19] [r20 : Owns (c : Thread nD τ) P arg20] [r21 : Owns (c : Thread nD τ) P arg21] [r22 : Owns (c : Thread nD τ) P arg22] [r23 : Owns (c : Thread nD τ) P arg23] :
    keeps defs₀ (c : Thread nD τ) P (cc0_mix (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  have table : ∀ {r : Rect S16} {h1 : r.shape.numel = 1} {hp : EltTy.packing .f32 = 1}, keeps (defs₀ (F := F)) (c : Thread nD τ) P (smemLoad arg7 r h1 hp) :=
    word (c := (c : Thread nD τ)) r7
  repeat' (first | exact table | refine next ?_ fun _ => ?_ | infer_instance | exact ret _ | split | (dsimp only; split) | unfold k0_part66 | unfold k0_part67)

end Cert.Kernel5Ideal.Hand

end
-- ==== Proof.MixIdealFrame.lean ====
/- The mixing call, with the preparation before it, terminates, faults nowhere and leaves its arguments. -/
module

public import proofs.«01_k».proof.Proof.MixIdealBody
public import proofs.«01_k».proof.Proof.Gen.Kernel5Ideal.Launch
public import proofs.«01_k».proof.Proof.Gen.Kernel5Ideal.Points
public import Idealize.ShloMosaic.Lib.Claim

@[expose] public section

set_option maxRecDepth 16384

noncomputable section

namespace Cert.Kernel5Ideal.Hand

open Cert.Kernel5Ideal Cert.Kernel5Ideal.Gen Cert.Keeps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window: nothing is said of what a point leaves there. -/
def forgets0 : Fin 12 → Bool := fun w => w = 11

/-- The proof data of the call on core `c`: every block read is left as it was; the scratches hold anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) 11 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (fun _ => by dsimp only [dats]) t d
theorem before0_1 (c : Dev nD) (t : Fin cfg0.N) (d) : (dats m 0 c).before 1 t d = iblk m c 1 t :=
  before0_1_of m (dats m 0 c) (A_eq m c 1) (fun _ => by dsimp only [dats]) t d
theorem before0_2 (c : Dev nD) (t : Fin cfg0.N) (d) : (dats m 0 c).before 2 t d = iblk m c 2 t :=
  before0_2_of m (dats m 0 c) (A_eq m c 2) (fun _ => by dsimp only [dats]) t d
theorem before0_3 (c : Dev nD) (t : Fin cfg0.N) (d) : (dats m 0 c).before 3 t d = iblk m c 3 t :=
  before0_3_of m (dats m 0 c) (A_eq m c 3) (fun _ => by dsimp only [dats]) t d
theorem before0_4 (c : Dev nD) (t : Fin cfg0.N) (d) : (dats m 0 c).before 4 t d = iblk m c 4 t :=
  before0_4_of m (dats m 0 c) (A_eq m c 4) (fun _ => by dsimp only [dats]) t d
theorem before0_5 (c : Dev nD) (t : Fin cfg0.N) (d) : (dats m 0 c).before 5 t d = iblk m c 5 t :=
  before0_5_of m (dats m 0 c) (A_eq m c 5) (fun _ => by dsimp only [dats]) t d
theorem before0_6 (c : Dev nD) (t : Fin cfg0.N) (d) : (dats m 0 c).before 6 t d = iblk m c 6 t :=
  before0_6_of m (dats m 0 c) (A_eq m c 6) (fun _ => by dsimp only [dats]) t d
theorem before0_7 (c : Dev nD) (t : Fin cfg0.N) (d) : (dats m 0 c).before 7 t d = iblk m c 7 t :=
  before0_7_of m (dats m 0 c) (A_eq m c 7) (fun _ => by dsimp only [dats]) t d
theorem before0_8 (c : Dev nD) (t : Fin cfg0.N) (d) : (dats m 0 c).before 8 t d = iblk m c 8 t :=
  before0_8_of m (dats m 0 c) (A_eq m c 8) (fun _ => by dsimp only [dats]) t d
theorem before0_9 (c : Dev nD) (t : Fin cfg0.N) (d) : (dats m 0 c).before 9 t d = iblk m c 9 t :=
  before0_9_of m (dats m 0 c) (A_eq m c 9) (fun _ => by dsimp only [dats]) t d
theorem before0_10 (c : Dev nD) (t : Fin cfg0.N) (d) : (dats m 0 c).before 10 t d = iblk m c 10 t :=
  before0_10_of m (dats m 0 c) (A_eq m c 10) (fun _ => by dsimp only [dats]) t d

/-- The scratches at any contents and the generator's register at any state. -/
theorem rest_list (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ ∃ r, prngReg c r) := by
  unfold Pipeline.ΦA; rw [scopedRest0_eq]; simp only [owns_whole]

/-- What the body runs under at a point: its blocks, the result's block and the scratches at any contents, and a rest `R`. -/
def during (c : Dev nD) (t : Fin cfg0.N) (R : sProp 𝕄) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ (∃ d, owns (c : Thread nD τ) (st0_11 t) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ R)

/-- The body at a point holds all that throughout. -/
theorem run_body (c : Dev nD) (t : Fin cfg0.N) (R : sProp 𝕄) : keeps defs₀ (c : Thread nD τ) (during m c t R) (bodyAt0 (F := F) t) := by
  unfold during
  exact body ..

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare d))
/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ d, owns (c : Thread nD τ) (st0_11 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  have hΦ : ∀ n, (dats m 0 c).Φ n = Pipeline.ΦA spec0 c := fun _ => rfl
  have hin : bodyPre m c t ⊢ during m c t iprop((∃ r, prngReg c r) ∗ (dats m 0 c).owesAt () t.castSucc) := by
    unfold bodyPre during
    rw [hΦ, rest_list]
    simp only [before0_0, before0_1, before0_2, before0_3, before0_4, before0_5, before0_6, before0_7, before0_8, before0_9, before0_10]
    iintro ⟨⟨⟨S0, S1, S2, S3, S4, S5, S6, S7, S8, S9, S10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Hg]; · iexact Hg
    iexact Ho
  have hout : during m c t iprop((∃ r, prngReg c r) ∗ (dats m 0 c).owesAt () t.castSucc) ⊢ bodyPost m c t := by
    unfold bodyPost during
    rw [hΦ, rest_list, show (dats m 0 c).owesAt () t.succ = (dats m 0 c).owesAt () t.castSucc from rfl]
    rw [after0_0, after0_1, after0_2, after0_3, after0_4, after0_5, after0_6, after0_7, after0_8, after0_9, after0_10]
    iintro ⟨H0, H1, H2, H3, H4, H5, H6, H7, H8, H9, H10, H11, S0, S1, S2, S3, S4, S5, S6, S7, S8, S9, S10, Hg, Ho⟩
    isplitl [S0 S1 S2 S3 S4 S5 S6 S7 S8 S9 S10 Hg]
    · isplitl [S0 S1 S2 S3 S4 S5 S6 S7 S8 S9 S10]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexact S10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  exact hin.trans ((run_body m c t _).run.trans (wp_mono frame _ _ fun _ => hout))

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl) (howed := fun _ _ => rfl)
    (V := V m) (hmain := hmain m Variants.none) (hA := A_eq m) (hΦ := fun _ _ => rfl)

/-- The frame: the call terminates without fault, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.Kernel5Ideal.Hand

end
-- ==== Proof.lean ====
/- The claims of this certificate, each from the module that proves it. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Skeleton
public import proofs.«01_k».proof.Proof.Gen.Kernel3.Points
public import proofs.«01_k».proof.Proof.Gen.Kernel3Ideal.Skeleton
public import proofs.«01_k».proof.Proof.Gen.Kernel3Ideal.Points
public import proofs.«01_k».proof.Proof.Gen.Kernel3.Launch
public import proofs.«01_k».proof.Proof.Gen.Kernel3Ideal.Launch
public import proofs.«01_k».proof.Proof.Gen.Reference3Ideal.Run
public import proofs.«01_k».proof.Proof.Gen.Reference3Ideal.Read
public import proofs.«01_k».proof.Proof.Gen.Kernel4.Skeleton
public import proofs.«01_k».proof.Proof.Gen.Kernel4.Points
public import proofs.«01_k».proof.Proof.Gen.Kernel4Ideal.Skeleton
public import proofs.«01_k».proof.Proof.Gen.Kernel4Ideal.Points
public import proofs.«01_k».proof.Proof.Gen.Kernel4.Launch
public import proofs.«01_k».proof.Proof.Gen.Kernel4Ideal.Launch
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Rows
public import proofs.«01_k».proof.Proof.Xattn
public import proofs.«01_k».proof.Proof.XattnValue
public import proofs.«01_k».proof.Proof.MemProj
public import proofs.«01_k».proof.Proof.MemProjValue
public import proofs.«01_k».proof.Proof.Swiglu
public import proofs.«01_k».proof.Proof.FfnFirst
public import proofs.«01_k».proof.Proof.FfnFrame
public import proofs.«01_k».proof.Proof.FfnIdealFirst
public import proofs.«01_k».proof.Proof.FfnIdealFrame
public import proofs.«01_k».proof.Proof.FfnIdealLater
public import proofs.«01_k».proof.Proof.FfnIdealRows
public import proofs.«01_k».proof.Proof.FfnIdealStep
public import proofs.«01_k».proof.Proof.FfnIdealTile
public import proofs.«01_k».proof.Proof.FfnIdealVals
public import proofs.«01_k».proof.Proof.FfnIdealValue
public import proofs.«01_k».proof.Proof.FfnLater
public import proofs.«01_k».proof.Proof.FfnStep
public import proofs.«01_k».proof.Proof.FfnTile
public import proofs.«01_k».proof.Proof.FfnVals
public import proofs.«01_k».proof.Proof.FinalFirst
public import proofs.«01_k».proof.Proof.FinalFrame
public import proofs.«01_k».proof.Proof.FinalIdealFirst
public import proofs.«01_k».proof.Proof.FinalIdealFrame
public import proofs.«01_k».proof.Proof.FinalIdealLater
public import proofs.«01_k».proof.Proof.FinalIdealRows
public import proofs.«01_k».proof.Proof.FinalIdealStep
public import proofs.«01_k».proof.Proof.FinalIdealTile
public import proofs.«01_k».proof.Proof.FinalIdealVals
public import proofs.«01_k».proof.Proof.FinalIdealValue
public import proofs.«01_k».proof.Proof.FinalLater
public import proofs.«01_k».proof.Proof.FinalStep
public import proofs.«01_k».proof.Proof.FinalTile
public import proofs.«01_k».proof.Proof.FinalVals
public import proofs.«01_k».proof.Proof.MixFrame
public import proofs.«01_k».proof.Proof.MixIdealFrame
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of call 1 runs, leaves its arguments and declares no semaphore. -/
theorem reference1 : Cert.quiescent_ReferenceIdeal := fun m ρ _ =>
  (θ_run Cert.ReferenceIdeal.defs _ _).mono (fun r h => ⟨fun c => ⟨(h c).2.1, (h c).2.2.1, (h c).2.2.2.1, (h c).2.2.2.2⟩,
      Idealize.ShloMosaic.sem_eq_zero_of_no_sems (by decide) r.2⟩)
    (Cert.ReferenceIdeal.Value.run (F := Ideal) m ρ)

/-- The reference of call 2 runs, leaves its arguments and declares no semaphore. -/
theorem reference2 : Cert.quiescent_Reference2Ideal := fun m ρ _ =>
  (θ_run Cert.Reference2Ideal.defs _ _).mono (fun r h => ⟨fun c => ⟨(h c).2.2.1, (h c).2.2.2.1, (h c).2.2.2.2.1, (h c).2.2.2.2.2.1, (h c).2.2.2.2.2.2⟩,
      Idealize.ShloMosaic.sem_eq_zero_of_no_sems (by decide) r.2⟩)
    (Cert.Reference2Ideal.Value.run (F := Ideal) m ρ)

/-- The reference of call 3 runs, leaves its arguments and declares no semaphore. -/
theorem reference3 : Cert.quiescent_Reference3Ideal := fun m ρ _ =>
  (θ_run Cert.Reference3Ideal.defs _ _).mono (fun r h => ⟨fun c => ⟨(h c).2.1, (h c).2.2.1, (h c).2.2.2.1, (h c).2.2.2.2.1, (h c).2.2.2.2.2⟩,
      Idealize.ShloMosaic.sem_eq_zero_of_no_sems (by decide) r.2⟩)
    (Cert.Reference3Ideal.Value.run (F := Ideal) m ρ)

/-- The reference of call 4 runs, leaves its arguments and declares no semaphore. -/
theorem reference4 : Cert.quiescent_Reference4Ideal := fun m ρ _ =>
  (θ_run Cert.Reference4Ideal.defs _ _).mono (fun r h => ⟨fun c => ⟨(h c).2.1, (h c).2.2.1, (h c).2.2.2.1, (h c).2.2.2.2.1, (h c).2.2.2.2.2⟩,
      Idealize.ShloMosaic.sem_eq_zero_of_no_sems (by decide) r.2⟩)
    (Cert.Reference4Ideal.Value.run (F := Ideal) m ρ)

/-- All claims together. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    fun m ρ _ => Cert.Kernel.Gen.frame m ρ,
    fun m ρ _ => Cert.KernelIdeal.Gen.frame m ρ,
    reference1,
    fun m ρ _ => Cert.Kernel2.Gen.frame m ρ,
    fun m ρ _ => Cert.Kernel2Ideal.Gen.frame m ρ,
    reference2,
    fun m ρ _ => Cert.Kernel3.Hand.frame m ρ,
    fun m ρ _ => Cert.Kernel3Ideal.Hand.frame m ρ,
    reference3,
    fun m ρ _ => Cert.Kernel4.Hand.frame m ρ,
    fun m ρ _ => Cert.Kernel4Ideal.Hand.frame m ρ,
    reference4,
    fun m ρ _ => Cert.Kernel5.Hand.frame m ρ,
    fun m ρ _ => Cert.Kernel5Ideal.Hand.frame m ρ,
    trivial,
    Cert.Xattn.algebraic,
    trivial,
    Cert.MemProj.algebraic,
    trivial,
    Cert.Ffn.algebraic,
    trivial,
    Cert.FfnFinal.algebraic,
    trivial⟩

end Cert.Proof

end
